-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2176x1024 : Shape := ⟨2, ![2176, 1024]⟩
abbrev S2176x128 : Shape := ⟨2, ![2176, 128]⟩
abbrev S128x2176 : Shape := ⟨2, ![128, 2176]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S2176x128 : S_.BroadcastsInDim S2176x128 (![] : Fin 0 → Fin S2176x128.rank)
  reducesTo_S2176x128_S_d0_1 : S2176x128.ReducesTo [0, 1] S_
  bcast_S_S128x2176 : S_.BroadcastsInDim S128x2176 (![] : Fin 0 → Fin S128x2176.rank)
  reducesTo_S128x2176_S_d0_1 : S128x2176.ReducesTo [0, 1] S_

variable [Facts]

def fn_part1 {F : FTy → Type} [FloatOps F] (main_arg4 : FVec F S128x2176 .f32) (main_arg5 : FVec F S2176x1024 .f32) (main_v4 : IVec S_ 1) (main_v9 : IVec S_ 1) (main_v14 : IVec S_ 1) (main_v15 : FVec F S2176x128 .f32) (main_v16 : FVec F S2176x128 .f32) : IVec S_ 1 :=
  let main_v17 : IVec S2176x128 1 := cmpf .olt main_v15 main_v16
  let main_c_5 : IVec S_ 1 := constantI S_ 1 1#1
  let main_v18 : IVec S_ 1 := (fun x v => Host.reduce IntOp.andi x v reducesTo_S2176x128_S_d0_1 h_S_) main_v17 main_c_5
  let main_v19 : FVec F S128x2176 .f32 := Host.absf main_arg4
  let main_cst_6 : FVec F S_ .f32 := constant S_ .f32 0x7F800000#32
  let main_v20 : FVec F S128x2176 .f32 := broadcastInDim S128x2176 ![] bcast_S_S128x2176 main_cst_6
  let main_v21 : IVec S128x2176 1 := cmpf .olt main_v19 main_v20
  let main_c_7 : IVec S_ 1 := constantI S_ 1 1#1
  let main_v22 : IVec S_ 1 := (fun x v => Host.reduce IntOp.andi x v reducesTo_S128x2176_S_d0_1 h_S_) main_v21 main_c_7
  let main_v23 : FVec F S2176x1024 .f32 := Host.absf main_arg5
  let main_cst_8 : FVec F S_ .f32 := constant S_ .f32 0x7F800000#32
  let main_v24 : FVec F S2176x1024 .f32 := broadcastInDim S2176x1024 ![] bcast_S_S2176x1024 main_cst_8
  let main_v25 : IVec S2176x1024 1 := cmpf .olt main_v23 main_v24
  let main_c_9 : IVec S_ 1 := constantI S_ 1 1#1
  let main_v26 : IVec S_ 1 := (fun x v => Host.reduce IntOp.andi x v reducesTo_S2176x1024_S_d0_1 h_S_) main_v25 main_c_9
  let main_v27 : IVec S_ 1 := andi main_v4 main_v9
  let main_v28 : IVec S_ 1 := andi main_v27 main_v14
  let main_v29 : IVec S_ 1 := andi main_v28 main_v18
  let main_v30 : IVec S_ 1 := andi main_v29 main_v22
  let main_v31 : IVec S_ 1 := andi main_v30 main_v26
  main_v31

def fn {F : FTy → Type} [FloatOps F] (main_arg0 : FVec F S2176x1024 .bf16) (main_arg1 : FVec F S2176x1024 .bf16) (main_arg2 : FVec F S2176x1024 .bf16) (main_arg3 : FVec F S2176x128 .f32) (main_arg4 : FVec F S128x2176 .f32) (main_arg5 : FVec F S2176x1024 .f32) : IVec S_ 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S2176x1024 .f32 := (extf .f32 · bitsLt_bf16_f32) main_arg1
  let main_v6 : FVec F S2176x1024 .f32 := Host.absf main_v5
  let main_cst_0 : FVec F S_ .f32 := constant S_ .f32 0x7F800000#32
  let main_v7 : FVec F S2176x1024 .f32 := broadcastInDim S2176x1024 ![] bcast_S_S2176x1024 main_cst_0
  let main_v8 : IVec S2176x1024 1 := cmpf .olt main_v6 main_v7
  let main_c_1 : IVec S_ 1 := constantI S_ 1 1#1
  let main_v9 : IVec S_ 1 := (fun x v => Host.reduce IntOp.andi x v reducesTo_S2176x1024_S_d0_1 h_S_) main_v8 main_c_1
  let main_v10 : FVec F S2176x1024 .f32 := (extf .f32 · bitsLt_bf16_f32) main_arg2
  let main_v11 : FVec F S2176x1024 .f32 := Host.absf main_v10
  let main_cst_2 : FVec F S_ .f32 := constant S_ .f32 0x7F800000#32
  let main_v12 : FVec F S2176x1024 .f32 := broadcastInDim S2176x1024 ![] bcast_S_S2176x1024 main_cst_2
  let main_v13 : IVec S2176x1024 1 := cmpf .olt main_v11 main_v12
  let main_c_3 : IVec S_ 1 := constantI S_ 1 1#1
  let main_v14 : IVec S_ 1 := (fun x v => Host.reduce IntOp.andi x v reducesTo_S2176x1024_S_d0_1 h_S_) main_v13 main_c_3
  let main_v15 : FVec F S2176x128 .f32 := Host.absf main_arg3
  let main_cst_4 : FVec F S_ .f32 := constant S_ .f32 0x7F800000#32
  let main_v16 : FVec F S2176x128 .f32 := broadcastInDim S2176x128 ![] bcast_S_S2176x128 main_cst_4
  fn_part1 (F := F) main_arg4 main_arg5 main_v4 main_v9 main_v14 main_v15 main_v16
-- ==== Kernel.lean ====
abbrev S2176x1024 : Shape := ⟨2, ![2176, 1024]⟩
abbrev S2176x128 : Shape := ⟨2, ![2176, 128]⟩
abbrev S128x2176 : Shape := ⟨2, ![128, 2176]⟩
abbrev S2176x16x64 : Shape := ⟨3, ![2176, 16, 64]⟩
abbrev S2064x16x64 : Shape := ⟨3, ![2064, 16, 64]⟩
abbrev S16x2064x2064 : Shape := ⟨3, ![16, 2064, 2064]⟩
abbrev S2176x8x16 : Shape := ⟨3, ![2176, 8, 16]⟩
abbrev S2176x8x2 : Shape := ⟨3, ![2176, 8, 2]⟩
abbrev S2176x16 : Shape := ⟨2, ![2176, 16]⟩
abbrev S2064x16 : Shape := ⟨2, ![2064, 16]⟩
abbrev S16x2064 : Shape := ⟨2, ![16, 2064]⟩
abbrev S16x2064x1 : Shape := ⟨3, ![16, 2064, 1]⟩
abbrev S16x1x2064 : Shape := ⟨3, ![16, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S_ : Shape := ⟨0, ![]⟩
abbrev S16x64x2064 : Shape := ⟨3, ![16, 64, 2064]⟩
abbrev S2064x16x1 : Shape := ⟨3, ![2064, 16, 1]⟩
abbrev S2064x1024 : Shape := ⟨2, ![2064, 1024]⟩
abbrev S128x128 : Shape := ⟨2, ![128, 128]⟩
abbrev S16x128 : Shape := ⟨2, ![16, 128]⟩
abbrev S4x1088x128 : Shape := ⟨3, ![4, 1088, 128]⟩
abbrev S544x128 : Shape := ⟨2, ![544, 128]⟩
abbrev S544 : Shape := ⟨1, ![544]⟩
abbrev S544x1 : Shape := ⟨2, ![544, 1]⟩
abbrev S1x544x128 : Shape := ⟨3, ![1, 544, 128]⟩
abbrev S1x128 : Shape := ⟨2, ![1, 128]⟩
abbrev S1088x128 : Shape := ⟨2, ![1088, 128]⟩
abbrev S1x1088x128 : Shape := ⟨3, ![1, 1088, 128]⟩
abbrev S128 : Shape := ⟨1, ![128]⟩

abbrev nBuf : Space → Nat
  | .hbm => 74
  | .vmem => 28
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x1024, .bf16⟩
  | .hbm, ⟨3, _⟩ => ⟨S2176x128, .f32⟩
  | .hbm, ⟨4, _⟩ => ⟨S128x2176, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S2176x16x64, .f32⟩
  | .hbm, ⟨9, _⟩ => ⟨S2064x16x64, .f32⟩
  | .hbm, ⟨10, _⟩ => ⟨S2176x16x64, .f32⟩
  | .hbm, ⟨11, _⟩ => ⟨S2064x16x64, .f32⟩
  | .hbm, ⟨12, _⟩ => ⟨S16x2064x2064, .f32⟩
  | .hbm, ⟨13, _⟩ => ⟨S2176x8x16, .f32⟩
  | .hbm, ⟨14, _⟩ => ⟨S2176x8x2, .f32⟩
  | .hbm, ⟨15, _⟩ => ⟨S2176x16, .f32⟩
  | .hbm, ⟨16, _⟩ => ⟨S2064x16, .f32⟩
  | .hbm, ⟨17, _⟩ => ⟨S16x2064, .f32⟩
  | .hbm, ⟨18, _⟩ => ⟨S16x2064x1, .f32⟩
  | .hbm, ⟨19, _⟩ => ⟨S16x2064x2064, .f32⟩
  | .hbm, ⟨20, _⟩ => ⟨S16x2064x2064, .f32⟩
  | .hbm, ⟨21, _⟩ => ⟨S2176x128, .f32⟩
  | .hbm, ⟨22, _⟩ => ⟨S2176x8x16, .f32⟩
  | .hbm, ⟨23, _⟩ => ⟨S2176x8x2, .f32⟩
  | .hbm, ⟨24, _⟩ => ⟨S2176x16, .f32⟩
  | .hbm, ⟨25, _⟩ => ⟨S2064x16, .f32⟩
  | .hbm, ⟨26, _⟩ => ⟨S16x2064, .f32⟩
  | .hbm, ⟨27, _⟩ => ⟨S16x1x2064, .f32⟩
  | .hbm, ⟨28, _⟩ => ⟨S16x2064x2064, .f32⟩
  | .hbm, ⟨29, _⟩ => ⟨S16x2064x2064, .f32⟩
  | .hbm, ⟨30, _⟩ => ⟨S2064, .i32⟩
  | .hbm, ⟨31, _⟩ => ⟨S1x2064, .i32⟩
  | .hbm, ⟨32, _⟩ => ⟨S2064x1, .i32⟩
  | .hbm, ⟨33, _⟩ => ⟨S2064x2064, .i32⟩
  | .hbm, ⟨34, _⟩ => ⟨S2064x2064, .i32⟩
  | .hbm, ⟨35, _⟩ => ⟨S2064x2064, .i1⟩
  | .hbm, ⟨36, _⟩ => ⟨S_, .f32⟩
  | .hbm, ⟨37, _⟩ => ⟨S_, .f32⟩
  | .hbm, ⟨38, _⟩ => ⟨S16x2064x2064, .i1⟩
  | .hbm, ⟨39, _⟩ => ⟨S16x2064x2064, .f32⟩
  | .hbm, ⟨40, _⟩ => ⟨S16x2064x2064, .f32⟩
  | .hbm, ⟨41, _⟩ => ⟨S_, .f32⟩
  | .hbm, ⟨42, _⟩ => ⟨S16x2064, .f32⟩
  | .hbm, ⟨43, _⟩ => ⟨S16x2064x1, .f32⟩
  | .hbm, ⟨44, _⟩ => ⟨S16x2064x2064, .f32⟩
  | .hbm, ⟨45, _⟩ => ⟨S16x2064x2064, .f32⟩
  | .hbm, ⟨46, _⟩ => ⟨S16x2064x2064, .f32⟩
  | .hbm, ⟨47, _⟩ => ⟨S_, .f32⟩
  | .hbm, ⟨48, _⟩ => ⟨S16x2064, .f32⟩
  | .hbm, ⟨49, _⟩ => ⟨S16x2064x1, .f32⟩
  | .hbm, ⟨50, _⟩ => ⟨S16x2064x2064, .f32⟩
  | .hbm, ⟨51, _⟩ => ⟨S16x2064x2064, .f32⟩
  | .hbm, ⟨52, _⟩ => ⟨S2176x1024, .f32⟩
  | .hbm, ⟨53, _⟩ => ⟨S2176x16x64, .f32⟩
  | .hbm, ⟨54, _⟩ => ⟨S2064x16x64, .f32⟩
  | .hbm, ⟨55, _⟩ => ⟨S16x64x2064, .f32⟩
  | .hbm, ⟨56, _⟩ => ⟨S2064x16x64, .f32⟩
  | .hbm, ⟨57, _⟩ => ⟨S16x2064x1, .f32⟩
  | .hbm, ⟨58, _⟩ => ⟨S16x2064x1, .f32⟩
  | .hbm, ⟨59, _⟩ => ⟨S2064x16x1, .f32⟩
  | .hbm, ⟨60, _⟩ => ⟨S2064x16x64, .f32⟩
  | .hbm, ⟨61, _⟩ => ⟨S2064x1024, .f32⟩
  | .hbm, ⟨62, _⟩ => ⟨S_, .i32⟩
  | .hbm, ⟨63, _⟩ => ⟨S_, .f32⟩
  | .hbm, ⟨64, _⟩ => ⟨S2176x1024, .f32⟩
  | .hbm, ⟨65, _⟩ => ⟨S2064x1024, .f32⟩
  | .hbm, ⟨66, _⟩ => ⟨S_, .i32⟩
  | .hbm, ⟨67, _⟩ => ⟨S_, .f32⟩
  | .hbm, ⟨68, _⟩ => ⟨S2176x1024, .f32⟩
  | .hbm, ⟨69, _⟩ => ⟨S2176x1024, .f32⟩
  | .hbm, ⟨70, _⟩ => ⟨S2176x1024, .f32⟩
  | .hbm, ⟨71, _⟩ => ⟨S2176x1024, .f32⟩
  | .hbm, ⟨72, _⟩ => ⟨S128x2176, .f32⟩
  | .hbm, ⟨73, _⟩ => ⟨S2176x128, .f32⟩
  | .local _ .vmem, ⟨0, _⟩ => ⟨S2176x128, .bf16⟩
  | .local _ .vmem, ⟨1, _⟩ => ⟨S2176x128, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S2176x128, .f32⟩
  | .local _ .vmem, ⟨7, _⟩ => ⟨S16x128, .f32⟩
  | .local _ .vmem, ⟨8, _⟩ => ⟨S16x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S2176x128, .f32⟩
  | .local _ .vmem, ⟨13, _⟩ => ⟨S2176x128, .f32⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S16x128, .f32⟩
  | .local _ .vmem, ⟨22, _⟩ => ⟨S16x128, .f32⟩
  | .local _ .vmem, ⟨23, _⟩ => ⟨S2176x128, .f32⟩
  | .local _ .vmem, ⟨24, _⟩ => ⟨S4x1088x128, .f32⟩
  | .local _ .vmem, ⟨25, _⟩ => ⟨S4x1088x128, .f32⟩
  | .local _ .vmem, ⟨26, _⟩ => ⟨S4x1088x128, .f32⟩
  | .local _ .vmem, ⟨27, _⟩ => ⟨S4x1088x128, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c : Ref sig .tc := ⟨.hbm, 62, rfl⟩
abbrev main_call1_v0 : Ref sig .tc := ⟨.hbm, 63, rfl⟩
abbrev main_v50 : Ref sig .tc := ⟨.hbm, 64, rfl⟩
abbrev main_v51 : Ref sig .tc := ⟨.hbm, 65, rfl⟩
abbrev main_c_2 : Ref sig .tc := ⟨.hbm, 66, rfl⟩
abbrev main_call2_v0 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev main_v53_2 : Ref sig .tc := ⟨.hbm, 71, rfl⟩
abbrev main_v53_3 : Ref sig .tc := ⟨.hbm, 72, rfl⟩
abbrev main_v53_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 17], ![false, false]⟩

@[reducible] def k0_t1_loop (i : grid0.Coords) : Scf.Loop 32 :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c4_i32 : BitVec 32 := 4#32
  let v53 : BitVec 32 := Scalar.subi c4_i32 v52
  let c1_i32_22 : BitVec 32 := 1#32
  let v55 : BitVec 32 := Scalar.divsi v53 c1_i32_22
  let v56 : BitVec 32 := Scalar.muli v55 c1_i32_22
  let v57 : BitVec 32 := Scalar.addi v52 v56
  let c1_i32_23 : BitVec 32 := 1#32
  ⟨v52, v57, c1_i32_23⟩
def k0_mult1 (i : grid0.Coords) (k0_t1 : Fin (k0_t1_loop i).trips) : BitVec 32 :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c1_i32_23 : BitVec 32 := 1#32
  let arg19 : BitVec 32 := Scf.iv v52 c1_i32_23 k0_t1
  let c544_i32_37 : BitVec 32 := 544#32
  let v69 : BitVec 32 := Scalar.muli arg19 c544_i32_37
  v69
def k0_off1 (i : grid0.Coords) (k0_t1 : Fin (k0_t1_loop i).trips) : Fin 2 → Nat :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c1_i32_23 : BitVec 32 := 1#32
  let arg19 : BitVec 32 := Scf.iv v52 c1_i32_23 k0_t1
  let c544_i32_37 : BitVec 32 := 544#32
  let v69 : BitVec 32 := Scalar.muli arg19 c544_i32_37
  let v70 : BitVec 32 := v69
  let v71 : Index := Scalar.indexCast v70
  let c0_38 : Index := 0#32
  ![v71.toNat, 0]
def k0_off2 (i : grid0.Coords) (k0_t1 : Fin (k0_t1_loop i).trips) : Fin 3 → Nat :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c1_i32_23 : BitVec 32 := 1#32
  let arg19 : BitVec 32 := Scf.iv v52 c1_i32_23 k0_t1
  let v94 : Index := Scalar.indexCast arg19
  let c0_46 : Index := 0#32
  let c0_47 : Index := 0#32
  ![v94.toNat, 0, 0]
@[reducible] def k0_t2_loop (i : grid0.Coords) : Scf.Loop 32 :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c4_i32 : BitVec 32 := 4#32
  let v53 : BitVec 32 := Scalar.subi c4_i32 v52
  let c1_i32_22 : BitVec 32 := 1#32
  let v55 : BitVec 32 := Scalar.divsi v53 c1_i32_22
  let v56 : BitVec 32 := Scalar.muli v55 c1_i32_22
  let v57 : BitVec 32 := Scalar.addi v52 v56
  let v54 : BitVec 32 := Scalar.addi v52 v53
  let c1_i32_24 : BitVec 32 := 1#32
  ⟨v57, v54, c1_i32_24⟩
def k0_mult2 (i : grid0.Coords) (k0_t2 : Fin (k0_t2_loop i).trips) : BitVec 32 :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c4_i32 : BitVec 32 := 4#32
  let v53 : BitVec 32 := Scalar.subi c4_i32 v52
  let c1_i32_22 : BitVec 32 := 1#32
  let v55 : BitVec 32 := Scalar.divsi v53 c1_i32_22
  let v56 : BitVec 32 := Scalar.muli v55 c1_i32_22
  let v57 : BitVec 32 := Scalar.addi v52 v56
  let c1_i32_24 : BitVec 32 := 1#32
  let arg19 : BitVec 32 := Scf.iv v57 c1_i32_24 k0_t2
  let c544_i32_37 : BitVec 32 := 544#32
  let v69 : BitVec 32 := Scalar.muli arg19 c544_i32_37
  v69
def k0_off3 (i : grid0.Coords) (k0_t2 : Fin (k0_t2_loop i).trips) : Fin 2 → Nat :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c4_i32 : BitVec 32 := 4#32
  let v53 : BitVec 32 := Scalar.subi c4_i32 v52
  let c1_i32_22 : BitVec 32 := 1#32
  let v55 : BitVec 32 := Scalar.divsi v53 c1_i32_22
  let v56 : BitVec 32 := Scalar.muli v55 c1_i32_22
  let v57 : BitVec 32 := Scalar.addi v52 v56
  let c1_i32_24 : BitVec 32 := 1#32
  let arg19 : BitVec 32 := Scf.iv v57 c1_i32_24 k0_t2
  let c544_i32_37 : BitVec 32 := 544#32
  let v69 : BitVec 32 := Scalar.muli arg19 c544_i32_37
  let v70 : BitVec 32 := v69
  let v71 : Index := Scalar.indexCast v70
  let c0_38 : Index := 0#32
  ![v71.toNat, 0]
def k0_off4 (i : grid0.Coords) (k0_t2 : Fin (k0_t2_loop i).trips) : Fin 3 → Nat :=
  let arg1 : BitVec 32 := BitVec.ofNat 32 (i 1).val
  let c128_i32_15 : BitVec 32 := 128#32
  let v35 : BitVec 32 := Scalar.muli arg1 c128_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c544_i32_16 : BitVec 32 := 544#32
  let c0_i32_19 : BitVec 32 := 0#32
  let v42 : BitVec 1 := Scalar.cmpi .sgt c544_i32_16 c0_i32_19
  let v43 : BitVec 32 := Scalar.extui v42
  let c0_i32_20 : BitVec 32 := 0#32
  let v44 : BitVec 1 := Scalar.cmpi .slt c544_i32_16 c0_i32_20
  let v45 : BitVec 32 := Scalar.extui v44
  let v46 : BitVec 32 := Scalar.subi v43 v45
  let v47 : BitVec 1 := Scalar.cmpi .ne v41 v46
  let v48 : BitVec 32 := Scalar.remsi v35 c544_i32_16
  let c0_i32_21 : BitVec 32 := 0#32
  let v49 : BitVec 1 := Scalar.cmpi .ne v48 c0_i32_21
  let v50 : BitVec 1 := Scalar.andi v47 v49
  let v36 : BitVec 32 := Scalar.divsi v35 c544_i32_16
  let c1_i32 : BitVec 32 := 1#32
  let v51 : BitVec 32 := Scalar.subi v36 c1_i32
  let v52 : BitVec 32 := Scalar.select v50 v51 v36
  let c4_i32 : BitVec 32 := 4#32
  let v53 : BitVec 32 := Scalar.subi c4_i32 v52
  let c1_i32_22 : BitVec 32 := 1#32
  let v55 : BitVec 32 := Scalar.divsi v53 c1_i32_22
  let v56 : BitVec 32 := Scalar.muli v55 c1_i32_22
  let v57 : BitVec 32 := Scalar.addi v52 v56
  let c1_i32_24 : BitVec 32 := 1#32
  let arg19 : BitVec 32 := Scf.iv v57 c1_i32_24 k0_t2
  let v94 : Index := Scalar.indexCast arg19
  let c0_46 : Index := 0#32
  let c0_47 : Index := 0#32
  ![v94.toNat, 0, 0]
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let arg0 : BitVec 32 := BitVec.ofNat 32 (i 0).val
  let c0_i32_0 : BitVec 32 := 0#32
  let v5 : BitVec 1 := Scalar.cmpi .eq arg0 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_cond3 (i : grid0.Coords) : BitVec 1 :=
  let arg1 : BitVec 32 := BitVec.ofNat 32 (i 1).val
  let c16_i32 : BitVec 32 := 16#32
  let v66 : BitVec 1 := Scalar.cmpi .eq arg1 c16_i32
  let v67 : BitVec 32 := Scalar.extui v66
  let c0_i32_36 : BitVec 32 := 0#32
  let v68 : BitVec 1 := Scalar.cmpi .ne v67 c0_i32_36
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2176x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S2176x1024 : Shape := ⟨2, ![2176, 1024]⟩
abbrev S2176x128 : Shape := ⟨2, ![2176, 128]⟩
abbrev S128x2176 : Shape := ⟨2, ![128, 2176]⟩
abbrev S2176x16x64 : Shape := ⟨3, ![2176, 16, 64]⟩
abbrev S2064x16x64 : Shape := ⟨3, ![2064, 16, 64]⟩
abbrev S16x2064x2064 : Shape := ⟨3, ![16, 2064, 2064]⟩
abbrev S2176x8x16 : Shape := ⟨3, ![2176, 8, 16]⟩
abbrev S2176x8x2 : Shape := ⟨3, ![2176, 8, 2]⟩
abbrev S2176x16 : Shape := ⟨2, ![2176, 16]⟩
abbrev S2064x16 : Shape := ⟨2, ![2064, 16]⟩
abbrev S16x2064 : Shape := ⟨2, ![16, 2064]⟩
abbrev S16x2064x1 : Shape := ⟨3, ![16, 2064, 1]⟩
abbrev S16x1x2064 : Shape := ⟨3, ![16, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S_ : Shape := ⟨0, ![]⟩
abbrev S16x64x2064 : Shape := ⟨3, ![16, 64, 2064]⟩
abbrev S2064x1024 : Shape := ⟨2, ![2064, 1024]⟩
abbrev S16x2064x64 : Shape := ⟨3, ![16, 2064, 64]⟩

abbrev nBuf : Space → Nat
  | .hbm => 149
  | .vmem => 0
  | .smem => 0
  | _ => 0

abbrev hbmTy0_0 (i : Nat) : BufTy := match i % 128 with
  | 0 => ⟨S2176x1024, .bf16⟩
  | 1 => ⟨S2176x1024, .bf16⟩
  | 2 => ⟨S2176x1024, .bf16⟩
  | 3 => ⟨S2176x128, .f32⟩
  | 4 => ⟨S128x2176, .f32⟩
  | 5 => ⟨S2176x1024, .f32⟩
  | 6 => ⟨S2176x1024, .f32⟩
  | 7 => ⟨S2176x1024, .f32⟩
  | 8 => ⟨S2176x1024, .f32⟩
  | 9 => ⟨S2176x16x64, .f32⟩
  | 10 => ⟨S2064x16x64, .f32⟩
  | 11 => ⟨S2176x16x64, .f32⟩
  | 12 => ⟨S2064x16x64, .f32⟩
  | 13 => ⟨S16x2064x2064, .f32⟩
  | 14 => ⟨S2176x8x16, .f32⟩
  | 15 => ⟨S2176x8x2, .f32⟩
  | 16 => ⟨S2176x16, .f32⟩
  | 17 => ⟨S2064x16, .f32⟩
  | 18 => ⟨S16x2064, .f32⟩
  | 19 => ⟨S16x2064x1, .f32⟩
  | 20 => ⟨S16x2064x2064, .f32⟩
  | 21 => ⟨S16x2064x2064, .f32⟩
  | 22 => ⟨S2176x128, .f32⟩
  | 23 => ⟨S2176x8x16, .f32⟩
  | 24 => ⟨S2176x8x2, .f32⟩
  | 25 => ⟨S2176x16, .f32⟩
  | 26 => ⟨S2064x16, .f32⟩
  | 27 => ⟨S16x2064, .f32⟩
  | 28 => ⟨S16x1x2064, .f32⟩
  | 29 => ⟨S16x2064x2064, .f32⟩
  | 30 => ⟨S16x2064x2064, .f32⟩
  | 31 => ⟨S2064, .i32⟩
  | 32 => ⟨S1x2064, .i32⟩
  | 33 => ⟨S2064x1, .i32⟩
  | 34 => ⟨S2064x2064, .i32⟩
  | 35 => ⟨S2064x2064, .i32⟩
  | 36 => ⟨S2064x2064, .i1⟩
  | 37 => ⟨S_, .f32⟩
  | 38 => ⟨S_, .f32⟩
  | 39 => ⟨S16x2064x2064, .i1⟩
  | 40 => ⟨S16x2064x2064, .f32⟩
  | 41 => ⟨S16x2064x2064, .f32⟩
  | 42 => ⟨S_, .f32⟩
  | 43 => ⟨S16x2064x2064, .f32⟩
  | 44 => ⟨S_, .f32⟩
  | 45 => ⟨S16x2064, .f32⟩
  | 46 => ⟨S16x2064x1, .f32⟩
  | 47 => ⟨S16x2064x2064, .f32⟩
  | 48 => ⟨S16x2064x2064, .i1⟩
  | 49 => ⟨S16x2064x2064, .f32⟩
  | 50 => ⟨S_, .f32⟩
  | 51 => ⟨S16x2064, .f32⟩
  | 52 => ⟨S_, .f32⟩
  | 53 => ⟨S16x2064, .f32⟩
  | 54 => ⟨S16x2064, .f32⟩
  | 55 => ⟨S_, .f32⟩
  | 56 => ⟨S16x2064, .f32⟩
  | 57 => ⟨S16x2064, .i1⟩
  | 58 => ⟨S_, .f32⟩
  | 59 => ⟨S16x2064, .f32⟩
  | 60 => ⟨S16x2064, .i1⟩
  | 61 => ⟨S_, .f32⟩
  | 62 => ⟨S16x2064, .f32⟩
  | 63 => ⟨S_, .f32⟩
  | 64 => ⟨S16x2064, .f32⟩
  | 65 => ⟨S_, .f32⟩
  | 66 => ⟨S16x2064, .f32⟩
  | 67 => ⟨S16x2064, .f32⟩
  | 68 => ⟨S16x2064, .f32⟩
  | 69 => ⟨S16x2064x1, .f32⟩
  | 70 => ⟨S16x2064x2064, .f32⟩
  | 71 => ⟨S16x2064x2064, .f32⟩
  | 72 => ⟨S16x2064x2064, .f32⟩
  | 73 => ⟨S_, .f32⟩
  | 74 => ⟨S16x2064, .f32⟩
  | 75 => ⟨S16x2064x1, .f32⟩
  | 76 => ⟨S16x2064x2064, .f32⟩
  | 77 => ⟨S16x2064x2064, .f32⟩
  | 78 => ⟨S16x2064x1, .f32⟩
  | 79 => ⟨S_, .f32⟩
  | 80 => ⟨S16x2064x1, .f32⟩
  | 81 => ⟨S16x2064x1, .f32⟩
  | 82 => ⟨S2176x16x64, .f32⟩
  | 83 => ⟨S2064x16x64, .f32⟩
  | 84 => ⟨S16x64x2064, .f32⟩
  | 85 => ⟨S2064x16x64, .f32⟩
  | 86 => ⟨S2064x1024, .f32⟩
  | 87 => ⟨S2064x1024, .f32⟩
  | 88 => ⟨S2064x16x64, .f32⟩
  | 89 => ⟨S16x64x2064, .f32⟩
  | 90 => ⟨S16x2064x2064, .f32⟩
  | 91 => ⟨S16x64x2064, .f32⟩
  | 92 => ⟨S2064x16x64, .f32⟩
  | 93 => ⟨S_, .f32⟩
  | 94 => ⟨S2176x16x64, .f32⟩
  | 95 => ⟨S2176x1024, .f32⟩
  | 96 => ⟨S16x2064x2064, .f32⟩
  | 97 => ⟨S16x2064x2064, .f32⟩
  | 98 => ⟨S16x2064x2064, .f32⟩
  | 99 => ⟨S_, .f32⟩
  | 100 => ⟨S16x2064, .f32⟩
  | 101 => ⟨S16x2064x1, .f32⟩
  | 102 => ⟨S16x2064x1, .f32⟩
  | 103 => ⟨S16x2064x2064, .f32⟩
  | 104 => ⟨S16x2064x2064, .f32⟩
  | 105 => ⟨S_, .f32⟩
  | 106 => ⟨S16x2064, .f32⟩
  | 107 => ⟨S16x2064x2064, .f32⟩
  | 108 => ⟨S16x2064x2064, .f32⟩
  | 109 => ⟨S16x2064x2064, .f32⟩
  | 110 => ⟨S_, .f32⟩
  | 111 => ⟨S16x2064x2064, .f32⟩
  | 112 => ⟨S16x2064x2064, .f32⟩
  | 113 => ⟨S16x2064x2064, .f32⟩
  | 114 => ⟨S_, .f32⟩
  | 115 => ⟨S16x2064, .f32⟩
  | 116 => ⟨S16x1x2064, .f32⟩
  | 117 => ⟨S_, .f32⟩
  | 118 => ⟨S16x2064, .f32⟩
  | 119 => ⟨S2064x16, .f32⟩
  | 120 => ⟨S_, .f32⟩
  | 121 => ⟨S2176x16, .f32⟩
  | 122 => ⟨S2176x8x2, .f32⟩
  | 123 => ⟨S_, .f32⟩
  | 124 => ⟨S2176x8x16, .f32⟩
  | 125 => ⟨S2176x128, .f32⟩
  | 126 => ⟨S128x2176, .f32⟩
  | 127 => ⟨S_, .f32⟩
  | _ => ⟨S2176x1024, .bf16⟩

abbrev hbmTy0_1 (i : Nat) : BufTy := match i % 128 with
  | 0 => ⟨S16x2064, .f32⟩
  | 1 => ⟨S16x2064x1, .f32⟩
  | 2 => ⟨S_, .f32⟩
  | 3 => ⟨S16x2064, .f32⟩
  | 4 => ⟨S2064x16, .f32⟩
  | 5 => ⟨S_, .f32⟩
  | 6 => ⟨S2176x16, .f32⟩
  | 7 => ⟨S2176x8x2, .f32⟩
  | 8 => ⟨S_, .f32⟩
  | 9 => ⟨S2176x8x16, .f32⟩
  | 10 => ⟨S2176x128, .f32⟩
  | 11 => ⟨S16x2064x64, .f32⟩
  | 12 => ⟨S2064x16x64, .f32⟩
  | 13 => ⟨S16x2064x64, .f32⟩
  | 14 => ⟨S2064x16x64, .f32⟩
  | 15 => ⟨S_, .f32⟩
  | 16 => ⟨S2176x16x64, .f32⟩
  | 17 => ⟨S2176x1024, .f32⟩
  | 18 => ⟨S_, .f32⟩
  | 19 => ⟨S2176x16x64, .f32⟩
  | 20 => ⟨S2176x1024, .f32⟩
  | _ => ⟨S2176x1024, .bf16⟩

abbrev hbmTy (i : Nat) : BufTy := match i / 128 with
  | 0 => hbmTy0_0 i
  | 1 => hbmTy0_1 i
  | _ => ⟨S2176x1024, .bf16⟩

abbrev bufTy : (tb : Table) → Fin (tcTables nBuf tb) → BufTy
  | .hbm, ⟨i, _⟩ => hbmTy i
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_call0_v0 : Ref sig .tc := ⟨.hbm, 38, rfl⟩
abbrev main_v31_1 : Ref sig .tc := ⟨.hbm, 39, rfl⟩
abbrev main_call0_v2 : Ref sig .tc := ⟨.hbm, 40, rfl⟩
abbrev main_v31_0 : Ref sig .tc := ⟨.hbm, 41, rfl⟩
abbrev main_call0_cst : Ref sig .tc := ⟨.hbm, 42, rfl⟩
abbrev main_v31_2 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_call1_cst : Ref sig .tc := ⟨.hbm, 110, rfl⟩
abbrev main_call1_v0 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_cst_14 : Ref sig .tc := ⟨.hbm, 117, rfl⟩
abbrev main_v89 : Ref sig .tc := ⟨.hbm, 118, rfl⟩
abbrev main_v90 : Ref sig .tc := ⟨.hbm, 119, rfl⟩
abbrev main_cst_15 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_cst_18 : Ref sig .tc := ⟨.hbm, 130, rfl⟩
abbrev main_v98 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_21 : Ref sig .tc := ⟨.hbm, 143, rfl⟩
abbrev main_v108 : Ref sig .tc := ⟨.hbm, 144, rfl⟩
abbrev main_v109 : Ref sig .tc := ⟨.hbm, 145, rfl⟩
abbrev main_cst_22 : Ref sig .tc := ⟨.hbm, 146, rfl⟩
abbrev main_v110 : Ref sig .tc := ⟨.hbm, 147, rfl⟩
abbrev main_v111 : Ref sig .tc := ⟨.hbm, 148, rfl⟩

abbrev nD : Nat := 1
abbrev τ : Topo := Topo.v7x

variable {F : FTy → Type} [FloatOps F]
-- ==== Kernel2.lean ====
abbrev S2176x5632 : Shape := ⟨2, ![2176, 5632]⟩
abbrev S2176x2048 : Shape := ⟨2, ![2176, 2048]⟩
abbrev S5632x2048 : Shape := ⟨2, ![5632, 2048]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S5632x2048, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2176x5632 : Shape := ⟨2, ![2176, 5632]⟩
abbrev S2176x2048 : Shape := ⟨2, ![2176, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S_, .f32⟩
  | .hbm, ⟨3, _⟩ => ⟨S5632x2048, .f32⟩
  | .hbm, ⟨4, _⟩ => ⟨S2176x2048, .f32⟩
  | .hbm, ⟨5, _⟩ => ⟨S2048x5632, .f32⟩
  | .hbm, ⟨6, _⟩ => ⟨S2176x5632, .f32⟩
  | .hbm, ⟨7, _⟩ => ⟨S2176x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2176x5632 : Shape := ⟨2, ![2176, 5632]⟩
abbrev S2176x2048 : Shape := ⟨2, ![2176, 2048]⟩
abbrev S5632x2048 : Shape := ⟨2, ![5632, 2048]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S5632x2048, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2176x5632 : Shape := ⟨2, ![2176, 5632]⟩
abbrev S2176x2048 : Shape := ⟨2, ![2176, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S_, .f32⟩
  | .hbm, ⟨3, _⟩ => ⟨S5632x2048, .f32⟩
  | .hbm, ⟨4, _⟩ => ⟨S2176x5632, .f32⟩
  | .hbm, ⟨5, _⟩ => ⟨S2176x2048, .f32⟩
  | .hbm, ⟨6, _⟩ => ⟨S_, .f32⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S_, .f32⟩
  | .hbm, ⟨11, _⟩ => ⟨S2176x2048, .f32⟩
  | .hbm, ⟨12, _⟩ => ⟨S2176x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S2176x5632 : Shape := ⟨2, ![2176, 5632]⟩
abbrev S5632x2048 : Shape := ⟨2, ![5632, 2048]⟩
abbrev S2176x2048 : Shape := ⟨2, ![2176, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2176x5632, .bf16⟩
  | .hbm, ⟨1, _⟩ => ⟨S2176x5632, .bf16⟩
  | .hbm, ⟨2, _⟩ => ⟨S5632x2048, .bf16⟩
  | .hbm, ⟨3, _⟩ => ⟨S5632x2048, .bf16⟩
  | .hbm, ⟨4, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1408, .bf16⟩
  | .local _ .vmem, ⟨5, _⟩ => ⟨S1088x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S2176x5632 : Shape := ⟨2, ![2176, 5632]⟩
abbrev S5632x2048 : Shape := ⟨2, ![5632, 2048]⟩
abbrev S_ : Shape := ⟨0, ![]⟩
abbrev S2176x2048 : Shape := ⟨2, ![2176, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x5632, .bf16⟩
  | .hbm, ⟨2, _⟩ => ⟨S5632x2048, .bf16⟩
  | .hbm, ⟨3, _⟩ => ⟨S5632x2048, .bf16⟩
  | .hbm, ⟨4, _⟩ => ⟨S2176x5632, .f32⟩
  | .hbm, ⟨5, _⟩ => ⟨S2176x5632, .f32⟩
  | .hbm, ⟨6, _⟩ => ⟨S5632x2048, .f32⟩
  | .hbm, ⟨7, _⟩ => ⟨S5632x2048, .f32⟩
  | .hbm, ⟨8, _⟩ => ⟨S_, .f32⟩
  | .hbm, ⟨9, _⟩ => ⟨S2176x2048, .f32⟩
  | .hbm, ⟨10, _⟩ => ⟨S2048x5632, .f32⟩
  | .hbm, ⟨11, _⟩ => ⟨S2176x5632, .f32⟩
  | .hbm, ⟨12, _⟩ => ⟨S2048x5632, .f32⟩
  | .hbm, ⟨13, _⟩ => ⟨S2176x5632, .f32⟩
  | .hbm, ⟨14, _⟩ => ⟨S2176x2048, .f32⟩
  | .hbm, ⟨15, _⟩ => ⟨S2176x2048, .f32⟩
  | .hbm, ⟨16, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S2176x2048 : Shape := ⟨2, ![2176, 2048]⟩
abbrev S5632x2048 : Shape := ⟨2, ![5632, 2048]⟩
abbrev S2176x5632 : Shape := ⟨2, ![2176, 5632]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 6
  | .vmem => 12
  | .smem => 0
  | _ => 0

abbrev bufTy : (tb : Table) → Fin (tcTables nBuf tb) → BufTy
  | .hbm, ⟨0, _⟩ => ⟨S2176x2048, .bf16⟩
  | .hbm, ⟨1, _⟩ => ⟨S5632x2048, .bf16⟩
  | .hbm, ⟨2, _⟩ => ⟨S5632x2048, .bf16⟩
  | .hbm, ⟨3, _⟩ => ⟨S2176x5632, .bf16⟩
  | .hbm, ⟨4, _⟩ => ⟨S2176x5632, .bf16⟩
  | .hbm, ⟨5, _⟩ => ⟨S2176x5632, .bf16⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1088x512, .bf16⟩
  | .local _ .vmem, ⟨11, _⟩ => ⟨S1088x512, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2176x2048 : Shape := ⟨2, ![2176, 2048]⟩
abbrev S5632x2048 : Shape := ⟨2, ![5632, 2048]⟩
abbrev S2048x5632 : Shape := ⟨2, ![2048, 5632]⟩
abbrev S2176x5632 : Shape := ⟨2, ![2176, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S5632x2048, .bf16⟩
  | .hbm, ⟨2, _⟩ => ⟨S5632x2048, .bf16⟩
  | .hbm, ⟨3, _⟩ => ⟨S2176x2048, .f32⟩
  | .hbm, ⟨4, _⟩ => ⟨S5632x2048, .f32⟩
  | .hbm, ⟨5, _⟩ => ⟨S5632x2048, .f32⟩
  | .hbm, ⟨6, _⟩ => ⟨S2048x5632, .f32⟩
  | .hbm, ⟨7, _⟩ => ⟨S2176x5632, .f32⟩
  | .hbm, ⟨8, _⟩ => ⟨S2048x5632, .f32⟩
  | .hbm, ⟨9, _⟩ => ⟨S2176x5632, .f32⟩
  | .hbm, ⟨10, _⟩ => ⟨S2176x5632, .f32⟩
  | .hbm, ⟨11, _⟩ => ⟨S2176x5632, .f32⟩
  | .hbm, ⟨12, _⟩ => ⟨S_, .f32⟩
  | .hbm, ⟨13, _⟩ => ⟨S2176x5632, .f32⟩
  | .hbm, ⟨14, _⟩ => ⟨S2176x5632, .f32⟩
  | .hbm, ⟨15, _⟩ => ⟨S_, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x5632, .f32⟩
  | .hbm, ⟨20, _⟩ => ⟨S2176x5632, .bf16⟩
  | .hbm, ⟨21, _⟩ => ⟨S2176x5632, .bf16⟩
  | .hbm, ⟨22, _⟩ => ⟨S2176x5632, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S2176x5632 : Shape := ⟨2, ![2176, 5632]⟩
abbrev S5632x2048 : Shape := ⟨2, ![5632, 2048]⟩
abbrev S2176x2048 : Shape := ⟨2, ![2176, 2048]⟩
abbrev S1088x2816 : Shape := ⟨2, ![1088, 2816]⟩
abbrev S2816x512 : Shape := ⟨2, ![2816, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x2048, .f32⟩
  | .local _ .vmem, ⟨0, _⟩ => ⟨S1088x2816, .bf16⟩
  | .local _ .vmem, ⟨1, _⟩ => ⟨S1088x2816, .bf16⟩
  | .local _ .vmem, ⟨2, _⟩ => ⟨S2816x512, .bf16⟩
  | .local _ .vmem, ⟨3, _⟩ => ⟨S2816x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S1088x512, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x5632, .f32⟩
  | .hbm, ⟨4, _⟩ => ⟨S5632x2048, .f32⟩
  | .hbm, ⟨5, _⟩ => ⟨S2176x2048, .f32⟩
  | .hbm, ⟨6, _⟩ => ⟨S_, .f32⟩
  | .hbm, ⟨7, _⟩ => ⟨S2176x2048, .f32⟩
  | .hbm, ⟨8, _⟩ => ⟨S2176x2048, .f32⟩
  | .hbm, ⟨9, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.SameTable.lean ====
module

public import proofs.«01_k».proof.Defs
public import proofs.«01_k».proof.Proof.Gen.Kernel
public import proofs.«01_k».proof.Proof.Gen.KernelIdeal

@[expose] public section

/-! The table of bodies is the same in the two printings of the kernel. -/

set_option maxRecDepth 16384

noncomputable section

namespace Cert.Proof

open Idealize.ShloMosaic Idealize.SL.Sem Idealize.ShloMosaic.TcCoe

set_option maxHeartbeats 4000000 in
/-- The body at each label. -/
theorem table_at (l : Cert.KernelIdeal.Λ₀.Label) (a : Cert.KernelIdeal.Λ₀.Args l) : Cert.Kernel.defs₀ (F := Bits) .tc l a = Cert.KernelIdeal.defs₀ (F := Bits) .tc l a := by
  obtain ⟨n, hn⟩ := l
  cases n with
  | zero =>
    obtain ⟨t, s⟩ := a
    exact rfl
  | succ n => exact absurd hn (by omega)

set_option maxHeartbeats 4000000 in
/-- The table of bodies. -/
theorem same_table : Cert.Kernel.defs₀ (F := Bits) = Cert.KernelIdeal.defs₀ (F := Bits) :=
  funext fun p => match p with
  | .tc => funext fun l => funext fun a => table_at l a
  | .scScalar _ => rfl
  | .scVector _ _ => rfl

set_option maxHeartbeats 4000000 in
theorem same_defs : Cert.Kernel.defs (F := Bits) = Cert.KernelIdeal.defs (F := Bits) := by
  show Pipeline.defs (Cert.Kernel.pcfgs (F := Bits)) (Cert.Kernel.defs₀ (F := Bits)) = Pipeline.defs (Cert.KernelIdeal.pcfgs (F := Bits)) (Cert.KernelIdeal.defs₀ (F := Bits))
  rw [same_table]
  rfl

end Cert.Proof

end
-- ==== Proof.Weights.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read

@[expose] public section

/-! The gradient of a weight: the kernel's blocks are the blocks of one product, which is the reference's. -/

set_option maxRecDepth 16384

noncomputable section

namespace Cert.Kernel2Ideal.Weights

open Idealize.ShloMosaic Idealize.SL.Sem Cert.Kernel2Ideal Cert.Kernel2Ideal.Gen Idealize.ShloMosaic.TcCoe Idealize.ShloMosaic.ValueIdx
open scoped BigOperators

/-- The product over the rows of two arrays. -/
def wgrad (a : Vec Ideal S2176x5632 .bf16) (b : Vec Ideal S2176x2048 .bf16) : Vec Ideal S5632x2048 .bf16 :=
  fun i => ∑ k : Fin 2176, a (ix2 k (i 0)) * b (ix2 k (i 1))

abbrev dims := dot_S2176x1408_S2176x1024_S1408x1024_0_0_1_1_n_n

theorem lhs_at (j : S1408x1024.Idx) (k : Fin 2176) : dims.lhsIdx j ((contrEquiv1 dims 2176 rfl rfl).symm k) = ix2 k (j 0) := by
  funext a; apply Fin.ext
  match a with
  | ⟨0, _⟩ => exact (dims.lhsIdx_val_of_single rfl j _).trans (contrEquiv1_symm_val dims 2176 rfl rfl k)
  | ⟨1, _⟩ =>
    show (dims.lhsIdx j _ 1).val = (j 0).val
    unfold DotDims.lhsIdx
    rw [dif_neg (show ¬(1 : Fin S2176x1408.rank) ∈ dims.lhsBatch by decide), dif_pos (show (1 : Fin S2176x1408.rank) ∈ dims.lhsNonContracting by decide)]
    rfl

theorem rhs_at (j : S1408x1024.Idx) (k : Fin 2176) : dims.rhsIdx j ((contrEquiv1 dims 2176 rfl rfl).symm k) = ix2 k (j 1) := by
  funext a; apply Fin.ext
  match a with
  | ⟨0, _⟩ => exact (dims.rhsIdx_val_of_single rfl j _).trans (contrEquiv1_symm_val dims 2176 rfl rfl k)
  | ⟨1, _⟩ =>
    show (dims.rhsIdx j _ 1).val = (j 1).val
    unfold DotDims.rhsIdx
    rw [dif_neg (show ¬(1 : Fin S2176x1024.rank) ∈ dims.rhsBatch by decide), dif_pos (show (1 : Fin S2176x1024.rank) ∈ dims.rhsNonContracting by decide)]
    rfl

/-- What the body stores: the product of its two blocks. -/
theorem pay_at (x : Vec Ideal S2176x1408 .bf16) (y : Vec Ideal S2176x1024 .bf16) (j : S1408x1024.Idx) :
    k0_pay1 (F := Ideal) x y j = ∑ k : Fin 2176, x (ix2 k (j 0)) * y (ix2 k (j 1)) := by
  show FloatOps.matmul (F := Ideal) (φ₁ := .bf16) (φ₂ := .bf16) dims none x y (constant S1408x1024 .f32 0x00000000#32) j = _
  rw [Ideal.matmul_constant_zero_apply, ← Equiv.sum_comp (contrEquiv1 dims 2176 rfl rfl).symm]
  refine Finset.sum_congr rfl fun k _ => ?_
  rw [lhs_at, rhs_at]
  rfl

theorem out_eq (x : Vec Ideal S2176x1408 .bf16) (y : Vec Ideal S2176x1024 .bf16) : out0_2 (F := Ideal) x y = k0_pay1 x y := by
  have z2 : (![0, 0] : Fin 2 → ℕ) = fun _ => 0 := by funext a; match a with | ⟨0, _⟩ => rfl | ⟨1, _⟩ => rfl
  unfold out0_2
  refine (View.canon_unit_zero z2 _ _).trans ?_
  rw [View.ld_unit_zero z2, View.ld_unit_zero z2]

variable (m : (ℓ : Loc nD τ sig) → Buf (Elt Ideal) ℓ) (c : Dev nD)

theorem at0 (t : Fin cfg0.N) : win0_0.index t (0 : Fin 2) = 0 ∧ win0_0.index t (1 : Fin 2) = t.val / 2 :=
  (by decide +kernel : ∀ t : Fin grid0.N, win0_0.index t (0 : Fin 2) = 0 ∧ win0_0.index t (1 : Fin 2) = t.val / 2) t

theorem at1 (t : Fin cfg0.N) : win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2) t

theorem at2 (t : Fin cfg0.N) : win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2) t

theorem flush2 (t : Fin cfg0.N) : (cfg0.win 2).flush t = true :=
  (by decide +kernel : ∀ t : Fin grid0.N, (cfg0.win 2).flush t = true) t

theorem pt_lt (t : Fin cfg0.N) : t.val < 8 := lt_of_lt_of_eq t.isLt (by decide +kernel)

theorem blk0 (t : Fin cfg0.N) (k : Fin 2176) (r : Fin 1408) :
    (iblk m c 0 t : Vec Ideal S2176x1408 .bf16) (ix2 k r)
      = m ((c : Thread nD τ).loc main_arg0) (ix2 k ⟨1408 * (t.val / 2) + r.val, by have := pt_lt t; omega⟩) := by
  obtain ⟨e0, e1⟩ := at0 t
  refine congrArg (V m c main_arg0) ?_
  funext a; apply Fin.ext
  match a with
  | ⟨0, _⟩ => show win0_0.index t (0 : Fin 2) * 2176 + 1 * k.val = k.val; rw [e0]; omega
  | ⟨1, _⟩ => show win0_0.index t (1 : Fin 2) * 1408 + 1 * r.val = 1408 * (t.val / 2) + r.val; rw [e1]; omega

theorem blk1 (t : Fin cfg0.N) (k : Fin 2176) (l : Fin 1024) :
    (iblk m c 1 t : Vec Ideal S2176x1024 .bf16) (ix2 k l)
      = m ((c : Thread nD τ).loc main_arg1) (ix2 k ⟨1024 * (t.val % 2) + l.val, by omega⟩) := by
  obtain ⟨e0, e1⟩ := at1 t
  refine congrArg (V m c main_arg1) ?_
  funext a; apply Fin.ext
  match a with
  | ⟨0, _⟩ => show win0_1.index t (0 : Fin 2) * 2176 + 1 * k.val = k.val; rw [e0]; omega
  | ⟨1, _⟩ => show win0_1.index t (1 : Fin 2) * 1024 + 1 * l.val = 1024 * (t.val % 2) + l.val; rw [e1]; omega

/-- The array the kernel leaves. -/
def last : Buf (Elt Ideal) ((c : Thread nD τ).loc main_v0) := wgrad (m ((c : Thread nD τ).loc main_arg0)) (m ((c : Thread nD τ).loc main_arg1))

theorem flushed (t : Fin cfg0.N) : (dats m 0 c).flushed 2 t = ((cfg0.win 2).blk t).view.read (Elt Ideal) (last m c) := by
  rw [Value.flushed2, out_eq]
  obtain ⟨e0, e1⟩ := at2 t
  have hN := pt_lt t
  funext y
  have hy0 : (y 0).val < 1408 := (y 0).isLt
  have hy1 : (y 1).val < 1024 := (y 1).isLt
  have e : (cfg0.win 2).xinj (grid0.coords t) y = ix2 ⟨(y 0).val, hy0⟩ ⟨(y 1).val, hy1⟩ := by
    funext a; apply Fin.ext
    match a with
    | ⟨0, _⟩ => rfl
    | ⟨1, _⟩ => rfl
  have b : ((cfg0.win 2).blk t).view.emb y = ix2 ⟨1408 * (t.val / 2) + (y 0).val, by omega⟩ ⟨1024 * (t.val % 2) + (y 1).val, by omega⟩ := by
    funext a; apply Fin.ext
    match a with
    | ⟨0, _⟩ => show win0_2.index t (0 : Fin 2) * 1408 + 1 * (y 0).val = _; rw [e0]; show _ = 1408 * (t.val / 2) + (y 0).val; omega
    | ⟨1, _⟩ => show win0_2.index t (1 : Fin 2) * 1024 + 1 * (y 1).val = _; rw [e1]; show _ = 1024 * (t.val % 2) + (y 1).val; omega
  show k0_pay1 (F := Ideal) (iblk m c 0 t) (iblk m c 1 t) ((cfg0.win 2).xinj (grid0.coords t) y) = last m c (((cfg0.win 2).blk t).view.emb y)
  rw [e, b]
  refine (pay_at _ _ _).trans ?_
  unfold last wgrad
  refine Finset.sum_congr rfl fun k _ => ?_
  exact congrArg₂ (· * ·) (blk0 m c t k ⟨(y 0).val, hy0⟩) (blk1 m c t k ⟨(y 1).val, hy1⟩)

theorem covered (i : S5632x2048.Idx) : ∃ t : Fin cfg0.N, (cfg0.win 2).flush t = true ∧ i ∈ ((cfg0.win 2).blk t).view.set := by
  have hi0 : (i 0).val < 5632 := (i 0).isLt
  have hi1 : (i 1).val < 2048 := (i 1).isLt
  have hp : 2 * ((i 0).val / 1408) + (i 1).val / 1024 < cfg0.N := lt_of_lt_of_eq (show _ < 8 by omega) (by decide +kernel)
  obtain ⟨e0, e1⟩ := at2 ⟨2 * ((i 0).val / 1408) + (i 1).val / 1024, hp⟩
  refine ⟨⟨2 * ((i 0).val / 1408) + (i 1).val / 1024, hp⟩, flush2 _, ?_⟩
  show i ∈ ((View.whole main_v0).slice (win0_2.rect ⟨2 * ((i 0).val / 1408) + (i 1).val / 1024, hp⟩)).set
  rw [View.set_slice_whole, Rect.mem_set_unit]
  intro a
  match a with
  | ⟨0, _⟩ =>
    show win0_2.index ⟨2 * ((i 0).val / 1408) + (i 1).val / 1024, hp⟩ (0 : Fin 2) * 1408 ≤ (i 0).val ∧ (i 0).val < win0_2.index ⟨2 * ((i 0).val / 1408) + (i 1).val / 1024, hp⟩ (0 : Fin 2) * 1408 + 1408
    rw [e0]; (try dsimp only); omega
  | ⟨1, _⟩ =>
    show win0_2.index ⟨2 * ((i 0).val / 1408) + (i 1).val / 1024, hp⟩ (1 : Fin 2) * 1024 ≤ (i 1).val ∧ (i 1).val < win0_2.index ⟨2 * ((i 0).val / 1408) + (i 1).val / 1024, hp⟩ (1 : Fin 2) * 1024 + 1024
    rw [e1]; (try dsimp only); omega

theorem final : (dats m 0 c).arrAt 2 cfg0.N = last m c :=
  (dats m 0 c).arrAt_eq_of_cover 2 _ (fun t _ => flushed m c t) (fun i => covered i)

/-- The reference's gradient is the same product. -/
theorem ref (a : Vec Ideal S2176x5632 .bf16) (b : Vec Ideal S2176x2048 .bf16) : Cert.Reference2Ideal.Read.val_main_v8 (F := Ideal) a b = wgrad a b := by
  funext i
  rw [Cert.Reference2Ideal.Read.val_main_v8_apply]
  refine (Cert.Reference2Ideal.Read.val_main_v7_apply a b i).trans ?_
  rw [Cert.Reference2Ideal.Read.val_main_v6_apply, Cert.Reference2Ideal.Read.val_main_v5_apply]
  unfold wgrad
  refine Finset.sum_congr rfl fun k _ => ?_
  refine congrArg₂ (· * ·) (congrArg a ?_) (congrArg b ?_)
  · funext x; match x with | ⟨0, _⟩ => rfl | ⟨1, _⟩ => rfl
  · funext x; match x with | ⟨0, _⟩ => rfl | ⟨1, _⟩ => rfl

end Cert.Kernel2Ideal.Weights

end
-- ==== Proof.Down.lean ====
module

public import proofs.«01_k».proof.Proof.Weights
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read

@[expose] public section

/-! The gradient of the down projection's weights: half of the product over the rows. -/

set_option maxRecDepth 16384

noncomputable section

namespace Cert.Kernel4Ideal.Down

open Idealize.ShloMosaic Idealize.SL.Sem Cert.Kernel4Ideal Cert.Kernel4Ideal.Gen Idealize.ShloMosaic.TcCoe Idealize.ShloMosaic.ValueIdx
open scoped BigOperators

/-- The word of one half. -/
abbrev half : EReal := Ideal.ofBits .f32 0x3F000000#32

theorem half_real : half = ((1 / 2 : ℝ) : EReal) := by
  unfold half
  simp [Ideal.ofBits, Ideal.ieee]
  rw [← EReal.coe_mul]
  norm_num

theorem half_nonneg : 0 ≤ half := by rw [half_real]; exact_mod_cast (by norm_num : (0 : ℝ) ≤ 1 / 2)

theorem half_ne_top : half ≠ ⊤ := by rw [half_real]; exact EReal.coe_ne_top _

/-- One half of a sum is the sum of the halves, whatever the terms are. -/
theorem half_sum {ι : Type} [DecidableEq ι] (s : Finset ι) (f : ι → EReal) : half * ∑ k ∈ s, f k = ∑ k ∈ s, half * f k := by
  induction s using Finset.induction_on with
  | empty => simp
  | insert a s ha ih => rw [Finset.sum_insert ha, Finset.sum_insert ha, EReal.left_distrib_of_nonneg_of_ne_top half_nonneg half_ne_top, ih]

/-- Half of the product over the rows of two arrays. -/
def half_wgrad (a : Vec Ideal S2176x5632 .bf16) (b : Vec Ideal S2176x2048 .bf16) : Vec Ideal S5632x2048 .bf16 :=
  fun i => half * ∑ k : Fin 2176, a (ix2 k (i 0)) * b (ix2 k (i 1))

/-- What the body stores: half of the product of its two blocks. -/
theorem pay_at (x : Vec Ideal S2176x1408 .bf16) (y : Vec Ideal S2176x1024 .bf16) (j : S1408x1024.Idx) :
    k0_pay1 (F := Ideal) x y j = half * ∑ k : Fin 2176, x (ix2 k (j 0)) * y (ix2 k (j 1)) := by
  rw [← Cert.Kernel2Ideal.Weights.pay_at x y j, mul_comm]
  rfl

theorem out_eq (x : Vec Ideal S2176x1408 .bf16) (y : Vec Ideal S2176x1024 .bf16) : out0_2 (F := Ideal) x y = k0_pay1 x y := by
  have z2 : (![0, 0] : Fin 2 → ℕ) = fun _ => 0 := by funext a; match a with | ⟨0, _⟩ => rfl | ⟨1, _⟩ => rfl
  unfold out0_2
  refine (View.canon_unit_zero z2 _ _).trans ?_
  rw [View.ld_unit_zero z2, View.ld_unit_zero z2]

variable (m : (ℓ : Loc nD τ sig) → Buf (Elt Ideal) ℓ) (c : Dev nD)

theorem at0 (t : Fin cfg0.N) : win0_0.index t (0 : Fin 2) = 0 ∧ win0_0.index t (1 : Fin 2) = t.val / 2 :=
  (by decide +kernel : ∀ t : Fin grid0.N, win0_0.index t (0 : Fin 2) = 0 ∧ win0_0.index t (1 : Fin 2) = t.val / 2) t

theorem at1 (t : Fin cfg0.N) : win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2) t

theorem at2 (t : Fin cfg0.N) : win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2) t

theorem flush2 (t : Fin cfg0.N) : (cfg0.win 2).flush t = true :=
  (by decide +kernel : ∀ t : Fin grid0.N, (cfg0.win 2).flush t = true) t

theorem pt_lt (t : Fin cfg0.N) : t.val < 8 := lt_of_lt_of_eq t.isLt (by decide +kernel)

theorem blk0 (t : Fin cfg0.N) (k : Fin 2176) (r : Fin 1408) :
    (iblk m c 0 t : Vec Ideal S2176x1408 .bf16) (ix2 k r)
      = m ((c : Thread nD τ).loc main_arg0) (ix2 k ⟨1408 * (t.val / 2) + r.val, by have := pt_lt t; omega⟩) := by
  obtain ⟨e0, e1⟩ := at0 t
  refine congrArg (V m c main_arg0) ?_
  funext a; apply Fin.ext
  match a with
  | ⟨0, _⟩ => show win0_0.index t (0 : Fin 2) * 2176 + 1 * k.val = k.val; rw [e0]; omega
  | ⟨1, _⟩ => show win0_0.index t (1 : Fin 2) * 1408 + 1 * r.val = 1408 * (t.val / 2) + r.val; rw [e1]; omega

theorem blk1 (t : Fin cfg0.N) (k : Fin 2176) (l : Fin 1024) :
    (iblk m c 1 t : Vec Ideal S2176x1024 .bf16) (ix2 k l)
      = m ((c : Thread nD τ).loc main_arg1) (ix2 k ⟨1024 * (t.val % 2) + l.val, by omega⟩) := by
  obtain ⟨e0, e1⟩ := at1 t
  refine congrArg (V m c main_arg1) ?_
  funext a; apply Fin.ext
  match a with
  | ⟨0, _⟩ => show win0_1.index t (0 : Fin 2) * 2176 + 1 * k.val = k.val; rw [e0]; omega
  | ⟨1, _⟩ => show win0_1.index t (1 : Fin 2) * 1024 + 1 * l.val = 1024 * (t.val % 2) + l.val; rw [e1]; omega

/-- The array the kernel leaves. -/
def last : Buf (Elt Ideal) ((c : Thread nD τ).loc main_v0) := half_wgrad (m ((c : Thread nD τ).loc main_arg0)) (m ((c : Thread nD τ).loc main_arg1))

theorem flushed (t : Fin cfg0.N) : (dats m 0 c).flushed 2 t = ((cfg0.win 2).blk t).view.read (Elt Ideal) (last m c) := by
  rw [Value.flushed2, out_eq]
  obtain ⟨e0, e1⟩ := at2 t
  have hN := pt_lt t
  funext y
  have hy0 : (y 0).val < 1408 := (y 0).isLt
  have hy1 : (y 1).val < 1024 := (y 1).isLt
  have e : (cfg0.win 2).xinj (grid0.coords t) y = ix2 ⟨(y 0).val, hy0⟩ ⟨(y 1).val, hy1⟩ := by
    funext a; apply Fin.ext
    match a with
    | ⟨0, _⟩ => rfl
    | ⟨1, _⟩ => rfl
  have b : ((cfg0.win 2).blk t).view.emb y = ix2 ⟨1408 * (t.val / 2) + (y 0).val, by omega⟩ ⟨1024 * (t.val % 2) + (y 1).val, by omega⟩ := by
    funext a; apply Fin.ext
    match a with
    | ⟨0, _⟩ => show win0_2.index t (0 : Fin 2) * 1408 + 1 * (y 0).val = _; rw [e0]; show _ = 1408 * (t.val / 2) + (y 0).val; omega
    | ⟨1, _⟩ => show win0_2.index t (1 : Fin 2) * 1024 + 1 * (y 1).val = _; rw [e1]; show _ = 1024 * (t.val % 2) + (y 1).val; omega
  show k0_pay1 (F := Ideal) (iblk m c 0 t) (iblk m c 1 t) ((cfg0.win 2).xinj (grid0.coords t) y) = last m c (((cfg0.win 2).blk t).view.emb y)
  rw [e, b]
  refine (pay_at _ _ _).trans ?_
  unfold last half_wgrad
  refine congrArg (half * ·) (Finset.sum_congr rfl fun k _ => ?_)
  exact congrArg₂ (· * ·) (blk0 m c t k ⟨(y 0).val, hy0⟩) (blk1 m c t k ⟨(y 1).val, hy1⟩)

theorem covered (i : S5632x2048.Idx) : ∃ t : Fin cfg0.N, (cfg0.win 2).flush t = true ∧ i ∈ ((cfg0.win 2).blk t).view.set := by
  have hi0 : (i 0).val < 5632 := (i 0).isLt
  have hi1 : (i 1).val < 2048 := (i 1).isLt
  have hp : 2 * ((i 0).val / 1408) + (i 1).val / 1024 < cfg0.N := lt_of_lt_of_eq (show _ < 8 by omega) (by decide +kernel)
  obtain ⟨e0, e1⟩ := at2 ⟨2 * ((i 0).val / 1408) + (i 1).val / 1024, hp⟩
  refine ⟨⟨2 * ((i 0).val / 1408) + (i 1).val / 1024, hp⟩, flush2 _, ?_⟩
  show i ∈ ((View.whole main_v0).slice (win0_2.rect ⟨2 * ((i 0).val / 1408) + (i 1).val / 1024, hp⟩)).set
  rw [View.set_slice_whole, Rect.mem_set_unit]
  intro a
  match a with
  | ⟨0, _⟩ =>
    show win0_2.index ⟨2 * ((i 0).val / 1408) + (i 1).val / 1024, hp⟩ (0 : Fin 2) * 1408 ≤ (i 0).val ∧ (i 0).val < win0_2.index ⟨2 * ((i 0).val / 1408) + (i 1).val / 1024, hp⟩ (0 : Fin 2) * 1408 + 1408
    rw [e0]; (try dsimp only); omega
  | ⟨1, _⟩ =>
    show win0_2.index ⟨2 * ((i 0).val / 1408) + (i 1).val / 1024, hp⟩ (1 : Fin 2) * 1024 ≤ (i 1).val ∧ (i 1).val < win0_2.index ⟨2 * ((i 0).val / 1408) + (i 1).val / 1024, hp⟩ (1 : Fin 2) * 1024 + 1024
    rw [e1]; (try dsimp only); omega

theorem final : (dats m 0 c).arrAt 2 cfg0.N = last m c :=
  (dats m 0 c).arrAt_eq_of_cover 2 _ (fun t _ => flushed m c t) (fun i => covered i)

/-- The reference halves one factor of each product instead. -/
theorem ref (a : Vec Ideal S2176x5632 .bf16) (b : Vec Ideal S2176x2048 .bf16) : Cert.Reference4Ideal.Read.val_main_v10 (F := Ideal) a b = half_wgrad a b := by
  funext i
  rw [Cert.Reference4Ideal.Read.val_main_v10_apply]
  refine (Cert.Reference4Ideal.Read.val_main_v9_apply a b i).trans ?_
  rw [Cert.Reference4Ideal.Read.val_main_v8_apply]
  unfold half_wgrad
  rw [half_sum]
  refine Finset.sum_congr rfl fun k _ => ?_
  have e0 : Cert.Reference4Ideal.Read.lidx_main_v8 (Cert.Reference4Ideal.Read.idx_main_v9 i) k = ix2 k (i 1) := by
    funext x; match x with | ⟨0, _⟩ => rfl | ⟨1, _⟩ => rfl
  have e1 : Cert.Reference4Ideal.Read.ridx_main_v8 (Cert.Reference4Ideal.Read.idx_main_v9 i) k = ix2 k (i 0) := by
    funext x; match x with | ⟨0, _⟩ => rfl | ⟨1, _⟩ => rfl
  have e2 : Cert.Reference4Ideal.Read.val_main_v7 (F := Ideal) b (ix2 k (i 1)) = half * b (ix2 k (i 1)) :=
    (Cert.Reference4Ideal.Read.val_main_v7_apply b _).trans (congrArg (· * b (ix2 k (i 1))) (Cert.Reference4Ideal.Read.val_main_v6_apply (F := Ideal) (ix2 k (i 1))))
  rw [e0, e1]
  refine (congrArg (· * a (ix2 k (i 0))) e2).trans ?_
  rw [mul_assoc, mul_comm (b _)]

end Cert.Kernel4Ideal.Down

end
-- ==== Proof.Inner.lean ====
module

public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read

@[expose] public section

/-! The gradient of the network's input: four blocks of both products, added in turn, make the whole products' sum. -/

set_option maxRecDepth 16384

noncomputable section

namespace Cert.Kernel5Ideal.Inner

open Idealize.ShloMosaic Idealize.SL.Sem Cert.Kernel5Ideal Cert.Kernel5Ideal.Gen Idealize.ShloMosaic.TcCoe Idealize.ShloMosaic.ValueIdx
open scoped BigOperators

theorem z2 : (![0, 0] : Fin 2 → ℕ) = fun _ => 0 := by funext a; match a with | ⟨0, _⟩ => rfl | ⟨1, _⟩ => rfl

section
variable (c : Dev nD) (i : grid0.Coords) (arg3 : Memref sig .tc .vmem S1088x1408 .bf16) (harg3 : arg3.IsWhole) (arg4 : Memref sig .tc .vmem S1408x1024 .bf16) (harg4 : arg4.IsWhole)
  (arg5 : Memref sig .tc .vmem S1088x1408 .bf16) (harg5 : arg5.IsWhole) (arg6 : Memref sig .tc .vmem S1408x1024 .bf16) (harg6 : arg6.IsWhole)
  (arg7 : Memref sig .tc .vmem S1088x1024 .f32) (harg7 : arg7.IsWhole) (arg8 : Memref sig .tc .vmem S1088x1024 .f32) (harg8 : arg8.IsWhole)
  (x0 : Vec Ideal S1088x1408 .bf16) (x1 : Vec Ideal S1408x1024 .bf16) (x2 : Vec Ideal S1088x1408 .bf16) (x3 : Vec Ideal S1408x1024 .bf16) (xs0 : Vec Ideal S1088x1024 .f32)

theorem ldA (x : Vec Ideal S1088x1408 .bf16) : View.ld x (Rect.unit ![0, 0] ![1088, 1408] inb_S1088x1408_S1088x1408_0_0) = x :=
  View.ld_unit_zero (S := S1088x1408) z2 _ x

theorem ldB (x : Vec Ideal S1408x1024 .bf16) : View.ld x (Rect.unit ![0, 0] ![1408, 1024] inb_S1408x1024_S1408x1024_0_0) = x :=
  View.ld_unit_zero (S := S1408x1024) z2 _ x

theorem ldC (x : Vec Ideal S1088x1024 .f32) : View.ld x (Rect.unit ![0, 0] ![1088, 1024] inb_S1088x1024_S1088x1024_0_0) = x :=
  View.ld_unit_zero (S := S1088x1024) z2 _ x

theorem first hc0 hc1 hc2 : sout0_A_0 (F := Ideal) c i arg3 harg3 arg4 harg4 arg5 harg5 arg6 harg6 arg7 harg7 arg8 harg8 hc0 hc1 hc2 x0 x1 x2 x3 = k0_pay1 x0 x1 x2 x3 := by
  unfold sout0_A_0
  rw [View.read_writes_eq_canon _ _ _ (scover0_A_0 c i arg3 harg3 arg4 harg4 arg5 harg5 arg6 harg6 arg7 harg7 arg8 harg8 hc0 hc1 hc2 x0 x1 x2 x3)]
  refine (View.canon_unit_zero z2 _ _).trans ?_
  simp only [View.readAt_eq_ld, harg3.read_unread, harg4.read_unread, harg5.read_unread, harg6.read_unread, ldA, ldB, ldC]

theorem next hc0 hc1 hc2 : sout0_B_0 (F := Ideal) c i arg3 harg3 arg4 harg4 arg5 harg5 arg6 harg6 arg7 harg7 arg8 harg8 hc0 hc1 hc2 x0 x1 x2 x3 xs0 = k0_pay2 xs0 x0 x1 x2 x3 := by
  unfold sout0_B_0
  rw [View.read_writes_eq_canon _ _ _ (scover0_B_0 c i arg3 harg3 arg4 harg4 arg5 harg5 arg6 harg6 arg7 harg7 arg8 harg8 hc0 hc1 hc2 x0 x1 x2 x3 xs0)]
  refine (View.canon_unit_zero z2 _ _).trans ?_
  simp only [View.readAt_eq_ld, harg3.read_unread, harg4.read_unread, harg5.read_unread, harg6.read_unread, harg8.read_unread, ldA, ldB, ldC]

theorem done hc0 hc1 hc2 : out0_C_4 (F := Ideal) c i arg3 harg3 arg4 harg4 arg5 harg5 arg6 harg6 arg7 harg7 arg8 harg8 hc0 hc1 hc2 x0 x1 x2 x3 xs0 = k0_pay2 xs0 x0 x1 x2 x3 := by
  unfold out0_C_4
  rw [View.read_writes_eq_canon _ _ _ (cover0_C_4 c i arg3 harg3 arg4 harg4 arg5 harg5 arg6 harg6 arg7 harg7 arg8 harg8 hc0 hc1 hc2 x0 x1 x2 x3 xs0)]
  refine (View.canon_unit_zero z2 _ _).trans ?_
  unfold kernelRun0_C.sl.v9
  refine (View.readCov_unit_zero _ z2 _ _).trans ?_
  simp only [View.readAt_eq_ld, harg3.read_unread, harg4.read_unread, harg5.read_unread, harg6.read_unread, harg8.read_unread, ldA, ldB, ldC]

end

/-! ## The payloads -/

abbrev dims := dot_S1088x1408_S1408x1024_S1088x1024_1_0_0_1_n_n

theorem lhs_at (j : S1088x1024.Idx) (k : Fin 1408) : dims.lhsIdx j ((contrEquiv1 dims 1408 rfl rfl).symm k) = ix2 (j 0) k := by
  funext a; apply Fin.ext
  match a with
  | ⟨0, _⟩ =>
    show (dims.lhsIdx j _ 0).val = (j 0).val
    unfold DotDims.lhsIdx
    rw [dif_neg (show ¬(0 : Fin S1088x1408.rank) ∈ dims.lhsBatch by decide), dif_pos (show (0 : Fin S1088x1408.rank) ∈ dims.lhsNonContracting by decide)]
    rfl
  | ⟨1, _⟩ => exact (dims.lhsIdx_val_of_single rfl j _).trans (contrEquiv1_symm_val dims 1408 rfl rfl k)

theorem rhs_at (j : S1088x1024.Idx) (k : Fin 1408) : dims.rhsIdx j ((contrEquiv1 dims 1408 rfl rfl).symm k) = ix2 k (j 1) := by
  funext a; apply Fin.ext
  match a with
  | ⟨0, _⟩ => exact (dims.rhsIdx_val_of_single rfl j _).trans (contrEquiv1_symm_val dims 1408 rfl rfl k)
  | ⟨1, _⟩ =>
    show (dims.rhsIdx j _ 1).val = (j 1).val
    unfold DotDims.rhsIdx
    rw [dif_neg (show ¬(1 : Fin S1408x1024.rank) ∈ dims.rhsBatch by decide), dif_pos (show (1 : Fin S1408x1024.rank) ∈ dims.rhsNonContracting by decide)]
    rfl

/-- A product of two blocks, entry by entry. -/
abbrev prod (x : Vec Ideal S1088x1408 .bf16) (y : Vec Ideal S1408x1024 .bf16) (j : S1088x1024.Idx) : EReal :=
  ∑ k : Fin 1408, x (ix2 (j 0) k) * y (ix2 k (j 1))

theorem matmul_at (x : Vec Ideal S1088x1408 .bf16) (y : Vec Ideal S1408x1024 .bf16) (j : S1088x1024.Idx) :
    FloatOps.matmul (F := Ideal) (φ₁ := .bf16) (φ₂ := .bf16) dims none x y (constant S1088x1024 .f32 0x00000000#32) j = prod x y j := by
  rw [Ideal.matmul_constant_zero_apply, ← Equiv.sum_comp (contrEquiv1 dims 1408 rfl rfl).symm]
  refine Finset.sum_congr rfl fun k _ => ?_
  rw [lhs_at, rhs_at]
  rfl

variable (x0 : Vec Ideal S1088x1408 .bf16) (x1 : Vec Ideal S1408x1024 .bf16) (x2 : Vec Ideal S1088x1408 .bf16) (x3 : Vec Ideal S1408x1024 .bf16) (xs : Vec Ideal S1088x1024 .f32)

theorem pay1_at (j : S1088x1024.Idx) : k0_pay1 (F := Ideal) x0 x1 x2 x3 j = prod x0 x1 j + prod x2 x3 j := by
  unfold k0_pay1
  rw [shapeCast_self]
  exact congrArg₂ (· + ·) (matmul_at x0 x1 j) (matmul_at x2 x3 j)

theorem pay2_at (j : S1088x1024.Idx) : k0_pay2 (F := Ideal) xs x0 x1 x2 x3 j = xs j + (prod x0 x1 j + prod x2 x3 j) := by
  unfold k0_pay2
  rw [shapeCast_self]
  exact congrArg (xs j + ·) (congrArg₂ (· + ·) (matmul_at x0 x1 j) (matmul_at x2 x3 j))

/-! ## The blocks -/

variable (m : (ℓ : Loc nD τ sig) → Buf (Elt Ideal) ℓ) (c : Dev nD)

theorem at0 (t : Fin cfg0.N) : win0_0.index t (0 : Fin 2) = t.val / 8 ∧ win0_0.index t (1 : Fin 2) = t.val % 4 :=
  (by decide +kernel : ∀ t : Fin grid0.N, win0_0.index t (0 : Fin 2) = t.val / 8 ∧ win0_0.index t (1 : Fin 2) = t.val % 4) t

theorem at1 (t : Fin cfg0.N) : win0_1.index t (0 : Fin 2) = t.val % 4 ∧ win0_1.index t (1 : Fin 2) = t.val / 4 % 2 :=
  (by decide +kernel : ∀ t : Fin grid0.N, win0_1.index t (0 : Fin 2) = t.val % 4 ∧ win0_1.index t (1 : Fin 2) = t.val / 4 % 2) t

theorem at2 (t : Fin cfg0.N) : win0_2.index t (0 : Fin 2) = t.val / 8 ∧ win0_2.index t (1 : Fin 2) = t.val % 4 :=
  (by decide +kernel : ∀ t : Fin grid0.N, win0_2.index t (0 : Fin 2) = t.val / 8 ∧ win0_2.index t (1 : Fin 2) = t.val % 4) t

theorem at3 (t : Fin cfg0.N) : win0_3.index t (0 : Fin 2) = t.val % 4 ∧ win0_3.index t (1 : Fin 2) = t.val / 4 % 2 :=
  (by decide +kernel : ∀ t : Fin grid0.N, win0_3.index t (0 : Fin 2) = t.val % 4 ∧ win0_3.index t (1 : Fin 2) = t.val / 4 % 2) t

theorem at4 (t : Fin cfg0.N) : win0_4.index t (0 : Fin 2) = t.val / 8 ∧ win0_4.index t (1 : Fin 2) = t.val / 4 % 2 :=
  (by decide +kernel : ∀ t : Fin grid0.N, win0_4.index t (0 : Fin 2) = t.val / 8 ∧ win0_4.index t (1 : Fin 2) = t.val / 4 % 2) t

/-- Row `r` of block row `s / 2`, and column `l` of block column `s % 2`. -/
abbrev row (s : Fin 4) (r : Fin 1088) : Fin 2176 := ⟨1088 * (s.val / 2) + r.val, by omega⟩
abbrev col (s : Fin 4) (l : Fin 1024) : Fin 2048 := ⟨1024 * (s.val % 2) + l.val, by omega⟩
abbrev mid (q : Fin 4) (k : Fin 1408) : Fin 5632 := ⟨1408 * q.val + k.val, by omega⟩

/-- One inner block's share of an entry of a product. -/
abbrev share (a : Vec Ideal S2176x5632 .bf16) (b : Vec Ideal S5632x2048 .bf16) (s q : Fin 4) (r : Fin 1088) (l : Fin 1024) : EReal :=
  ∑ k : Fin 1408, a (ix2 (row s r) (mid q k)) * b (ix2 (mid q k) (col s l))

/-- The share of one inner block `q` in the entry of block `s` at row `r` and column `l`. -/
abbrev part (s q : Fin 4) (r : Fin 1088) (l : Fin 1024) : EReal :=
  share (m ((c : Thread nD τ).loc main_arg0)) (m ((c : Thread nD τ).loc main_arg2)) s q r l
    + share (m ((c : Thread nD τ).loc main_arg1)) (m ((c : Thread nD τ).loc main_arg3)) s q r l

variable (t : Fin cfg0.N) (s q : Fin 4) (ht : t.val = 4 * s.val + q.val)
include ht

theorem blk0 (r : Fin 1088) (k : Fin 1408) : (iblk m c 0 t : Vec Ideal S1088x1408 .bf16) (ix2 r k) = m ((c : Thread nD τ).loc main_arg0) (ix2 (row s r) (mid q k)) := by
  obtain ⟨e0, e1⟩ := at0 t
  refine congrArg (V m c main_arg0) ?_
  funext a; apply Fin.ext
  match a with
  | ⟨0, _⟩ => show win0_0.index t (0 : Fin 2) * 1088 + 1 * r.val = 1088 * (s.val / 2) + r.val; rw [e0]; omega
  | ⟨1, _⟩ => show win0_0.index t (1 : Fin 2) * 1408 + 1 * k.val = 1408 * q.val + k.val; rw [e1]; omega

theorem blk1 (k : Fin 1408) (l : Fin 1024) : (iblk m c 1 t : Vec Ideal S1408x1024 .bf16) (ix2 k l) = m ((c : Thread nD τ).loc main_arg2) (ix2 (mid q k) (col s l)) := by
  obtain ⟨e0, e1⟩ := at1 t
  refine congrArg (V m c main_arg2) ?_
  funext a; apply Fin.ext
  match a with
  | ⟨0, _⟩ => show win0_1.index t (0 : Fin 2) * 1408 + 1 * k.val = 1408 * q.val + k.val; rw [e0]; omega
  | ⟨1, _⟩ => show win0_1.index t (1 : Fin 2) * 1024 + 1 * l.val = 1024 * (s.val % 2) + l.val; rw [e1]; omega

theorem blk2 (r : Fin 1088) (k : Fin 1408) : (iblk m c 2 t : Vec Ideal S1088x1408 .bf16) (ix2 r k) = m ((c : Thread nD τ).loc main_arg1) (ix2 (row s r) (mid q k)) := by
  obtain ⟨e0, e1⟩ := at2 t
  refine congrArg (V m c main_arg1) ?_
  funext a; apply Fin.ext
  match a with
  | ⟨0, _⟩ => show win0_2.index t (0 : Fin 2) * 1088 + 1 * r.val = 1088 * (s.val / 2) + r.val; rw [e0]; omega
  | ⟨1, _⟩ => show win0_2.index t (1 : Fin 2) * 1408 + 1 * k.val = 1408 * q.val + k.val; rw [e1]; omega

theorem blk3 (k : Fin 1408) (l : Fin 1024) : (iblk m c 3 t : Vec Ideal S1408x1024 .bf16) (ix2 k l) = m ((c : Thread nD τ).loc main_arg3) (ix2 (mid q k) (col s l)) := by
  obtain ⟨e0, e1⟩ := at3 t
  refine congrArg (V m c main_arg3) ?_
  funext a; apply Fin.ext
  match a with
  | ⟨0, _⟩ => show win0_3.index t (0 : Fin 2) * 1408 + 1 * k.val = 1408 * q.val + k.val; rw [e0]; omega
  | ⟨1, _⟩ => show win0_3.index t (1 : Fin 2) * 1024 + 1 * l.val = 1024 * (s.val % 2) + l.val; rw [e1]; omega

theorem part_at (y : S1088x1024.Idx) :
    prod (iblk m c 0 t) (iblk m c 1 t) y + prod (iblk m c 2 t) (iblk m c 3 t) y = part m c s q (y 0) (y 1) :=
  congrArg₂ (· + ·)
    (Finset.sum_congr rfl fun k _ => congrArg₂ (fun a b : EReal => a * b) (blk0 m c t s q ht (y 0) k) (blk1 m c t s q ht k (y 1)))
    (Finset.sum_congr rfl fun k _ => congrArg₂ (fun a b : EReal => a * b) (blk2 m c t s q ht (y 0) k) (blk3 m c t s q ht k (y 1)))

omit ht

/-! ## The accumulation -/

theorem scr_first (n : ℕ) (hn : n < cfg0.N) (h : n = 4 * s.val) (y : S1088x1024.Idx) :
    (outsAt0 m c n hn).2 y = part m c s 0 (y 0) (y 1) := by
  have e : (outsAt0 m c n hn).2 = k0_pay1 (F := Ideal) (iblk m c 0 ⟨n, hn⟩) (iblk m c 1 ⟨n, hn⟩) (iblk m c 2 ⟨n, hn⟩) (iblk m c 3 ⟨n, hn⟩) := by
    refine (congrArg Prod.snd (outsAt0_A m c ⟨n, hn⟩ (by (try dsimp only); omega) (by (try dsimp only); omega) (by (try dsimp only); omega))).trans ?_
    dsimp only
    apply first
  rw [e]
  exact (pay1_at _ _ _ _ y).trans (part_at m c ⟨n, hn⟩ s 0 h y)

theorem scr_next (n : ℕ) (hn : n + 1 < cfg0.N) (h : n + 1 = 4 * s.val + q.val) (h1 : 1 ≤ q.val) (h2 : q.val ≠ 3) (y : S1088x1024.Idx) :
    (outsAt0 m c (n + 1) hn).2 y = (outsAt0 m c n (Nat.lt_of_succ_lt hn)).2 y + part m c s q (y 0) (y 1) := by
  have e : (outsAt0 m c (n + 1) hn).2 = k0_pay2 (F := Ideal) (outsAt0 m c n (Nat.lt_of_succ_lt hn)).2 (iblk m c 0 ⟨n + 1, hn⟩) (iblk m c 1 ⟨n + 1, hn⟩) (iblk m c 2 ⟨n + 1, hn⟩) (iblk m c 3 ⟨n + 1, hn⟩) := by
    refine (congrArg Prod.snd (outsAt0_B m c ⟨n + 1, hn⟩ (by (try dsimp only); omega) (by (try dsimp only); omega) (by (try dsimp only); omega))).trans ?_
    dsimp only
    apply next
  rw [e]
  exact (pay2_at _ _ _ _ _ y).trans (congrArg ((outsAt0 m c n (Nat.lt_of_succ_lt hn)).2 y + ·) (part_at m c ⟨n + 1, hn⟩ s q h y))

theorem out_last (n : ℕ) (hn : n + 1 < cfg0.N) (h : n + 1 = 4 * s.val + 3) (y : S1088x1024.Idx) :
    (outsAt0 m c (n + 1) hn).1 y = (outsAt0 m c n (Nat.lt_of_succ_lt hn)).2 y + part m c s 3 (y 0) (y 1) := by
  have e : (outsAt0 m c (n + 1) hn).1 = k0_pay2 (F := Ideal) (outsAt0 m c n (Nat.lt_of_succ_lt hn)).2 (iblk m c 0 ⟨n + 1, hn⟩) (iblk m c 1 ⟨n + 1, hn⟩) (iblk m c 2 ⟨n + 1, hn⟩) (iblk m c 3 ⟨n + 1, hn⟩) := by
    refine (congrArg Prod.fst (outsAt0_C m c ⟨n + 1, hn⟩ (by (try dsimp only); omega) (by (try dsimp only); omega) (by (try dsimp only); omega))).trans ?_
    dsimp only
    apply done
  rw [e]
  exact (pay2_at _ _ _ _ _ y).trans (congrArg ((outsAt0 m c n (Nat.lt_of_succ_lt hn)).2 y + ·) (part_at m c ⟨n + 1, hn⟩ s 3 h y))

theorem split (f : Fin 5632 → EReal) : ∑ k : Fin 5632, f k = ∑ q : Fin 4, ∑ k : Fin 1408, f (mid q k) := by
  rw [← (finProdFinEquiv (m := 4) (n := 1408)).sum_comp f, Fintype.sum_prod_type]
  refine Finset.sum_congr rfl fun q _ => Finset.sum_congr rfl fun k _ => congrArg f (Fin.ext ?_)
  show k.val + 1408 * q.val = 1408 * q.val + k.val
  omega

/-- The sum of two products, entry by entry. -/
def inner (g u : Vec Ideal S2176x5632 .bf16) (wg wu : Vec Ideal S5632x2048 .bf16) : S2176x2048.Idx → EReal := fun i =>
  (∑ k : Fin 5632, g (ix2 (i 0) k) * wg (ix2 k (i 1)) : EReal) + (∑ k : Fin 5632, u (ix2 (i 0) k) * wu (ix2 k (i 1)) : EReal)

/-- The array the kernel leaves. -/
def last : Buf (Elt Ideal) ((c : Thread nD τ).loc main_v0) :=
  inner (m ((c : Thread nD τ).loc main_arg0)) (m ((c : Thread nD τ).loc main_arg1)) (m ((c : Thread nD τ).loc main_arg2)) (m ((c : Thread nD τ).loc main_arg3))

theorem last_at (r : Fin 1088) (l : Fin 1024) : last m c (ix2 (row s r) (col s l)) = (∑ q : Fin 4, part m c s q r l : EReal) := by
  unfold last inner
  rw [split, split]
  exact (Finset.sum_add_distrib (s := Finset.univ)
    (f := fun q : Fin 4 => share (m ((c : Thread nD τ).loc main_arg0)) (m ((c : Thread nD τ).loc main_arg2)) s q r l)
    (g := fun q : Fin 4 => share (m ((c : Thread nD τ).loc main_arg1)) (m ((c : Thread nD τ).loc main_arg3)) s q r l)).symm

theorem out_at (n : ℕ) (hn : n < cfg0.N) (h : n = 4 * s.val + 3) (y : S1088x1024.Idx) :
    (outsAt0 m c n hn).1 y = last m c (ix2 (row s (y 0)) (col s (y 1))) := by
  subst h
  have a0 := scr_first m c s (4 * s.val) (by omega) rfl y
  have a1 := scr_next m c s 1 (4 * s.val) (by omega) rfl (by decide) (by decide) y
  have a2 := scr_next m c s 2 (4 * s.val + 1) (by omega) rfl (by decide) (by decide) y
  have a3 := out_last m c s (4 * s.val + 2) hn rfl y
  refine Eq.trans ?_ (last_at m c s (y 0) (y 1)).symm
  refine Eq.trans ?_ (Fin.sum_univ_four (fun q : Fin 4 => part m c s q (y 0) (y 1))).symm
  exact a3.trans (congrArg (fun z : EReal => z + part m c s 3 (y 0) (y 1)) (a2.trans (congrArg (fun z : EReal => z + part m c s 2 (y 0) (y 1))
    (a1.trans (congrArg (fun z : EReal => z + part m c s 1 (y 0) (y 1)) a0)))))

theorem pt_lt : t.val < 16 := lt_of_lt_of_eq t.isLt (by decide +kernel)

theorem flushed (hf : (cfg0.win 4).flush t = true) : (dats m 0 c).flushed 4 t = ((cfg0.win 4).blk t).view.read (Elt Ideal) (last m c) := by
  have hq := (flush0_4 t).mp hf
  have hN := pt_lt t
  rw [Value.flushed4]
  obtain ⟨e0, e1⟩ := at4 t
  funext y
  have hy0 : (y 0).val < 1088 := (y 0).isLt
  have hy1 : (y 1).val < 1024 := (y 1).isLt
  have e : (cfg0.win 4).xinj (grid0.coords t) y = ix2 ⟨(y 0).val, hy0⟩ ⟨(y 1).val, hy1⟩ := by
    funext a; apply Fin.ext
    match a with
    | ⟨0, _⟩ => rfl
    | ⟨1, _⟩ => rfl
  have b : ((cfg0.win 4).blk t).view.emb y = ix2 (row ⟨t.val / 4, by omega⟩ ⟨(y 0).val, hy0⟩) (col ⟨t.val / 4, by omega⟩ ⟨(y 1).val, hy1⟩) := by
    funext a; apply Fin.ext
    match a with
    | ⟨0, _⟩ => show win0_4.index t (0 : Fin 2) * 1088 + 1 * (y 0).val = _; rw [e0]; show _ = 1088 * (t.val / 4 / 2) + (y 0).val; omega
    | ⟨1, _⟩ => show win0_4.index t (1 : Fin 2) * 1024 + 1 * (y 1).val = _; rw [e1]; show _ = 1024 * (t.val / 4 % 2) + (y 1).val; omega
  show (outsAt0 m c t.val t.isLt).1 ((cfg0.win 4).xinj (grid0.coords t) y) = last m c (((cfg0.win 4).blk t).view.emb y)
  rw [e, b]
  exact out_at m c ⟨t.val / 4, by omega⟩ t.val t.isLt (by (try dsimp only); omega) _

theorem covered (i : S2176x2048.Idx) : ∃ t : Fin cfg0.N, (cfg0.win 4).flush t = true ∧ i ∈ ((cfg0.win 4).blk t).view.set := by
  have hi0 : (i 0).val < 2176 := (i 0).isLt
  have hi1 : (i 1).val < 2048 := (i 1).isLt
  have hp : 8 * ((i 0).val / 1088) + 4 * ((i 1).val / 1024) + 3 < cfg0.N := lt_of_lt_of_eq (show _ < 16 by omega) (by decide +kernel)
  obtain ⟨t, ht⟩ : ∃ t : Fin cfg0.N, t.val = 8 * ((i 0).val / 1088) + 4 * ((i 1).val / 1024) + 3 := ⟨⟨_, hp⟩, rfl⟩
  obtain ⟨e0, e1⟩ := at4 t
  refine ⟨t, (flush0_4 t).mpr (by omega), ?_⟩
  show i ∈ ((View.whole main_v0).slice (win0_4.rect t)).set
  rw [View.set_slice_whole, Rect.mem_set_unit]
  intro a
  match a with
  | ⟨0, _⟩ =>
    show win0_4.index t (0 : Fin 2) * 1088 ≤ (i 0).val ∧ (i 0).val < win0_4.index t (0 : Fin 2) * 1088 + 1088
    rw [e0]; omega
  | ⟨1, _⟩ =>
    show win0_4.index t (1 : Fin 2) * 1024 ≤ (i 1).val ∧ (i 1).val < win0_4.index t (1 : Fin 2) * 1024 + 1024
    rw [e1]; omega

theorem final : (dats m 0 c).arrAt 4 cfg0.N = last m c :=
  (dats m 0 c).arrAt_eq_of_cover 4 _ (fun t hf => flushed m c t hf) (fun i => covered i)

/-- The reference adds the two products the other way round. -/
theorem ref (g u : Vec Ideal S2176x5632 .bf16) (wg wu : Vec Ideal S5632x2048 .bf16) : Cert.Reference5Ideal.Read.val_main_v11 (F := Ideal) g u wg wu = inner g u wg wu := by
  funext i
  refine (Cert.Reference5Ideal.Read.val_main_v11_apply g u wg wu i).trans ?_
  refine (congrArg₂ (· + ·) ((Cert.Reference5Ideal.Read.val_main_v9_apply u wu i).trans ?_) ((Cert.Reference5Ideal.Read.val_main_v10_apply g wg i).trans ?_)).trans
    (add_comm (∑ k : Fin 5632, (u (ix2 (i 0) k) * wu (ix2 k (i 1)) : EReal)) (∑ k : Fin 5632, (g (ix2 (i 0) k) * wg (ix2 k (i 1)) : EReal)))
  · refine Finset.sum_congr rfl fun k _ => ?_
    rw [Cert.Reference5Ideal.Read.val_main_v7_apply]
    refine congrArg₂ (· * ·) (congrArg u ?_) (congrArg wu ?_)
    · funext x; match x with | ⟨0, _⟩ => rfl | ⟨1, _⟩ => rfl
    · funext x; match x with | ⟨0, _⟩ => rfl | ⟨1, _⟩ => rfl
  · refine Finset.sum_congr rfl fun k _ => ?_
    rw [Cert.Reference5Ideal.Read.val_main_v5_apply]
    refine congrArg₂ (· * ·) (congrArg g ?_) (congrArg wg ?_)
    · funext x; match x with | ⟨0, _⟩ => rfl | ⟨1, _⟩ => rfl
    · funext x; match x with | ⟨0, _⟩ => rfl | ⟨1, _⟩ => rfl

end Cert.Kernel5Ideal.Inner

end
-- ==== Proof.Up.lean ====
module

public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read

@[expose] public section

/-! The network's gate, up projection and activation: each block is a block of the whole product's. -/

set_option maxRecDepth 16384

noncomputable section

namespace Cert.Kernel6Ideal.Up

open Idealize.ShloMosaic Idealize.SL.Sem Cert.Kernel6Ideal Cert.Kernel6Ideal.Gen Idealize.ShloMosaic.TcCoe Idealize.ShloMosaic.ValueIdx
open scoped BigOperators

theorem z2 : (![0, 0] : Fin 2 → ℕ) = fun _ => 0 := by funext a; match a with | ⟨0, _⟩ => rfl | ⟨1, _⟩ => rfl

theorem ldA (x : Vec Ideal S1088x2048 .bf16) : View.ld x (Rect.unit ![0, 0] ![1088, 2048] inb_S1088x2048_S1088x2048_0_0) = x :=
  View.ld_unit_zero (S := S1088x2048) z2 _ x

theorem ldB (x : Vec Ideal S512x2048 .bf16) : View.ld x (Rect.unit ![0, 0] ![512, 2048] inb_S512x2048_S512x2048_0_0) = x :=
  View.ld_unit_zero (S := S512x2048) z2 _ x

/-! ## The payloads -/

abbrev dims := dot_S1088x2048_S512x2048_S1088x512_1_1_0_0_n_n

theorem lhs_at (j : S1088x512.Idx) (k : Fin 2048) : dims.lhsIdx j ((contrEquiv1 dims 2048 rfl rfl).symm k) = ix2 (j 0) k := by
  funext a; apply Fin.ext
  match a with
  | ⟨0, _⟩ =>
    show (dims.lhsIdx j _ 0).val = (j 0).val
    unfold DotDims.lhsIdx
    rw [dif_neg (show ¬(0 : Fin S1088x2048.rank) ∈ dims.lhsBatch by decide), dif_pos (show (0 : Fin S1088x2048.rank) ∈ dims.lhsNonContracting by decide)]
    rfl
  | ⟨1, _⟩ => exact (dims.lhsIdx_val_of_single rfl j _).trans (contrEquiv1_symm_val dims 2048 rfl rfl k)

theorem rhs_at (j : S1088x512.Idx) (k : Fin 2048) : dims.rhsIdx j ((contrEquiv1 dims 2048 rfl rfl).symm k) = ix2 (j 1) k := by
  funext a; apply Fin.ext
  match a with
  | ⟨0, _⟩ =>
    show (dims.rhsIdx j _ 0).val = (j 1).val
    unfold DotDims.rhsIdx
    rw [dif_neg (show ¬(0 : Fin S512x2048.rank) ∈ dims.rhsBatch by decide), dif_pos (show (0 : Fin S512x2048.rank) ∈ dims.rhsNonContracting by decide)]
    rfl
  | ⟨1, _⟩ => exact (dims.rhsIdx_val_of_single rfl j _).trans (contrEquiv1_symm_val dims 2048 rfl rfl k)

/-- A product of two blocks along their rows, entry by entry. -/
abbrev prod (x : Vec Ideal S1088x2048 .bf16) (y : Vec Ideal S512x2048 .bf16) (j : S1088x512.Idx) : EReal :=
  ∑ k : Fin 2048, x (ix2 (j 0) k) * y (ix2 (j 1) k)

theorem matmul_at (x : Vec Ideal S1088x2048 .bf16) (y : Vec Ideal S512x2048 .bf16) (j : S1088x512.Idx) :
    FloatOps.matmul (F := Ideal) (φ₁ := .bf16) (φ₂ := .bf16) dims none x y (constant S1088x512 .f32 0x00000000#32) j = prod x y j := by
  rw [Ideal.matmul_constant_zero_apply, ← Equiv.sum_comp (contrEquiv1 dims 2048 rfl rfl).symm]
  refine Finset.sum_congr rfl fun k _ => ?_
  rw [lhs_at, rhs_at]
  rfl

/-- The logistic function, as both programs write it, and the gated activation. -/
def logi (g : EReal) : EReal := Ideal.div (Ideal.ofBits .f32 0x3F800000#32) (Ideal.ofBits .f32 0x3F800000#32 + Ideal.exp (-g))
def gated (g u : EReal) : EReal := g * logi g * u

variable (x0 : Vec Ideal S1088x2048 .bf16) (x1 x2 : Vec Ideal S512x2048 .bf16)

theorem pay_gate (j : S1088x512.Idx) : k0_pay3 (F := Ideal) x0 x1 j = prod x0 x1 j := matmul_at x0 x1 j

theorem pay_up (j : S1088x512.Idx) : k0_pay4 (F := Ideal) x0 x2 j = prod x0 x2 j := matmul_at x0 x2 j

theorem neg_of_sub (g : EReal) : Ideal.ofBits .f32 0x00000000#32 - g = -g := by
  rw [show Ideal.ofBits .f32 0x00000000#32 = 0 from by simp [Ideal.ofBits, Ideal.ieee]]
  exact zero_sub g

theorem pay_act (j : S1088x512.Idx) : k0_pay5 (F := Ideal) x0 x1 x2 j = gated (prod x0 x1 j) (prod x0 x2 j) := by
  have e1 : k0_pay1 (F := Ideal) x0 x1 j = prod x0 x1 j := matmul_at x0 x1 j
  have e2 : k0_pay2 (F := Ideal) x0 x2 j = prod x0 x2 j := matmul_at x0 x2 j
  show k0_pay1 (F := Ideal) x0 x1 j * Ideal.div (Ideal.ofBits .f32 0x3F800000#32) (Ideal.ofBits .f32 0x3F800000#32
    + Ideal.exp (Ideal.ofBits .f32 0x00000000#32 - k0_pay1 (F := Ideal) x0 x1 j)) * k0_pay2 (F := Ideal) x0 x2 j = _
  rw [e1, e2, neg_of_sub]
  rfl

theorem out3_eq : out0_3 (F := Ideal) x0 x1 x2 = k0_pay3 x0 x1 := by
  unfold out0_3
  exact (View.canon_unit_zero z2 _ _).trans (congrArg₂ (k0_pay3 (F := Ideal)) (ldA x0) (ldB x1))

theorem out4_eq : out0_4 (F := Ideal) x0 x1 x2 = k0_pay4 x0 x2 := by
  unfold out0_4
  exact (View.canon_unit_zero z2 _ _).trans (congrArg₂ (k0_pay4 (F := Ideal)) (ldA x0) (ldB x2))

theorem out5_eq : out0_5 (F := Ideal) x0 x1 x2 = k0_pay5 x0 x1 x2 := by
  unfold out0_5
  refine (View.canon_unit_zero z2 _ _).trans ?_
  rw [show View.ld x0 r0_0 = x0 from ldA x0, show View.ld x1 r0_1 = x1 from ldB x1, show View.ld x2 r0_1 = x2 from ldB x2]

/-! ## The blocks -/

variable (m : (ℓ : Loc nD τ sig) → Buf (Elt Ideal) ℓ) (c : Dev nD)

theorem pt_lt (t : Fin cfg0.N) : t.val < 22 := lt_of_lt_of_eq t.isLt (by decide +kernel)

theorem at0 (t : Fin cfg0.N) : win0_0.index t (0 : Fin 2) = t.val / 11 ∧ win0_0.index t (1 : Fin 2) = 0 :=
  (by decide +kernel : ∀ t : Fin grid0.N, win0_0.index t (0 : Fin 2) = t.val / 11 ∧ win0_0.index t (1 : Fin 2) = 0) t

theorem at1 (t : Fin cfg0.N) : win0_1.index t (0 : Fin 2) = t.val % 11 ∧ win0_1.index t (1 : Fin 2) = 0 :=
  (by decide +kernel : ∀ t : Fin grid0.N, win0_1.index t (0 : Fin 2) = t.val % 11 ∧ win0_1.index t (1 : Fin 2) = 0) t

theorem at2 (t : Fin cfg0.N) : win0_2.index t (0 : Fin 2) = t.val % 11 ∧ win0_2.index t (1 : Fin 2) = 0 :=
  (by decide +kernel : ∀ t : Fin grid0.N, win0_2.index t (0 : Fin 2) = t.val % 11 ∧ win0_2.index t (1 : Fin 2) = 0) t

/-- The three results are cut alike. -/
theorem at_out (t : Fin cfg0.N) : (win0_3.index t (0 : Fin 2) = t.val / 11 ∧ win0_3.index t (1 : Fin 2) = t.val % 11)
    ∧ win0_4.index t = win0_3.index t ∧ win0_5.index t = win0_3.index t :=
  (by decide +kernel : ∀ t : Fin grid0.N, (win0_3.index t (0 : Fin 2) = t.val / 11 ∧ win0_3.index t (1 : Fin 2) = t.val % 11)
    ∧ win0_4.index t = win0_3.index t ∧ win0_5.index t = win0_3.index t) t

theorem flush (t : Fin cfg0.N) : (cfg0.win 3).flush t = true ∧ (cfg0.win 4).flush t = true ∧ (cfg0.win 5).flush t = true :=
  (by decide +kernel : ∀ t : Fin grid0.N, (cfg0.win 3).flush t = true ∧ (cfg0.win 4).flush t = true ∧ (cfg0.win 5).flush t = true) t

abbrev row (t : Fin cfg0.N) (r : Fin 1088) : Fin 2176 := ⟨1088 * (t.val / 11) + r.val, by have := pt_lt t; omega⟩
abbrev col (t : Fin cfg0.N) (l : Fin 512) : Fin 5632 := ⟨512 * (t.val % 11) + l.val, by omega⟩

theorem blk0 (t : Fin cfg0.N) (r : Fin 1088) (k : Fin 2048) : (iblk m c 0 t : Vec Ideal S1088x2048 .bf16) (ix2 r k) = m ((c : Thread nD τ).loc main_arg0) (ix2 (row t r) k) := by
  obtain ⟨e0, e1⟩ := at0 t
  refine congrArg (V m c main_arg0) ?_
  funext a; apply Fin.ext
  match a with
  | ⟨0, _⟩ => show win0_0.index t (0 : Fin 2) * 1088 + 1 * r.val = 1088 * (t.val / 11) + r.val; rw [e0]; omega
  | ⟨1, _⟩ => show win0_0.index t (1 : Fin 2) * 2048 + 1 * k.val = k.val; rw [e1]; omega

theorem blk1 (t : Fin cfg0.N) (l : Fin 512) (k : Fin 2048) : (iblk m c 1 t : Vec Ideal S512x2048 .bf16) (ix2 l k) = m ((c : Thread nD τ).loc main_arg1) (ix2 (col t l) k) := by
  obtain ⟨e0, e1⟩ := at1 t
  refine congrArg (V m c main_arg1) ?_
  funext a; apply Fin.ext
  match a with
  | ⟨0, _⟩ => show win0_1.index t (0 : Fin 2) * 512 + 1 * l.val = 512 * (t.val % 11) + l.val; rw [e0]; omega
  | ⟨1, _⟩ => show win0_1.index t (1 : Fin 2) * 2048 + 1 * k.val = k.val; rw [e1]; omega

theorem blk2 (t : Fin cfg0.N) (l : Fin 512) (k : Fin 2048) : (iblk m c 2 t : Vec Ideal S512x2048 .bf16) (ix2 l k) = m ((c : Thread nD τ).loc main_arg2) (ix2 (col t l) k) := by
  obtain ⟨e0, e1⟩ := at2 t
  refine congrArg (V m c main_arg2) ?_
  funext a; apply Fin.ext
  match a with
  | ⟨0, _⟩ => show win0_2.index t (0 : Fin 2) * 512 + 1 * l.val = 512 * (t.val % 11) + l.val; rw [e0]; omega
  | ⟨1, _⟩ => show win0_2.index t (1 : Fin 2) * 2048 + 1 * k.val = k.val; rw [e1]; omega

/-- A product of two arrays along their rows, entry by entry. -/
def whole (x : Vec Ideal S2176x2048 .bf16) (w : Vec Ideal S5632x2048 .bf16) : S2176x5632.Idx → EReal := fun i =>
  ∑ k : Fin 2048, x (ix2 (i 0) k) * w (ix2 (i 1) k)

def act (x : Vec Ideal S2176x2048 .bf16) (wg wu : Vec Ideal S5632x2048 .bf16) : S2176x5632.Idx → EReal := fun i =>
  gated (whole x wg i) (whole x wu i)

/-! The arrays the kernel leaves. -/

def last3 : Buf (Elt Ideal) ((c : Thread nD τ).loc main_v0_0) := whole (m ((c : Thread nD τ).loc main_arg0)) (m ((c : Thread nD τ).loc main_arg1))
def last4 : Buf (Elt Ideal) ((c : Thread nD τ).loc main_v0_1) := whole (m ((c : Thread nD τ).loc main_arg0)) (m ((c : Thread nD τ).loc main_arg2))
def last5 : Buf (Elt Ideal) ((c : Thread nD τ).loc main_v0_2) :=
  act (m ((c : Thread nD τ).loc main_arg0)) (m ((c : Thread nD τ).loc main_arg1)) (m ((c : Thread nD τ).loc main_arg2))

theorem gate_at (t : Fin cfg0.N) (r : Fin 1088) (l : Fin 512) : prod (iblk m c 0 t) (iblk m c 1 t) (ix2 r l) = last3 m c (ix2 (row t r) (col t l)) :=
  Finset.sum_congr rfl fun k _ => congrArg₂ (fun a b : EReal => a * b) (blk0 m c t r k) (blk1 m c t l k)

theorem up_at (t : Fin cfg0.N) (r : Fin 1088) (l : Fin 512) : prod (iblk m c 0 t) (iblk m c 2 t) (ix2 r l) = last4 m c (ix2 (row t r) (col t l)) :=
  Finset.sum_congr rfl fun k _ => congrArg₂ (fun a b : EReal => a * b) (blk0 m c t r k) (blk2 m c t l k)

theorem act_at (t : Fin cfg0.N) (r : Fin 1088) (l : Fin 512) :
    gated (prod (iblk m c 0 t) (iblk m c 1 t) (ix2 r l)) (prod (iblk m c 0 t) (iblk m c 2 t) (ix2 r l)) = last5 m c (ix2 (row t r) (col t l)) :=
  congrArg₂ gated (gate_at m c t r l) (up_at m c t r l)

/-- Every index lies in the block of some point. -/
theorem cover_at (i : S2176x5632.Idx) : ∃ t : Fin cfg0.N, (win0_3.index t (0 : Fin 2) * 1088 ≤ (i 0).val ∧ (i 0).val < win0_3.index t (0 : Fin 2) * 1088 + 1088)
    ∧ (win0_3.index t (1 : Fin 2) * 512 ≤ (i 1).val ∧ (i 1).val < win0_3.index t (1 : Fin 2) * 512 + 512) := by
  have hi0 : (i 0).val < 2176 := (i 0).isLt
  have hi1 : (i 1).val < 5632 := (i 1).isLt
  have hp : 11 * ((i 0).val / 1088) + (i 1).val / 512 < cfg0.N := lt_of_lt_of_eq (show _ < 22 by omega) (by decide +kernel)
  obtain ⟨t, ht⟩ : ∃ t : Fin cfg0.N, t.val = 11 * ((i 0).val / 1088) + (i 1).val / 512 := ⟨⟨_, hp⟩, rfl⟩
  obtain ⟨⟨e0, e1⟩, -⟩ := at_out t
  refine ⟨t, ?_, ?_⟩
  · rw [e0]; omega
  · rw [e1]; omega

/-- Where an entry of a point's block lies. -/
theorem place (t : Fin cfg0.N) (r : Fin 1088) (l : Fin 512) : win0_3.index t (0 : Fin 2) * 1088 + 1 * r.val = (row t r).val
    ∧ win0_3.index t (1 : Fin 2) * 512 + 1 * l.val = (col t l).val := by
  obtain ⟨⟨e0, e1⟩, -⟩ := at_out t
  constructor
  · rw [e0]; show _ = 1088 * (t.val / 11) + r.val; omega
  · rw [e1]; show _ = 512 * (t.val % 11) + l.val; omega

/-- The gate. -/
theorem flushed3 (t : Fin cfg0.N) : (dats m 0 c).flushed 3 t = ((cfg0.win 3).blk t).view.read (Elt Ideal) (last3 m c) := by
  rw [Value.flushed3, out3_eq]
  obtain ⟨-, e4, e5⟩ := at_out t
  funext y
  obtain ⟨p0, p1⟩ := place t ⟨(y 0).val, (y 0).isLt⟩ ⟨(y 1).val, (y 1).isLt⟩
  have e : (cfg0.win 3).xinj (grid0.coords t) y = ix2 ⟨(y 0).val, (y 0).isLt⟩ ⟨(y 1).val, (y 1).isLt⟩ := by
    funext a; apply Fin.ext
    match a with
    | ⟨0, _⟩ => rfl
    | ⟨1, _⟩ => rfl
  have b : ((cfg0.win 3).blk t).view.emb y = ix2 (row t ⟨(y 0).val, (y 0).isLt⟩) (col t ⟨(y 1).val, (y 1).isLt⟩) := by
    funext a; apply Fin.ext
    match a with
    | ⟨0, _⟩ => show win0_3.index t (0 : Fin 2) * 1088 + 1 * (y 0).val = _; exact p0
    | ⟨1, _⟩ => show win0_3.index t (1 : Fin 2) * 512 + 1 * (y 1).val = _; exact p1
  show k0_pay3 (F := Ideal) (iblk m c 0 t) (iblk m c 1 t) ((cfg0.win 3).xinj (grid0.coords t) y) = last3 m c (((cfg0.win 3).blk t).view.emb y)
  rw [e, b]
  exact (pay_gate _ _ _).trans (gate_at m c t ⟨(y 0).val, (y 0).isLt⟩ ⟨(y 1).val, (y 1).isLt⟩)

theorem covered3 (i : S2176x5632.Idx) : ∃ t : Fin cfg0.N, (cfg0.win 3).flush t = true ∧ i ∈ ((cfg0.win 3).blk t).view.set := by
  obtain ⟨t, h0, h1⟩ := cover_at i
  obtain ⟨-, e4, e5⟩ := at_out t
  refine ⟨t, by obtain ⟨f3, f4, f5⟩ := flush t; exact f3, ?_⟩
  show i ∈ ((View.whole main_v0_0).slice (win0_3.rect t)).set
  rw [View.set_slice_whole, Rect.mem_set_unit]
  intro a
  match a with
  | ⟨0, _⟩ => show win0_3.index t (0 : Fin 2) * 1088 ≤ (i 0).val ∧ (i 0).val < win0_3.index t (0 : Fin 2) * 1088 + 1088; exact h0
  | ⟨1, _⟩ => show win0_3.index t (1 : Fin 2) * 512 ≤ (i 1).val ∧ (i 1).val < win0_3.index t (1 : Fin 2) * 512 + 512; exact h1

theorem final3 : (dats m 0 c).arrAt 3 cfg0.N = last3 m c :=
  (dats m 0 c).arrAt_eq_of_cover 3 _ (fun t _ => flushed3 m c t) (fun i => covered3 i)

/-- The up projection. -/
theorem flushed4 (t : Fin cfg0.N) : (dats m 0 c).flushed 4 t = ((cfg0.win 4).blk t).view.read (Elt Ideal) (last4 m c) := by
  rw [Value.flushed4, out4_eq]
  obtain ⟨-, e4, e5⟩ := at_out t
  funext y
  obtain ⟨p0, p1⟩ := place t ⟨(y 0).val, (y 0).isLt⟩ ⟨(y 1).val, (y 1).isLt⟩
  have e : (cfg0.win 4).xinj (grid0.coords t) y = ix2 ⟨(y 0).val, (y 0).isLt⟩ ⟨(y 1).val, (y 1).isLt⟩ := by
    funext a; apply Fin.ext
    match a with
    | ⟨0, _⟩ => rfl
    | ⟨1, _⟩ => rfl
  have b : ((cfg0.win 4).blk t).view.emb y = ix2 (row t ⟨(y 0).val, (y 0).isLt⟩) (col t ⟨(y 1).val, (y 1).isLt⟩) := by
    funext a; apply Fin.ext
    match a with
    | ⟨0, _⟩ => show win0_4.index t (0 : Fin 2) * 1088 + 1 * (y 0).val = _; rw [e4]; exact p0
    | ⟨1, _⟩ => show win0_4.index t (1 : Fin 2) * 512 + 1 * (y 1).val = _; rw [e4]; exact p1
  show k0_pay4 (F := Ideal) (iblk m c 0 t) (iblk m c 2 t) ((cfg0.win 4).xinj (grid0.coords t) y) = last4 m c (((cfg0.win 4).blk t).view.emb y)
  rw [e, b]
  exact (pay_up _ _ _).trans (up_at m c t ⟨(y 0).val, (y 0).isLt⟩ ⟨(y 1).val, (y 1).isLt⟩)

theorem covered4 (i : S2176x5632.Idx) : ∃ t : Fin cfg0.N, (cfg0.win 4).flush t = true ∧ i ∈ ((cfg0.win 4).blk t).view.set := by
  obtain ⟨t, h0, h1⟩ := cover_at i
  obtain ⟨-, e4, e5⟩ := at_out t
  refine ⟨t, by obtain ⟨f3, f4, f5⟩ := flush t; exact f4, ?_⟩
  show i ∈ ((View.whole main_v0_1).slice (win0_4.rect t)).set
  rw [View.set_slice_whole, Rect.mem_set_unit]
  intro a
  match a with
  | ⟨0, _⟩ => show win0_4.index t (0 : Fin 2) * 1088 ≤ (i 0).val ∧ (i 0).val < win0_4.index t (0 : Fin 2) * 1088 + 1088; rw [e4]; exact h0
  | ⟨1, _⟩ => show win0_4.index t (1 : Fin 2) * 512 ≤ (i 1).val ∧ (i 1).val < win0_4.index t (1 : Fin 2) * 512 + 512; rw [e4]; exact h1

theorem final4 : (dats m 0 c).arrAt 4 cfg0.N = last4 m c :=
  (dats m 0 c).arrAt_eq_of_cover 4 _ (fun t _ => flushed4 m c t) (fun i => covered4 i)

/-- The activation. -/
theorem flushed5 (t : Fin cfg0.N) : (dats m 0 c).flushed 5 t = ((cfg0.win 5).blk t).view.read (Elt Ideal) (last5 m c) := by
  rw [Value.flushed5, out5_eq]
  obtain ⟨-, e4, e5⟩ := at_out t
  funext y
  obtain ⟨p0, p1⟩ := place t ⟨(y 0).val, (y 0).isLt⟩ ⟨(y 1).val, (y 1).isLt⟩
  have e : (cfg0.win 5).xinj (grid0.coords t) y = ix2 ⟨(y 0).val, (y 0).isLt⟩ ⟨(y 1).val, (y 1).isLt⟩ := by
    funext a; apply Fin.ext
    match a with
    | ⟨0, _⟩ => rfl
    | ⟨1, _⟩ => rfl
  have b : ((cfg0.win 5).blk t).view.emb y = ix2 (row t ⟨(y 0).val, (y 0).isLt⟩) (col t ⟨(y 1).val, (y 1).isLt⟩) := by
    funext a; apply Fin.ext
    match a with
    | ⟨0, _⟩ => show win0_5.index t (0 : Fin 2) * 1088 + 1 * (y 0).val = _; rw [e5]; exact p0
    | ⟨1, _⟩ => show win0_5.index t (1 : Fin 2) * 512 + 1 * (y 1).val = _; rw [e5]; exact p1
  show k0_pay5 (F := Ideal) (iblk m c 0 t) (iblk m c 1 t) (iblk m c 2 t) ((cfg0.win 5).xinj (grid0.coords t) y) = last5 m c (((cfg0.win 5).blk t).view.emb y)
  rw [e, b]
  exact (pay_act _ _ _ _).trans (act_at m c t ⟨(y 0).val, (y 0).isLt⟩ ⟨(y 1).val, (y 1).isLt⟩)

theorem covered5 (i : S2176x5632.Idx) : ∃ t : Fin cfg0.N, (cfg0.win 5).flush t = true ∧ i ∈ ((cfg0.win 5).blk t).view.set := by
  obtain ⟨t, h0, h1⟩ := cover_at i
  obtain ⟨-, e4, e5⟩ := at_out t
  refine ⟨t, by obtain ⟨f3, f4, f5⟩ := flush t; exact f5, ?_⟩
  show i ∈ ((View.whole main_v0_2).slice (win0_5.rect t)).set
  rw [View.set_slice_whole, Rect.mem_set_unit]
  intro a
  match a with
  | ⟨0, _⟩ => show win0_5.index t (0 : Fin 2) * 1088 ≤ (i 0).val ∧ (i 0).val < win0_5.index t (0 : Fin 2) * 1088 + 1088; rw [e5]; exact h0
  | ⟨1, _⟩ => show win0_5.index t (1 : Fin 2) * 512 ≤ (i 1).val ∧ (i 1).val < win0_5.index t (1 : Fin 2) * 512 + 512; rw [e5]; exact h1

theorem final5 : (dats m 0 c).arrAt 5 cfg0.N = last5 m c :=
  (dats m 0 c).arrAt_eq_of_cover 5 _ (fun t _ => flushed5 m c t) (fun i => covered5 i)

/-! ## The reference -/

variable (x : Vec Ideal S2176x2048 .bf16) (wg wu : Vec Ideal S5632x2048 .bf16)

theorem ref_gate (i : S2176x5632.Idx) : Cert.Reference6Ideal.Read.val_main_v4 (F := Ideal) x wg i = whole x wg i := by
  refine (Cert.Reference6Ideal.Read.val_main_v4_apply x wg i).trans (Finset.sum_congr rfl fun k _ => ?_)
  rw [Cert.Reference6Ideal.Read.val_main_v3_apply]
  refine congrArg₂ (· * ·) (congrArg x ?_) (congrArg wg ?_)
  · funext a; match a with | ⟨0, _⟩ => rfl | ⟨1, _⟩ => rfl
  · funext a; match a with | ⟨0, _⟩ => rfl | ⟨1, _⟩ => rfl

theorem ref_up (i : S2176x5632.Idx) : Cert.Reference6Ideal.Read.val_main_v6 (F := Ideal) x wu i = whole x wu i := by
  refine (Cert.Reference6Ideal.Read.val_main_v6_apply x wu i).trans (Finset.sum_congr rfl fun k _ => ?_)
  rw [Cert.Reference6Ideal.Read.val_main_v5_apply]
  refine congrArg₂ (· * ·) (congrArg x ?_) (congrArg wu ?_)
  · funext a; match a with | ⟨0, _⟩ => rfl | ⟨1, _⟩ => rfl
  · funext a; match a with | ⟨0, _⟩ => rfl | ⟨1, _⟩ => rfl

theorem ref3 : Cert.Reference6Ideal.Read.val_main_v9 (F := Ideal) x wg = whole x wg := funext fun i => ref_gate x wg i

theorem ref4 : Cert.Reference6Ideal.Read.val_main_v10 (F := Ideal) x wu = whole x wu := funext fun i => ref_up x wu i

theorem ref_sig (i : S2176x5632.Idx) : Cert.Reference6Ideal.Read.val_main_call0_v5 (F := Ideal) x wg i = logi (whole x wg i) := by
  refine (Cert.Reference6Ideal.Read.val_main_call0_v5_apply x wg i).trans ?_
  rw [Cert.Reference6Ideal.Read.val_main_call0_v4_apply, Cert.Reference6Ideal.Read.val_main_call0_v3_apply, Cert.Reference6Ideal.Read.val_main_call0_v2_apply,
    Cert.Reference6Ideal.Read.val_main_call0_v1_apply, Cert.Reference6Ideal.Read.val_main_call0_v0_apply, ref_gate]
  rfl

theorem ref5 : Cert.Reference6Ideal.Read.val_main_v11 (F := Ideal) x wg wu = act x wg wu := by
  funext i
  refine (Cert.Reference6Ideal.Read.val_main_v11_apply x wg wu i).trans ((Cert.Reference6Ideal.Read.val_main_v8_apply x wg wu i).trans ?_)
  exact congrArg₂ (fun a b : EReal => a * b) ((Cert.Reference6Ideal.Read.val_main_v7_apply x wg i).trans
    (congrArg₂ (fun a b : EReal => a * b) (ref_gate x wg i) (ref_sig x wg i))) (ref_up x wu i)

end Cert.Kernel6Ideal.Up

end
-- ==== Proof.Output.lean ====
module

public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read

@[expose] public section

/-! The network's output: two blocks of the product, added in turn, halved and added to the stream. -/

set_option maxRecDepth 16384

noncomputable section

namespace Cert.Kernel7Ideal.Output

open Idealize.ShloMosaic Idealize.SL.Sem Cert.Kernel7Ideal Cert.Kernel7Ideal.Gen Idealize.ShloMosaic.TcCoe Idealize.ShloMosaic.ValueIdx
open scoped BigOperators

theorem z2 : (![0, 0] : Fin 2 → ℕ) = fun _ => 0 := by funext a; match a with | ⟨0, _⟩ => rfl | ⟨1, _⟩ => rfl

theorem ldA (x : Vec Ideal S1088x2816 .bf16) : View.ld x (Rect.unit ![0, 0] ![1088, 2816] inb_S1088x2816_S1088x2816_0_0) = x :=
  View.ld_unit_zero (S := S1088x2816) z2 _ x

theorem ldB (x : Vec Ideal S2816x512 .bf16) : View.ld x (Rect.unit ![0, 0] ![2816, 512] inb_S2816x512_S2816x512_0_0) = x :=
  View.ld_unit_zero (S := S2816x512) z2 _ x

theorem ldC (x : Vec Ideal S1088x512 .f32) : View.ld x (Rect.unit ![0, 0] ![1088, 512] inb_S1088x512_S1088x512_0_0) = x :=
  View.ld_unit_zero (S := S1088x512) z2 _ x

section
variable (c : Dev nD) (i : grid0.Coords) (arg3 : Memref sig .tc .vmem S1088x2816 .bf16) (harg3 : arg3.IsWhole) (arg4 : Memref sig .tc .vmem S2816x512 .bf16) (harg4 : arg4.IsWhole)
  (arg5 : Memref sig .tc .vmem S1088x512 .f32) (harg5 : arg5.IsWhole) (arg6 : Memref sig .tc .vmem S1088x512 .f32) (harg6 : arg6.IsWhole)
  (arg7 : Memref sig .tc .vmem S1088x512 .f32) (harg7 : arg7.IsWhole)
  (x0 : Vec Ideal S1088x2816 .bf16) (x1 : Vec Ideal S2816x512 .bf16) (x2 : Vec Ideal S1088x512 .f32) (xs0 : Vec Ideal S1088x512 .f32)

theorem first hc0 hc1 hc2 : sout0_A_0 (F := Ideal) c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  refine (View.canon_unit_zero z2 _ _).trans ?_
  simp only [View.readAt_eq_ld, harg3.read_unread, harg4.read_unread, ldA, ldB]

theorem done hc0 hc1 hc2 : out0_B_3 (F := Ideal) c i arg3 harg3 arg4 harg4 arg5 harg5 arg6 harg6 arg7 harg7 hc0 hc1 hc2 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 hc2 x0 x1 x2 xs0)]
  refine (View.canon_unit_zero z2 _ _).trans ?_
  refine congrArg₂ (k0_pay3 (F := Ideal)) ?_ ?_
  · unfold kernelRun0_B.sl.v9
    refine (View.readCov_unit_zero _ z2 _ _).trans ?_
    simp only [View.readAt_eq_ld, harg3.read_unread, harg4.read_unread, harg7.read_unread, ldA, ldB, ldC]
  · simp only [View.readAt_eq_ld, harg5.read_unread, ldC]

end

/-! ## The payloads -/

abbrev dims := dot_S1088x2816_S2816x512_S1088x512_1_0_0_1_n_n

theorem lhs_at (j : S1088x512.Idx) (k : Fin 2816) : dims.lhsIdx j ((contrEquiv1 dims 2816 rfl rfl).symm k) = ix2 (j 0) k := by
  funext a; apply Fin.ext
  match a with
  | ⟨0, _⟩ =>
    show (dims.lhsIdx j _ 0).val = (j 0).val
    unfold DotDims.lhsIdx
    rw [dif_neg (show ¬(0 : Fin S1088x2816.rank) ∈ dims.lhsBatch by decide), dif_pos (show (0 : Fin S1088x2816.rank) ∈ dims.lhsNonContracting by decide)]
    rfl
  | ⟨1, _⟩ => exact (dims.lhsIdx_val_of_single rfl j _).trans (contrEquiv1_symm_val dims 2816 rfl rfl k)

theorem rhs_at (j : S1088x512.Idx) (k : Fin 2816) : dims.rhsIdx j ((contrEquiv1 dims 2816 rfl rfl).symm k) = ix2 k (j 1) := by
  funext a; apply Fin.ext
  match a with
  | ⟨0, _⟩ => exact (dims.rhsIdx_val_of_single rfl j _).trans (contrEquiv1_symm_val dims 2816 rfl rfl k)
  | ⟨1, _⟩ =>
    show (dims.rhsIdx j _ 1).val = (j 1).val
    unfold DotDims.rhsIdx
    rw [dif_neg (show ¬(1 : Fin S2816x512.rank) ∈ dims.rhsBatch by decide), dif_pos (show (1 : Fin S2816x512.rank) ∈ dims.rhsNonContracting by decide)]
    rfl

/-- A product of two blocks, entry by entry. -/
abbrev prod (x : Vec Ideal S1088x2816 .bf16) (y : Vec Ideal S2816x512 .bf16) (j : S1088x512.Idx) : EReal :=
  ∑ k : Fin 2816, x (ix2 (j 0) k) * y (ix2 k (j 1))

theorem matmul_at (x : Vec Ideal S1088x2816 .bf16) (y : Vec Ideal S2816x512 .bf16) (j : S1088x512.Idx) :
    FloatOps.matmul (F := Ideal) (φ₁ := .bf16) (φ₂ := .bf16) dims none x y (constant S1088x512 .f32 0x00000000#32) j = prod x y j := by
  rw [Ideal.matmul_constant_zero_apply, ← Equiv.sum_comp (contrEquiv1 dims 2816 rfl rfl).symm]
  refine Finset.sum_congr rfl fun k _ => ?_
  rw [lhs_at, rhs_at]
  rfl

/-- The factor both programs write. -/
abbrev half : EReal := Ideal.ofBits .f32 0x3F000000#32

section
variable (x0 : Vec Ideal S1088x2816 .bf16) (x1 : Vec Ideal S2816x512 .bf16) (x2 xs : Vec Ideal S1088x512 .f32)

theorem pay1_at (j : S1088x512.Idx) : k0_pay1 (F := Ideal) x0 x1 j = prod x0 x1 j := by
  unfold k0_pay1
  rw [shapeCast_self]
  exact matmul_at x0 x1 j

theorem pay2_at (j : S1088x512.Idx) : k0_pay2 (F := Ideal) xs x0 x1 j = xs j + prod x0 x1 j := by
  unfold k0_pay2
  rw [shapeCast_self]
  exact congrArg (fun z : EReal => xs j + z) (matmul_at x0 x1 j)

theorem pay3_at (j : S1088x512.Idx) : k0_pay3 (F := Ideal) (k0_pay2 xs x0 x1) x2 j = (xs j + prod x0 x1 j) * half + x2 j :=
  congrArg (fun z : EReal => z * half + x2 j) (pay2_at x0 x1 xs j)

end

/-! ## The blocks -/

variable (m : (ℓ : Loc nD τ sig) → Buf (Elt Ideal) ℓ) (c : Dev nD)

theorem at0 (t : Fin cfg0.N) : win0_0.index t (0 : Fin 2) = t.val / 8 ∧ win0_0.index t (1 : Fin 2) = t.val % 2 :=
  (by decide +kernel : ∀ t : Fin grid0.N, win0_0.index t (0 : Fin 2) = t.val / 8 ∧ win0_0.index t (1 : Fin 2) = t.val % 2) t

theorem at1 (t : Fin cfg0.N) : win0_1.index t (0 : Fin 2) = t.val % 2 ∧ win0_1.index t (1 : Fin 2) = t.val / 2 % 4 :=
  (by decide +kernel : ∀ t : Fin grid0.N, win0_1.index t (0 : Fin 2) = t.val % 2 ∧ win0_1.index t (1 : Fin 2) = t.val / 2 % 4) t

theorem at2 (t : Fin cfg0.N) : win0_2.index t (0 : Fin 2) = t.val / 8 ∧ win0_2.index t (1 : Fin 2) = t.val / 2 % 4 :=
  (by decide +kernel : ∀ t : Fin grid0.N, win0_2.index t (0 : Fin 2) = t.val / 8 ∧ win0_2.index t (1 : Fin 2) = t.val / 2 % 4) t

theorem at3 (t : Fin cfg0.N) : win0_3.index t (0 : Fin 2) = t.val / 8 ∧ win0_3.index t (1 : Fin 2) = t.val / 2 % 4 :=
  (by decide +kernel : ∀ t : Fin grid0.N, win0_3.index t (0 : Fin 2) = t.val / 8 ∧ win0_3.index t (1 : Fin 2) = t.val / 2 % 4) t

/-- Row `r` of block row `s / 4`, column `l` of block column `s % 4`, and entry `k` of the inner block `q`. -/
abbrev row (s : Fin 8) (r : Fin 1088) : Fin 2176 := ⟨1088 * (s.val / 4) + r.val, by omega⟩
abbrev col (s : Fin 8) (l : Fin 512) : Fin 2048 := ⟨512 * (s.val % 4) + l.val, by omega⟩
abbrev mid (q : Fin 2) (k : Fin 2816) : Fin 5632 := ⟨2816 * q.val + k.val, by omega⟩

/-- One inner block's share of an entry of a product. -/
abbrev share (a : Vec Ideal S2176x5632 .bf16) (b : Vec Ideal S5632x2048 .bf16) (s : Fin 8) (q : Fin 2) (r : Fin 1088) (l : Fin 512) : EReal :=
  ∑ k : Fin 2816, a (ix2 (row s r) (mid q k)) * b (ix2 (mid q k) (col s l))

section
variable (t : Fin cfg0.N) (s : Fin 8) (q : Fin 2) (ht : t.val = 2 * s.val + q.val)
include ht

theorem blk0 (r : Fin 1088) (k : Fin 2816) : (iblk m c 0 t : Vec Ideal S1088x2816 .bf16) (ix2 r k) = m ((c : Thread nD τ).loc main_arg0) (ix2 (row s r) (mid q k)) := by
  obtain ⟨e0, e1⟩ := at0 t
  refine congrArg (V m c main_arg0) ?_
  funext a; apply Fin.ext
  match a with
  | ⟨0, _⟩ => show win0_0.index t (0 : Fin 2) * 1088 + 1 * r.val = 1088 * (s.val / 4) + r.val; rw [e0]; omega
  | ⟨1, _⟩ => show win0_0.index t (1 : Fin 2) * 2816 + 1 * k.val = 2816 * q.val + k.val; rw [e1]; omega

theorem blk1 (k : Fin 2816) (l : Fin 512) : (iblk m c 1 t : Vec Ideal S2816x512 .bf16) (ix2 k l) = m ((c : Thread nD τ).loc main_arg1) (ix2 (mid q k) (col s l)) := by
  obtain ⟨e0, e1⟩ := at1 t
  refine congrArg (V m c main_arg1) ?_
  funext a; apply Fin.ext
  match a with
  | ⟨0, _⟩ => show win0_1.index t (0 : Fin 2) * 2816 + 1 * k.val = 2816 * q.val + k.val; rw [e0]; omega
  | ⟨1, _⟩ => show win0_1.index t (1 : Fin 2) * 512 + 1 * l.val = 512 * (s.val % 4) + l.val; rw [e1]; omega

theorem blk2 (r : Fin 1088) (l : Fin 512) : (iblk m c 2 t : Vec Ideal S1088x512 .f32) (ix2 r l) = m ((c : Thread nD τ).loc main_arg2) (ix2 (row s r) (col s l)) := by
  obtain ⟨e0, e1⟩ := at2 t
  refine congrArg (V m c main_arg2) ?_
  funext a; apply Fin.ext
  match a with
  | ⟨0, _⟩ => show win0_2.index t (0 : Fin 2) * 1088 + 1 * r.val = 1088 * (s.val / 4) + r.val; rw [e0]; omega
  | ⟨1, _⟩ => show win0_2.index t (1 : Fin 2) * 512 + 1 * l.val = 512 * (s.val % 4) + l.val; rw [e1]; omega

theorem part_at (r : Fin 1088) (l : Fin 512) :
    prod (iblk m c 0 t) (iblk m c 1 t) (ix2 r l) = share (m ((c : Thread nD τ).loc main_arg0)) (m ((c : Thread nD τ).loc main_arg1)) s q r l :=
  Finset.sum_congr rfl fun k _ => congrArg₂ (fun a b : EReal => a * b) (blk0 m c t s q ht r k) (blk1 m c t s q ht k l)

end

/-! ## The accumulation -/

theorem split (f : Fin 5632 → EReal) : ∑ k : Fin 5632, f k = ∑ q : Fin 2, ∑ k : Fin 2816, f (mid q k) := by
  rw [← (finProdFinEquiv (m := 2) (n := 2816)).sum_comp f, Fintype.sum_prod_type]
  refine Finset.sum_congr rfl fun q _ => Finset.sum_congr rfl fun k _ => congrArg f (Fin.ext ?_)
  show k.val + 2816 * q.val = 2816 * q.val + k.val
  omega

/-- Half of a product, added to an array, entry by entry. -/
def added (a : Vec Ideal S2176x5632 .bf16) (w : Vec Ideal S5632x2048 .bf16) (h : Vec Ideal S2176x2048 .f32) : S2176x2048.Idx → EReal := fun i =>
  (∑ k : Fin 5632, a (ix2 (i 0) k) * w (ix2 k (i 1)) : EReal) * half + h i

/-- The array the kernel leaves. -/
def last : Buf (Elt Ideal) ((c : Thread nD τ).loc main_v0) :=
  added (m ((c : Thread nD τ).loc main_arg0)) (m ((c : Thread nD τ).loc main_arg1)) (m ((c : Thread nD τ).loc main_arg2))

theorem scr_first (s : Fin 8) (n : ℕ) (hn : n < cfg0.N) (h : n = 2 * s.val) (r : Fin 1088) (l : Fin 512) :
    (outsAt0 m c n hn).2 (ix2 r l) = share (m ((c : Thread nD τ).loc main_arg0)) (m ((c : Thread nD τ).loc main_arg1)) s 0 r l := by
  have e : (outsAt0 m c n hn).2 = k0_pay1 (F := Ideal) (iblk m c 0 ⟨n, hn⟩) (iblk m c 1 ⟨n, hn⟩) := by
    refine (congrArg Prod.snd (outsAt0_A m c ⟨n, hn⟩ (by (try dsimp only); omega) (by (try dsimp only); omega) (by (try dsimp only); omega))).trans ?_
    dsimp only
    apply first
  rw [e]
  exact (pay1_at _ _ _).trans (part_at m c ⟨n, hn⟩ s 0 h r l)

theorem out_at (s : Fin 8) (n : ℕ) (hn : n + 1 < cfg0.N) (h : n = 2 * s.val) (r : Fin 1088) (l : Fin 512) :
    (outsAt0 m c (n + 1) hn).1 (ix2 r l) = last m c (ix2 (row s r) (col s l)) := by
  have e : (outsAt0 m c (n + 1) hn).1 = k0_pay3 (F := Ideal) (k0_pay2 (outsAt0 m c n (Nat.lt_of_succ_lt hn)).2 (iblk m c 0 ⟨n + 1, hn⟩) (iblk m c 1 ⟨n + 1, hn⟩)) (iblk m c 2 ⟨n + 1, hn⟩) := by
    refine (congrArg Prod.fst (outsAt0_B m c ⟨n + 1, hn⟩ (by (try dsimp only); omega) (by (try dsimp only); omega) (by (try dsimp only); omega))).trans ?_
    dsimp only
    apply done
  rw [e]
  refine (pay3_at _ _ _ _ _).trans ?_
  refine congrArg₂ (fun z w : EReal => z * half + w) ?_ (blk2 m c ⟨n + 1, hn⟩ s 1 (by subst h; rfl) r l)
  refine Eq.trans ?_ (split _).symm
  refine Eq.trans ?_ (Fin.sum_univ_two (fun q : Fin 2 => share (m ((c : Thread nD τ).loc main_arg0)) (m ((c : Thread nD τ).loc main_arg1)) s q r l)).symm
  exact congrArg₂ (fun z w : EReal => z + w) (scr_first m c s n (Nat.lt_of_succ_lt hn) h r l) (part_at m c ⟨n + 1, hn⟩ s 1 (by subst h; rfl) r l)

theorem pt_lt (t : Fin cfg0.N) : t.val < 16 := lt_of_lt_of_eq t.isLt (by decide +kernel)

theorem flushed (t : Fin cfg0.N) (hf : (cfg0.win 3).flush t = true) : (dats m 0 c).flushed 3 t = ((cfg0.win 3).blk t).view.read (Elt Ideal) (last m c) := by
  have hq := (flush0_3 t).mp hf
  have hN := pt_lt t
  rw [Value.flushed3]
  obtain ⟨e0, e1⟩ := at3 t
  obtain ⟨n, hn⟩ := t
  obtain ⟨n, rfl⟩ : ∃ k, n = k + 1 := ⟨n - 1, by (try dsimp only at hq); omega⟩
  (try dsimp only at hq hN e0 e1)
  funext y
  have hy0 : (y 0).val < 1088 := (y 0).isLt
  have hy1 : (y 1).val < 512 := (y 1).isLt
  have e : (cfg0.win 3).xinj (grid0.coords ⟨n + 1, hn⟩) y = ix2 ⟨(y 0).val, hy0⟩ ⟨(y 1).val, hy1⟩ := by
    funext a; apply Fin.ext
    match a with
    | ⟨0, _⟩ => rfl
    | ⟨1, _⟩ => rfl
  have b : ((cfg0.win 3).blk ⟨n + 1, hn⟩).view.emb y = ix2 (row ⟨n / 2, by omega⟩ ⟨(y 0).val, hy0⟩) (col ⟨n / 2, by omega⟩ ⟨(y 1).val, hy1⟩) := by
    funext a; apply Fin.ext
    match a with
    | ⟨0, _⟩ => show win0_3.index ⟨n + 1, hn⟩ (0 : Fin 2) * 1088 + 1 * (y 0).val = _; rw [e0]; show _ = 1088 * (n / 2 / 4) + (y 0).val; omega
    | ⟨1, _⟩ => show win0_3.index ⟨n + 1, hn⟩ (1 : Fin 2) * 512 + 1 * (y 1).val = _; rw [e1]; show _ = 512 * (n / 2 % 4) + (y 1).val; omega
  show (outsAt0 m c (n + 1) hn).1 ((cfg0.win 3).xinj (grid0.coords ⟨n + 1, hn⟩) y) = last m c (((cfg0.win 3).blk ⟨n + 1, hn⟩).view.emb y)
  rw [e, b]
  exact out_at m c ⟨n / 2, by omega⟩ n hn (by (try dsimp only); omega) _ _

theorem covered (i : S2176x2048.Idx) : ∃ t : Fin cfg0.N, (cfg0.win 3).flush t = true ∧ i ∈ ((cfg0.win 3).blk t).view.set := by
  have hi0 : (i 0).val < 2176 := (i 0).isLt
  have hi1 : (i 1).val < 2048 := (i 1).isLt
  have hp : 8 * ((i 0).val / 1088) + 2 * ((i 1).val / 512) + 1 < cfg0.N := lt_of_lt_of_eq (show _ < 16 by omega) (by decide +kernel)
  obtain ⟨t, ht⟩ : ∃ t : Fin cfg0.N, t.val = 8 * ((i 0).val / 1088) + 2 * ((i 1).val / 512) + 1 := ⟨⟨_, hp⟩, rfl⟩
  obtain ⟨e0, e1⟩ := at3 t
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t (0 : Fin 2) * 1088 ≤ (i 0).val ∧ (i 0).val < win0_3.index t (0 : Fin 2) * 1088 + 1088
    rw [e0]; omega
  | ⟨1, _⟩ =>
    show win0_3.index t (1 : Fin 2) * 512 ≤ (i 1).val ∧ (i 1).val < win0_3.index t (1 : Fin 2) * 512 + 512
    rw [e1]; omega

theorem final : (dats m 0 c).arrAt 3 cfg0.N = last m c :=
  (dats m 0 c).arrAt_eq_of_cover 3 _ (fun t hf => flushed m c t hf) (fun i => covered i)

/-- The reference halves from the left and adds to the stream from the right. -/
theorem ref (a : Vec Ideal S2176x5632 .bf16) (w : Vec Ideal S5632x2048 .bf16) (h : Vec Ideal S2176x2048 .f32) :
    Cert.Reference7Ideal.Read.val_main_v5 (F := Ideal) a w h = added a w h := by
  funext i
  have e : Cert.Reference7Ideal.Read.val_main_v2 (F := Ideal) a w i = (∑ k : Fin 5632, a (ix2 (i 0) k) * w (ix2 k (i 1)) : EReal) := by
    refine (Cert.Reference7Ideal.Read.val_main_v2_apply a w i).trans (Finset.sum_congr rfl fun k _ => ?_)
    refine congrArg₂ (· * ·) (congrArg a ?_) (congrArg w ?_)
    · funext x; match x with | ⟨0, _⟩ => rfl | ⟨1, _⟩ => rfl
    · funext x; match x with | ⟨0, _⟩ => rfl | ⟨1, _⟩ => rfl
  have f : Cert.Reference7Ideal.Read.val_main_v3 (F := Ideal) i = half :=
    (Cert.Reference7Ideal.Read.val_main_v3_apply (F := Ideal) i).trans (Cert.Reference7Ideal.Read.val_main_cst_apply (F := Ideal) _)
  refine (Cert.Reference7Ideal.Read.val_main_v5_apply a w h i).trans ?_
  refine (congrArg (fun z : EReal => h i + z) ((Cert.Reference7Ideal.Read.val_main_v4_apply a w i).trans (congrArg₂ (fun y z : EReal => y * z) f e))).trans ?_
  exact (add_comm _ _).trans (congrArg (fun z : EReal => z + h i) (mul_comm _ _))

end Cert.Kernel7Ideal.Output

end
-- ==== Proof.SameMain.lean ====
module

public import proofs.«01_k».proof.Defs
public import proofs.«01_k».proof.Proof.Gen.Kernel
public import proofs.«01_k».proof.Proof.Gen.KernelIdeal

@[expose] public section

/-! The host code is the same in the two printings of the kernel. -/

set_option maxRecDepth 16384

noncomputable section

namespace Cert.Proof

open Idealize.ShloMosaic Idealize.SL.Sem Idealize.ShloMosaic.TcCoe

set_option maxHeartbeats 4000000 in
/-- The host code around it. -/
theorem same_main : Cert.Kernel.main (F := Bits) = Cert.KernelIdeal.main (F := Bits) := rfl

end Cert.Proof

end
-- ==== Proof.Trip.lean ====
module

public import proofs.«01_k».proof.Proof.Gen.KernelIdeal.Loops
public import Idealize.ShloMosaic.Lib.Pipeline.Value
public import Idealize.ShloMosaic.Lib.WritesUnit

@[expose] public section

/-! One turn of the kernel's loop over the row blocks: what it carries on and what it stores, as the tile's named values. -/

set_option maxRecDepth 16384

noncomputable section

namespace Cert.KernelIdeal.Fox

open Idealize.ShloMosaic Idealize.SL.Sem Cert.KernelIdeal.Gen Idealize.ShloMosaic.TcCoe

variable {F : FTy → Type} [FloatOps F]

/-- The rows of a turn's block in a whole-height block. -/
abbrev rows (i : grid0.Coords) (k : Fin (k0_t1_loop i).trips) : Rect S2176x128 :=
  Rect.unit (k0_off1 i k) S544x128.size (k0_off1_inb i k)

/-- The turn's slab of a scratch array. -/
abbrev slab (i : grid0.Coords) (k : Fin (k0_t1_loop i).trips) : Rect S4x1088x128 :=
  Rect.unit (k0_off2 i k) S1x1088x128.size (k0_off2_inb i k)

/-- The turn's tile of probabilities. -/
def tileP (i : grid0.Coords) (k : Fin (k0_t1_loop i).trips) (v2 : IVec S544x128 1) (v12 : Vec F S128x128 .bf16) (v20 : FVec F S1088x128 .f32)
    (v26 v30 : IVec S1088x128 32) (v52 : BitVec 32) (x0 : Vec F S2176x128 .bf16) (xs0 xs1 : Vec F S4x1088x128 .f32) : FVec F S1088x128 .f32 :=
  k0_pay42 i v2 v12 v20 v26 v30 v52 1#32 k (View.ld x0 (rows i k)) (View.ld xs0 (slab i k)) (View.ld xs1 (slab i k))

/-- The turn's tile of products of the cotangent with the values. -/
def tileD (i : grid0.Coords) (k : Fin (k0_t1_loop i).trips) (v2 : IVec S544x128 1) (v13 : Vec F S128x128 .bf16) (x7 : Vec F S2176x128 .f32) :
    FVec F S1088x128 .f32 :=
  k0_pay43 v2 v13 (View.ld x7 (rows i k))

section
variable (𝒱 : Variants) (c : Dev nD) (bd : Option 𝒱.V) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (arg1 : BitVec 32) (v2 : IVec S544x128 1) (v12 v13 : Vec F S128x128 .bf16) (v20 : FVec F S1088x128 .f32) (v26 v30 : IVec S1088x128 32) (v31 v32 : FVec F S128x128 .f32) (v33 : FVec F S1x128 .f32) (cst_14 : F .f32) (v52 : BitVec 32)
  (x0 : Vec F S2176x128 .bf16) (x7 : Vec F S2176x128 .f32) (xs0 xs1 xs2 : Vec F S4x1088x128 .f32) (X2 : BufTy.Contents (Elt F) arg2.view.ty) (X9 : BufTy.Contents (Elt F) arg9.view.ty) (X15 : BufTy.Contents (Elt F) arg15.view.ty) (X16 : BufTy.Contents (Elt F) arg16.view.ty) (X17 : BufTy.Contents (Elt F) arg17.view.ty) (k : Fin (k0_t1_loop i).trips) (acc : FVec F S128x128 .f32 × FVec F S128x128 .f32 × FVec F S1x128 .f32 × FVec F S1x128 .f32)
  (f10 : BufTy.Contents (Elt F) arg10.view.ty) (f18 : BufTy.Contents (Elt F) arg18.view.ty)

/-- What a turn carries on. -/
theorem tripR_eq (e2 : arg2.view.read (Elt F) X2 = x0) (e9 : arg9.view.read (Elt F) X9 = x7) (e15 : arg15.view.read (Elt F) X15 = xs0) (e16 : arg16.view.read (Elt F) X16 = xs1) (e17 : arg17.view.read (Elt F) X17 = xs2) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 k acc f10 f18
      = (k0_pay73 acc.1 (k0_pay44 v2 (View.ld x0 (rows i k))) (tileP i k v2 v12 v20 v26 v30 v52 x0 xs0 xs1) (tileD i k v2 v13 x7) (View.ld xs2 (slab i k)),
         k0_pay72 acc.2.1 (k0_pay41 v2 (View.ld x7 (rows i k))) (tileP i k v2 v12 v20 v26 v30 v52 x0 xs0 xs1),
         k0_pay75 acc.2.2.1 (tileP i k v2 v12 v20 v26 v30 v52 x0 xs0 xs1) (tileD i k v2 v13 x7) (View.ld xs2 (slab i k)),
         k0_pay76 acc.2.2.2 (tileP i k v2 v12 v20 v26 v30 v52 x0 xs0 xs1) (tileD i k v2 v13 x7) (View.ld xs2 (slab i k))) := by
  unfold tripR_k0_t1 trip_k0_t1 tileP tileD
  dsimp only
  sl_unfold_words
  simp only [View.readAt_eq_ld, e2, e9, e15, e16, e17]
  rfl

/-- What a turn stores. -/
theorem tripL_eq (e2 : arg2.view.read (Elt F) X2 = x0) (e9 : arg9.view.read (Elt F) X9 = x7) (e15 : arg15.view.read (Elt F) X15 = xs0) (e16 : arg16.view.read (Elt F) X16 = xs1) (e17 : arg17.view.read (Elt F) X17 = xs2) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 k acc f10 f18
      = ([⟨rows i k, k0_pay74 v2 v12 (tileP i k v2 v12 v20 v26 v30 v52 x0 xs0 xs1) (tileD i k v2 v13 x7) (View.ld xs2 (slab i k))
            (View.ld (arg10.view.read (Elt F) f10) (rows i k))⟩],
         [⟨slab i k, k0_pay77 (tileP i k v2 v12 v20 v26 v30 v52 x0 xs0 xs1) (tileD i k v2 v13 x7) (View.ld xs2 (slab i k))
            (View.ld (arg18.view.read (Elt F) f18) (slab i k))⟩]) := by
  unfold tripL_k0_t1 trip_k0_t1 tileP tileD
  dsimp only
  sl_unfold_words
  simp only [View.readAt_eq_ld, e2, e9, e15, e16, e17]
  rfl
end
end Cert.KernelIdeal.Fox
-- ==== Proof.Model.lean ====
module

public import Idealize.ShloMosaic.Lib.Pointwise
public import Idealize.ShloMosaic.PureOps.Ideal.Laws

@[expose] public section

/-! The gradient of the causal attention with a decay, for one pair of heads, over the reals: the numbers the kernel's
    blocks hold. A pair's 128 lanes are two heads of 64 lanes; `l / 64` is the head of lane `l`. -/

noncomputable section

namespace Cert.KernelIdeal.Fox

open scoped BigOperators

/-- What one pair of heads is given: its rows of q, k, v and of the cotangent, its decay by query and by key, its
    log-sum-exp and its row sums of `do * o`. -/
structure Pair where
  q : ℕ → ℕ → ℝ
  k : ℕ → ℕ → ℝ
  v : ℕ → ℕ → ℝ
  d : ℕ → ℕ → ℝ
  o : ℕ → ℕ → ℝ
  cq : ℕ → ℕ → ℝ
  ck : ℕ → ℕ → ℝ
  lse : ℕ → ℕ → ℝ

namespace Pair

variable (B : Pair)

/-- The product of two rows over the lanes of head `h`. -/
def headDot (h : ℕ) (a b : ℕ → ℝ) : ℝ := ∑ l : Fin 128, if l.val / 64 = h then a l.val * b l.val else 0

/-- The probability of key `x` for query `r` in head `h`: zero past the diagonal and on the empty slots. -/
def pr (h r x : ℕ) : ℝ :=
  if x ≤ r ∧ 112 ≤ x then Real.exp (headDot h (B.q r) (B.k x) + B.cq h r - B.ck h x - B.lse h r) else 0

/-- The row sum of the cotangent times the output. -/
def dsum (h r : ℕ) : ℝ := headDot h (B.d r) (B.o r)

/-- The gradient of the logit. -/
def ds (h r x : ℕ) : ℝ := B.pr h r x * (headDot h (B.d r) (B.v x) - B.dsum h r)

theorem ds_eq_zero {h r x : ℕ} (hx : r < x) : B.ds h r x = 0 := by
  unfold ds pr; rw [if_neg (by omega), zero_mul]

theorem pr_eq_zero {h r x : ℕ} (hx : r < x) : B.pr h r x = 0 := by
  unfold pr; rw [if_neg (by omega)]

end Pair

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.KernelIdeal.Fox
-- ==== Proof.Pay.lean ====
module

public import proofs.«01_k».proof.Proof.Gen.KernelIdeal.Skeleton
public import proofs.«01_k».proof.Proof.Model

@[expose] public section

/-! What one tile of the kernel computes, read element by element: a block of 544 rows against a block of 128 keys, both
    heads of the pair stacked on the rows. -/

set_option maxRecDepth 16384

noncomputable section

namespace Cert.KernelIdeal.Fox

open Idealize.ShloMosaic Idealize.SL.Sem Cert.KernelIdeal.Gen

/-- The lanes of the pair's first head. -/
def IsHalf (v2 : IVec S544x128 1) : Prop := ∀ (r : Fin 544) (l : Fin 128), v2 (ix2 r l) = BitVec.ofBool (decide (l.val < 64))

theorem select_ofBool {α : Type} (p : Prop) [Decidable p] (a b : α) :
    Scalar.select (BitVec.ofBool (decide p)) a b = if p then a else b := by
  by_cases h : p <;> simp [h, ValueIdx.select_one, ValueIdx.select_zero]

/-- The stacked queries: the rows of head `a / 544`, zero off its lanes. -/
theorem pay40_apply (v2 : IVec S544x128 1) (hv2 : IsHalf v2) (v72 : Vec Ideal S544x128 .bf16) (q : ℕ → ℕ → ℝ)
    (hq : ∀ (r : Fin 544) (l : Fin 128), v72 (ix2 r l) = ((q r.val l.val : ℝ) : EReal)) (a : Fin 1088) (l : Fin 128) :
    k0_pay40 (F := Ideal) v2 v72 (ix2 a l) = ((if l.val / 64 = a.val / 544 then q (a.val % 544) l.val else 0 : ℝ) : EReal) := by
  pointwise [k0_pay40]
  have ha := a.isLt
  have hl := l.isLt
  by_cases h : a.val < 544
  · refine (dif_pos h).trans ?_
    rw [hv2, hq, select_ofBool, Nat.mod_eq_of_lt h, Nat.div_eq_of_lt h]
    by_cases h' : l.val < 64
    · rw [if_pos h', if_pos (by omega)]
    · rw [if_neg h', if_neg (by omega)]; rfl
  · refine (dif_neg h).trans ?_
    rw [hv2, hq, select_ofBool, show a.val / 544 = 1 by omega, show a.val % 544 = a.val - 544 by omega]
    by_cases h' : l.val < 64
    · rw [if_pos h', if_neg (by omega)]; rfl
    · rw [if_neg h']
      show ((q (a.val - 544) l.val : ℝ) : EReal) = ((if l.val / 64 = 1 then q (a.val - 544) l.val else 0 : ℝ) : EReal)
      rw [if_pos (by omega)]

/-- The stacked cotangents likewise. -/
theorem pay41_apply (v2 : IVec S544x128 1) (hv2 : IsHalf v2) (v79 : Vec Ideal S544x128 .f32) (q : ℕ → ℕ → ℝ)
    (hq : ∀ (r : Fin 544) (l : Fin 128), v79 (ix2 r l) = ((q r.val l.val : ℝ) : EReal)) (a : Fin 1088) (l : Fin 128) :
    k0_pay41 (F := Ideal) v2 v79 (ix2 a l) = ((if l.val / 64 = a.val / 544 then q (a.val % 544) l.val else 0 : ℝ) : EReal) := by
  pointwise [k0_pay41]
  have ha := a.isLt
  have hl := l.isLt
  by_cases h : a.val < 544
  · refine (dif_pos h).trans ?_
    rw [hv2, hq, select_ofBool, Nat.mod_eq_of_lt h, Nat.div_eq_of_lt h]
    by_cases h' : l.val < 64
    · rw [if_pos h', if_pos (by omega)]
    · rw [if_neg h', if_neg (by omega)]; rfl
  · refine (dif_neg h).trans ?_
    rw [hv2, hq, select_ofBool, show a.val / 544 = 1 by omega, show a.val % 544 = a.val - 544 by omega]
    by_cases h' : l.val < 64
    · rw [if_pos h', if_neg (by omega)]; rfl
    · rw [if_neg h']
      show ((q (a.val - 544) l.val : ℝ) : EReal) = ((if l.val / 64 = 1 then q (a.val - 544) l.val else 0 : ℝ) : EReal)
      rw [if_pos (by omega)]

/-- A product of reals, one factor kept only where a condition holds. -/
theorem coe_dot (p : Fin 128 → Prop) [DecidablePred p] (a b : ℕ → ℝ) :
    (∑ l : Fin 128, ((if p l then a l.val else 0 : ℝ) : EReal) * ((b l.val : ℝ) : EReal))
      = ((∑ l : Fin 128, if p l then a l.val * b l.val else 0 : ℝ) : EReal) := by
  rw [coe_sum]
  refine Finset.sum_congr rfl fun l _ => ?_
  rw [← EReal.coe_mul, ite_mul, zero_mul]

theorem cond_word (j b a x : ℕ) (hj : j < 17) (hb : b < 4) (ha : a < 544) (hx : x < 128) :
    IntOp.andi (IntOp.cmpi CmpIPredicate.sle (BitVec.ofNat 32 (128 * j + x))
          (IntOp.addi (BitVec.ofNat 32 (544 * b)) (BitVec.ofNat 32 a)))
        (IntOp.cmpi CmpIPredicate.sge (BitVec.ofNat 32 (128 * j + x)) 112#32)
      = BitVec.ofBool (decide (128 * j + x ≤ 544 * b + a ∧ 112 ≤ 128 * j + x)) := by
  have e : IntOp.addi (BitVec.ofNat 32 (544 * b)) (BitVec.ofNat 32 a) = BitVec.ofNat 32 (544 * b + a) := by
    unfold IntOp.addi; rw [BitVec.ofNat_add]
  rw [e]
  have h1 : (BitVec.ofNat 32 (128 * j + x)).toInt = ((128 * j + x : ℕ) : ℤ) := by
    rw [BitVec.toInt_eq_toNat_of_lt (by rw [BitVec.toNat_ofNat, Nat.mod_eq_of_lt (by omega)]; omega), BitVec.toNat_ofNat,
      Nat.mod_eq_of_lt (by omega)]
  have h2 : (BitVec.ofNat 32 (544 * b + a)).toInt = ((544 * b + a : ℕ) : ℤ) := by
    rw [BitVec.toInt_eq_toNat_of_lt (by rw [BitVec.toNat_ofNat, Nat.mod_eq_of_lt (by omega)]; omega), BitVec.toNat_ofNat,
      Nat.mod_eq_of_lt (by omega)]
  have h3 : (112#32).toInt = ((112 : ℕ) : ℤ) := by decide
  simp only [IntOp.cmpi, IntOp.andi, BitVec.sle, h1, h2, h3, Nat.cast_le, Bool.decide_and]
  cases decide (128 * j + x ≤ 544 * b + a) <;> cases decide (112 ≤ 128 * j + x) <;> rfl

/-- The tile of probabilities. -/
theorem pay42_apply (B : Pair) (j b : ℕ) (hj : j < 17) (hb : b < 4) (i : grid0.Coords) (v2 : IVec S544x128 1) (hv2 : IsHalf v2)
    (v12 : Vec Ideal S128x128 .bf16) (v20 : FVec Ideal S1088x128 .f32)
    (v26 v30 : IVec S1088x128 32) (v52 c1 : BitVec 32) (t : Fin (k0_t1_loop i).trips) (v72 : Vec Ideal S544x128 .bf16)
    (v95 v102 : Vec Ideal S1x1088x128 .f32)
    (hiv : Scf.iv v52 c1 t.val = BitVec.ofNat 32 b)
    (h26 : ∀ (a : Fin 1088) (x : Fin 128), v26 (ix2 a x) = BitVec.ofNat 32 (a.val % 544))
    (h30 : ∀ (a : Fin 1088) (x : Fin 128), v30 (ix2 a x) = BitVec.ofNat 32 (128 * j + x.val))
    (h72 : ∀ (r : Fin 544) (l : Fin 128), v72 (ix2 r l) = ((B.q (544 * b + r.val) l.val : ℝ) : EReal))
    (h12 : ∀ (x l : Fin 128), v12 (ix2 x l) = ((B.k (128 * j + x.val) l.val : ℝ) : EReal))
    (h20 : ∀ (a : Fin 1088) (x : Fin 128), v20 (ix2 a x) = ((B.ck (a.val / 544) (128 * j + x.val) : ℝ) : EReal))
    (h95 : ∀ (a : Fin 1088) (x : Fin 128), v95 (ix3 0 a x) = ((B.cq (a.val / 544) (544 * b + a.val % 544) : ℝ) : EReal))
    (h102 : ∀ (a : Fin 1088) (x : Fin 128), v102 (ix3 0 a x) = ((B.lse (a.val / 544) (544 * b + a.val % 544) : ℝ) : EReal))
    (a : Fin 1088) (x : Fin 128) :
    k0_pay42 (F := Ideal) i v2 v12 v20 v26 v30 v52 c1 t v72 v95 v102 (ix2 a x)
      = ((B.pr (a.val / 544) (544 * b + a.val % 544) (128 * j + x.val) : ℝ) : EReal) := by
  pointwise [k0_pay42]
  simp only [pay40_apply v2 hv2 v72 (fun r l => B.q (544 * b + r) l) h72, h12, h95, h102, h20, h26, h30, hiv]
  rw [show Scalar.muli (BitVec.ofNat 32 b) 544#32 = BitVec.ofNat 32 (544 * b) by
    rw [mul_comm 544 b, BitVec.ofNat_mul]; rfl]
  rw [cond_word j b (a.val % 544) x.val hj hb (Nat.mod_lt _ (by decide)) x.isLt]
  simp only [select_ofBool]
  unfold Pair.pr
  by_cases c : 128 * j + x.val ≤ 544 * b + a.val % 544 ∧ 112 ≤ 128 * j + x.val
  · rw [if_pos c, if_pos c, if_pos c]
    rw [coe_dot (fun l => l.val / 64 = a.val / 544) (B.q (544 * b + a.val % 544)) (B.k (128 * j + x.val))]
    rw [← EReal.coe_add, ← EReal.coe_sub, ← EReal.coe_sub, Ideal.exp_coe]
    rfl
  · rw [if_neg c, if_neg c]; rfl

/-- The tile of products of the cotangent with the values. -/
theorem pay43_apply (B : Pair) (j b : ℕ) (v2 : IVec S544x128 1) (hv2 : IsHalf v2)
    (v13 : Vec Ideal S128x128 .bf16) (v79 : Vec Ideal S544x128 .f32)
    (h79 : ∀ (r : Fin 544) (l : Fin 128), v79 (ix2 r l) = ((B.d (544 * b + r.val) l.val : ℝ) : EReal))
    (h13 : ∀ (x l : Fin 128), v13 (ix2 x l) = ((B.v (128 * j + x.val) l.val : ℝ) : EReal))
    (a : Fin 1088) (x : Fin 128) :
    k0_pay43 (F := Ideal) v2 v13 v79 (ix2 a x)
      = ((Pair.headDot (a.val / 544) (B.d (544 * b + a.val % 544)) (B.v (128 * j + x.val)) : ℝ) : EReal) := by
  pointwise [k0_pay43]
  simp only [pay41_apply v2 hv2 v79 (fun r l => B.d (544 * b + r) l) h79, h13]
  exact coe_dot (fun l => l.val / 64 = a.val / 544) (B.d (544 * b + a.val % 544)) (B.v (128 * j + x.val))

/-- The tile of the logits' gradients. -/
theorem pay70_apply (B : Pair) (j b : ℕ) (v107 v108 : FVec Ideal S1088x128 .f32) (v110 : Vec Ideal S1x1088x128 .f32)
    (h107 : ∀ (a : Fin 1088) (x : Fin 128), v107 (ix2 a x) = ((B.pr (a.val / 544) (544 * b + a.val % 544) (128 * j + x.val) : ℝ) : EReal))
    (h108 : ∀ (a : Fin 1088) (x : Fin 128), v108 (ix2 a x)
      = ((Pair.headDot (a.val / 544) (B.d (544 * b + a.val % 544)) (B.v (128 * j + x.val)) : ℝ) : EReal))
    (h110 : ∀ (a : Fin 1088) (x : Fin 128), v110 (ix3 0 a x) = ((B.dsum (a.val / 544) (544 * b + a.val % 544) : ℝ) : EReal))
    (a : Fin 1088) (x : Fin 128) :
    k0_pay70 (F := Ideal) v107 v108 v110 (ix2 a x)
      = ((B.ds (a.val / 544) (544 * b + a.val % 544) (128 * j + x.val) : ℝ) : EReal) := by
  pointwise [k0_pay70]
  rw [h107, h108, h110, ← EReal.coe_sub, ← EReal.coe_mul]
  rfl

/-- A sum over the stacked rows of a product with a stacked operand: the rows of the head of the lane. -/
theorem sum_stack (f : ℕ → ℕ → ℝ) (g : ℕ → ℝ) (h : ℕ) (hh : h < 2) :
    (∑ a : Fin 1088, ((f (a.val / 544) (a.val % 544) : ℝ) : EReal) * ((if h = a.val / 544 then g (a.val % 544) else 0 : ℝ) : EReal))
      = ((∑ r : Fin 544, f h r.val * g r.val : ℝ) : EReal) := by
  rw [coe_sum]
  rw [show (∑ a : Fin 1088, ((f (a.val / 544) (a.val % 544) : ℝ) : EReal) * ((if h = a.val / 544 then g (a.val % 544) else 0 : ℝ) : EReal))
    = ∑ a : Fin (544 + 544), ((f (a.val / 544) (a.val % 544) : ℝ) : EReal) * ((if h = a.val / 544 then g (a.val % 544) else 0 : ℝ) : EReal) from rfl]
  rw [Fin.sum_univ_add]
  have e1 : ∀ r : Fin 544, (Fin.castAdd 544 r).val = r.val := fun r => rfl
  have e2 : ∀ r : Fin 544, (Fin.natAdd 544 r).val = 544 + r.val := fun r => rfl
  have d1 : ∀ r : Fin 544, r.val / 544 = 0 := fun r => Nat.div_eq_of_lt r.isLt
  have d2 : ∀ r : Fin 544, (544 + r.val) / 544 = 1 := fun r => by have := r.isLt; omega
  have m1 : ∀ r : Fin 544, r.val % 544 = r.val := fun r => Nat.mod_eq_of_lt r.isLt
  have m2 : ∀ r : Fin 544, (544 + r.val) % 544 = r.val := fun r => by have := r.isLt; omega
  simp only [e1, e2, d1, d2, m1, m2]
  rcases (by omega : h = 0 ∨ h = 1) with rfl | rfl
  · simp [EReal.coe_mul]
  · simp [EReal.coe_mul]

end Cert.KernelIdeal.Fox
-- ==== Proof.Tile.lean ====
module

public import proofs.«01_k».proof.Proof.Pay

@[expose] public section

/-! What a turn of the loop over the row blocks adds: to the two accumulators, to the two row sums, to the stored rows and
    to the scratch slab, read element by element over the reals. -/

set_option maxRecDepth 16384

noncomputable section

namespace Cert.KernelIdeal.Fox

open Idealize.ShloMosaic Idealize.SL.Sem Cert.KernelIdeal.Gen

/-- A tile of the stacked rows holds `f` of head, row and key. -/
def Holds (w : FVec Ideal S1088x128 .f32) (f : ℕ → ℕ → ℕ → ℝ) : Prop :=
  ∀ (a : Fin 1088) (x : Fin 128), w (ix2 a x) = ((f (a.val / 544) (a.val % 544) x.val : ℝ) : EReal)

section
variable (f g : ℕ → ℕ → ℕ → ℝ) (v107 v108 : FVec Ideal S1088x128 .f32) (v110 : Vec Ideal S1x1088x128 .f32)
  (h107 : Holds v107 f) (hds : Holds (k0_pay70 (F := Ideal) v107 v108 v110) g)

include h107 in
theorem pay72_apply (v2 : IVec S544x128 1) (hv2 : IsHalf v2) (v79 : Vec Ideal S544x128 .f32) (d : ℕ → ℕ → ℝ)
    (hd : ∀ (r : Fin 544) (l : Fin 128), v79 (ix2 r l) = ((d r.val l.val : ℝ) : EReal))
    (acc : FVec Ideal S128x128 .f32) (x l : Fin 128) (s : ℝ) (hs : acc (ix2 x l) = (s : EReal)) :
    k0_pay72 (F := Ideal) acc (k0_pay41 v2 v79) v107 (ix2 x l)
      = ((s + ∑ r : Fin 544, f (l.val / 64) r.val x.val * d r.val l.val : ℝ) : EReal) := by
  pointwise [k0_pay72]
  simp only [pay41_apply v2 hv2 v79 d hd, h107 _ _, hs]
  rw [sum_stack (fun h r => f h r x.val) (fun r => d r l.val) (l.val / 64) (by have := l.isLt; omega), EReal.coe_add]

include hds in
theorem pay73_apply (v2 : IVec S544x128 1) (hv2 : IsHalf v2) (v72 : Vec Ideal S544x128 .bf16) (q : ℕ → ℕ → ℝ)
    (hq : ∀ (r : Fin 544) (l : Fin 128), v72 (ix2 r l) = ((q r.val l.val : ℝ) : EReal))
    (acc : FVec Ideal S128x128 .f32) (x l : Fin 128) (s : ℝ) (hs : acc (ix2 x l) = (s : EReal)) :
    k0_pay73 (F := Ideal) acc (k0_pay44 v2 v72) v107 v108 v110 (ix2 x l)
      = ((s + ∑ r : Fin 544, g (l.val / 64) r.val x.val * q r.val l.val : ℝ) : EReal) := by
  have e44 : k0_pay44 (F := Ideal) v2 v72 = k0_pay40 v2 v72 := rfl
  rw [e44]
  pointwise [k0_pay73, k0_pay71]
  simp only [pay40_apply v2 hv2 v72 q hq, hds _ _, hs]
  rw [sum_stack (fun h r => g h r x.val) (fun r => q r l.val) (l.val / 64) (by have := l.isLt; omega), EReal.coe_add]

include hds in
theorem pay74_apply (v2 : IVec S544x128 1) (hv2 : IsHalf v2) (v12 : Vec Ideal S128x128 .bf16) (k : ℕ → ℕ → ℝ)
    (hk : ∀ (x l : Fin 128), v12 (ix2 x l) = ((k x.val l.val : ℝ) : EReal))
    (v122 : Vec Ideal S544x128 .f32) (r : Fin 544) (l : Fin 128) (s : ℝ) (hs : v122 (ix2 r l) = (s : EReal)) :
    k0_pay74 (F := Ideal) v2 v12 v107 v108 v110 v122 (ix2 r l)
      = ((s + ∑ x : Fin 128, g (l.val / 64) r.val x.val * k x.val l.val : ℝ) : EReal) := by
  pointwise [k0_pay74, k0_pay71]
  have hr := r.isLt
  have hl := l.isLt
  simp only [hds _ _, hs, hk, ← EReal.coe_mul, ← coe_sum]
  rw [hv2, select_ofBool]
  by_cases h : l.val < 64
  · rw [if_pos h, ← EReal.coe_add, show l.val / 64 = 0 by omega, Nat.div_eq_of_lt hr, Nat.mod_eq_of_lt hr]
  · rw [if_neg h, ← EReal.coe_add, show l.val / 64 = 1 by omega, show (544 + r.val) / 544 = 1 by omega, show (544 + r.val) % 544 = r.val by omega]

include hds in
theorem pay75_apply (acc : FVec Ideal S1x128 .f32) (x : Fin 128) (s : ℝ) (hs : acc (ix2 0 x) = (s : EReal)) :
    k0_pay75 (F := Ideal) acc v107 v108 v110 (ix2 0 x) = ((s - ∑ r : Fin 544, g 0 r.val x.val : ℝ) : EReal) := by
  pointwise [k0_pay75]
  simp only [hds _ _, hs, ← coe_sum]
  rw [← EReal.coe_sub]
  congr 2

include hds in
theorem pay76_apply (acc : FVec Ideal S1x128 .f32) (x : Fin 128) (s : ℝ) (hs : acc (ix2 0 x) = (s : EReal)) :
    k0_pay76 (F := Ideal) acc v107 v108 v110 (ix2 0 x) = ((s - ∑ r : Fin 544, g 1 r.val x.val : ℝ) : EReal) := by
  pointwise [k0_pay76]
  simp only [hds _ _, hs, ← coe_sum]
  rw [← EReal.coe_sub]
  congr 2

include hds in
theorem pay77_apply (v139 : Vec Ideal S1x1088x128 .f32) (a : Fin 1088) (x : Fin 128) (s : ℝ) (hs : v139 (ix3 0 a x) = (s : EReal)) :
    k0_pay77 (F := Ideal) v107 v108 v110 v139 (ix3 0 a x) = ((s + g (a.val / 544) (a.val % 544) x.val : ℝ) : EReal) := by
  pointwise [k0_pay77]
  simp only [hds _ _, hs]
  rw [EReal.coe_add]

end

end Cert.KernelIdeal.Fox
-- ==== Proof.Words.lean ====
module

public import proofs.«01_k».proof.Proof.Gen.KernelIdeal.Skeleton

@[expose] public section

/-! The kernel's loop bounds and offsets in closed form: at key block `j` the loop over the row blocks starts at the block
    that holds position `128 j` and ends at the fourth; its turn `k` works on row block `128 j / 544 + k`. -/

set_option maxRecDepth 16384

noncomputable section

namespace Cert.KernelIdeal.Fox

open Idealize.ShloMosaic Idealize.SL.Sem Cert.KernelIdeal.Gen

/-- The loop at key block `n`. -/
@[reducible] def loopAt (n : ℕ) : Scf.Loop 32 := k0_t1_loop (fun a => match a with | 0 => ⟨0, by decide⟩ | 1 => ⟨n % 17, Nat.mod_lt _ (by decide)⟩)

theorem loop_eq (i : grid0.Coords) : k0_t1_loop i = loopAt (i 1).val := by
  have h : (i 1).val % 17 = (i 1).val := Nat.mod_eq_of_lt (i 1).isLt
  unfold loopAt k0_t1_loop
  simp only [h]

theorem loopAt_trips : ∀ n : Fin 17, (loopAt n.val).trips = 4 - 128 * n.val / 544 := by decide +kernel
theorem loopAt_iv : ∀ n : Fin 17, ∀ k : Fin 4, Scf.iv (loopAt n.val).lb 1#32 k.val = BitVec.ofNat 32 (128 * n.val / 544 + k.val) := by decide +kernel

/-- The row block the loop starts at. -/
def b0 (i : grid0.Coords) : ℕ := 128 * (i 1).val / 544

theorem trips_eq (i : grid0.Coords) : (k0_t1_loop i).trips = 4 - b0 i := by
  rw [loop_eq]; exact loopAt_trips ⟨(i 1).val, (i 1).isLt⟩

theorem b0_lt (i : grid0.Coords) : b0 i < 4 := by
  have : (i 1).val < 17 := (i 1).isLt
  unfold b0; omega

theorem blk_lt (i : grid0.Coords) (k : Fin (k0_t1_loop i).trips) : b0 i + k.val < 4 := by
  have h : k.val < 4 - b0 i := Nat.lt_of_lt_of_eq k.isLt (trips_eq i)
  generalize k.val = n at h ⊢
  omega

theorem iv_eq' (i : grid0.Coords) (k : ℕ) (h : k < 4) :
    Scf.iv (k0_t1_loop i).lb 1#32 k = BitVec.ofNat 32 (b0 i + k) := by
  rw [loop_eq]
  unfold b0
  have hi : (i 1).val < 17 := (i 1).isLt
  generalize (i 1).val = n at hi ⊢
  exact loopAt_iv ⟨n, hi⟩ ⟨k, h⟩

theorem iv_eq (i : grid0.Coords) (k : Fin (k0_t1_loop i).trips) :
    Scf.iv (k0_t1_loop i).lb 1#32 k.val = BitVec.ofNat 32 (b0 i + k.val) :=
  iv_eq' i k.val (Nat.lt_of_le_of_lt (Nat.le_add_left _ _) (blk_lt i k))

theorem muli_eq (n : ℕ) (h : n < 4) : (Scalar.muli (BitVec.ofNat 32 n) 544#32).toNat = 544 * n := by
  rw [show Scalar.muli (BitVec.ofNat 32 n) 544#32 = BitVec.ofNat 32 (544 * n) by rw [mul_comm 544, BitVec.ofNat_mul]; rfl]
  rw [BitVec.toNat_ofNat, Nat.mod_eq_of_lt (by omega)]

theorem off1_eq (i : grid0.Coords) (k : Fin (k0_t1_loop i).trips) : k0_off1 i k = ![544 * (b0 i + k.val), 0] := by
  have h := blk_lt i k
  have e : k0_off1 i k = ![(Scalar.muli (Scf.iv (k0_t1_loop i).lb 1#32 k.val) 544#32).toNat, 0] := rfl
  rw [e, iv_eq, muli_eq _ h]

theorem off2_eq (i : grid0.Coords) (k : Fin (k0_t1_loop i).trips) : k0_off2 i k = ![b0 i + k.val, 0, 0] := by
  have h := blk_lt i k
  have e : k0_off2 i k = ![(Scf.iv (k0_t1_loop i).lb 1#32 k.val).toNat, 0, 0] := rfl
  rw [e, iv_eq, BitVec.toNat_ofNat, Nat.mod_eq_of_lt (Nat.lt_trans h (by decide))]

end Cert.KernelIdeal.Fox
-- ==== Proof.LoopVal.lean ====
module

public import proofs.«01_k».proof.Proof.Trip
public import proofs.«01_k».proof.Proof.Tile
public import proofs.«01_k».proof.Proof.Words
public import Idealize.ShloMosaic.Lib.Pipeline.ValueKit.Tiles

@[expose] public section

/-! The kernel's loop over the row blocks, at one key block: after its turns the accumulators hold the sums over the rows
    met, and the rows and slabs met have had the block's part added. -/

set_option maxRecDepth 16384

noncomputable section

namespace Cert.KernelIdeal.Fox

open Idealize.ShloMosaic Idealize.SL.Sem Cert.KernelIdeal.Gen Idealize.ShloMosaic.TcCoe

/-- What the loop reads at key block `j`, as the pair's numbers. -/
structure At (B : Pair) (j : ℕ) (v2 : IVec S544x128 1) (v12 v13 : Vec Ideal S128x128 .bf16) (v20 : FVec Ideal S1088x128 .f32)
    (v26 v30 : IVec S1088x128 32) (x0 : Vec Ideal S2176x128 .bf16) (x7 : Vec Ideal S2176x128 .f32)
    (xs0 xs1 xs2 : Vec Ideal S4x1088x128 .f32) : Prop where
  half : IsHalf v2
  k : ∀ x l : Fin 128, v12 (ix2 x l) = ((B.k (128 * j + x.val) l.val : ℝ) : EReal)
  v : ∀ x l : Fin 128, v13 (ix2 x l) = ((B.v (128 * j + x.val) l.val : ℝ) : EReal)
  ck : ∀ (a : Fin 1088) (x : Fin 128), v20 (ix2 a x) = ((B.ck (a.val / 544) (128 * j + x.val) : ℝ) : EReal)
  row : ∀ (a : Fin 1088) (x : Fin 128), v26 (ix2 a x) = BitVec.ofNat 32 (a.val % 544)
  key : ∀ (a : Fin 1088) (x : Fin 128), v30 (ix2 a x) = BitVec.ofNat 32 (128 * j + x.val)
  q : ∀ (r : Fin 2176) (l : Fin 128), x0 (ix2 r l) = ((B.q r.val l.val : ℝ) : EReal)
  d : ∀ (r : Fin 2176) (l : Fin 128), x7 (ix2 r l) = ((B.d r.val l.val : ℝ) : EReal)
  cq : ∀ (t : Fin 4) (a : Fin 1088) (x : Fin 128), xs0 (ix3 t a x) = ((B.cq (a.val / 544) (544 * t.val + a.val % 544) : ℝ) : EReal)
  lse : ∀ (t : Fin 4) (a : Fin 1088) (x : Fin 128), xs1 (ix3 t a x) = ((B.lse (a.val / 544) (544 * t.val + a.val % 544) : ℝ) : EReal)
  dsum : ∀ (t : Fin 4) (a : Fin 1088) (x : Fin 128), xs2 (ix3 t a x) = ((B.dsum (a.val / 544) (544 * t.val + a.val % 544) : ℝ) : EReal)

section
variable {F : FTy → Type} {e : EltTy} (i : grid0.Coords) (k : Fin (k0_t1_loop i).trips)

theorem row_lt (r : Fin 544) : 544 * (b0 i + k.val) + r.val < 2176 := by
  have h := blk_lt i k
  have := r.isLt
  generalize b0 i + k.val = n at h ⊢
  omega

theorem ld_rows (X : Vec F S2176x128 e) (r : Fin 544) (l : Fin 128) :
    View.ld X (rows i k) (ix2 r l) = X (ix2 ⟨544 * (b0 i + k.val) + r.val, row_lt i k r⟩ l) := by
  refine congrArg X (funext fun a => Fin.ext ?_)
  refine (Rect.idx_unit_val _ _ _ _ _).trans ?_
  refine (congrArg (· + _) (congrFun (off1_eq i k) a)).trans ?_
  fin_cases a
  · rfl
  · exact Nat.zero_add _

theorem ld_slab (X : Vec F S4x1088x128 e) (a : Fin 1088) (x : Fin 128) :
    View.ld X (slab i k) (ix3 0 a x) = X (ix3 ⟨b0 i + k.val, blk_lt i k⟩ a x) := by
  refine congrArg X (funext fun a => Fin.ext ?_)
  refine (Rect.idx_unit_val _ _ _ _ _).trans ?_
  refine (congrArg (· + _) (congrFun (off2_eq i k) a)).trans ?_
  fin_cases a
  · rfl
  · exact Nat.zero_add _
  · exact Nat.zero_add _
end

section
variable {B : Pair} {i : grid0.Coords} (k : Fin (k0_t1_loop i).trips)
  {v2 : IVec S544x128 1} {v12 v13 : Vec Ideal S128x128 .bf16} {v20 : FVec Ideal S1088x128 .f32}
  {v26 v30 : IVec S1088x128 32} {x0 : Vec Ideal S2176x128 .bf16} {x7 : Vec Ideal S2176x128 .f32}
  {xs0 xs1 xs2 : Vec Ideal S4x1088x128 .f32} {v52 : BitVec 32} (h52 : v52 = (k0_t1_loop i).lb)
  (A : At B (i 1).val v2 v12 v13 v20 v26 v30 x0 x7 xs0 xs1 xs2)

include A h52 in
theorem tileP_holds : Holds (tileP i k v2 v12 v20 v26 v30 v52 x0 xs0 xs1)
    (fun h r x => B.pr h (544 * (b0 i + k.val) + r) (128 * (i 1).val + x)) := by
  intro a x
  refine pay42_apply B (i 1).val (b0 i + k.val) (i 1).isLt (blk_lt i k) i v2 A.half v12 v20 v26 v30 v52 1#32 k _ _ _ ?_ A.row A.key ?_ A.k A.ck ?_ ?_ a x
  · rw [h52]; exact iv_eq i k
  · intro r l; rw [ld_rows]; exact A.q _ _
  · intro a x; rw [ld_slab]; exact A.cq _ _ _
  · intro a x; rw [ld_slab]; exact A.lse _ _ _

include A h52 in
theorem tileDs_holds : Holds (k0_pay70 (F := Ideal) (tileP i k v2 v12 v20 v26 v30 v52 x0 xs0 xs1) (tileD i k v2 v13 x7) (View.ld xs2 (slab i k)))
    (fun h r x => B.ds h (544 * (b0 i + k.val) + r) (128 * (i 1).val + x)) := by
  intro a x
  refine pay70_apply B (i 1).val (b0 i + k.val) _ _ _ (tileP_holds k h52 A) ?_ ?_ a x
  · intro a x
    refine pay43_apply B (i 1).val (b0 i + k.val) v2 A.half v13 _ ?_ A.v a x
    intro r l; rw [ld_rows]; exact A.d _ _
  · intro a x; rw [ld_slab]; exact A.dsum _ _ _
end

/-- The loop's state after `n` turns from row block `b`, at key block `j`: `Q` and `S` are what the stored rows and the
    scratch held at its start. -/
structure Inv (B : Pair) (j b n : ℕ) (Q : ℕ → ℕ → ℝ) (S : ℕ → ℕ → ℕ → ℝ)
    (acc : FVec Ideal S128x128 .f32 × FVec Ideal S128x128 .f32 × FVec Ideal S1x128 .f32 × FVec Ideal S1x128 .f32)
    (f10 : Vec Ideal S2176x128 .f32) (f18 : Vec Ideal S4x1088x128 .f32) : Prop where
  dk : ∀ x l : Fin 128, acc.1 (ix2 x l) = ((∑ m ∈ Finset.range n, ∑ r : Fin 544,
    B.ds (l.val / 64) (544 * (b + m) + r.val) (128 * j + x.val) * B.q (544 * (b + m) + r.val) l.val : ℝ) : EReal)
  dv : ∀ x l : Fin 128, acc.2.1 (ix2 x l) = ((∑ m ∈ Finset.range n, ∑ r : Fin 544,
    B.pr (l.val / 64) (544 * (b + m) + r.val) (128 * j + x.val) * B.d (544 * (b + m) + r.val) l.val : ℝ) : EReal)
  c0 : ∀ x : Fin 128, acc.2.2.1 (ix2 0 x) = ((- ∑ m ∈ Finset.range n, ∑ r : Fin 544,
    B.ds 0 (544 * (b + m) + r.val) (128 * j + x.val) : ℝ) : EReal)
  c1 : ∀ x : Fin 128, acc.2.2.2 (ix2 0 x) = ((- ∑ m ∈ Finset.range n, ∑ r : Fin 544,
    B.ds 1 (544 * (b + m) + r.val) (128 * j + x.val) : ℝ) : EReal)
  dq : ∀ (r : Fin 2176) (l : Fin 128), f10 (ix2 r l) = ((Q r.val l.val + if 544 * b ≤ r.val ∧ r.val < 544 * (b + n) then
    ∑ x : Fin 128, B.ds (l.val / 64) r.val (128 * j + x.val) * B.k (128 * j + x.val) l.val else 0 : ℝ) : EReal)
  acc : ∀ (t : Fin 4) (a : Fin 1088) (x : Fin 128), f18 (ix3 t a x) = ((S t.val a.val x.val + if b ≤ t.val ∧ t.val < b + n then
    B.ds (a.val / 544) (544 * t.val + a.val % 544) (128 * j + x.val) else 0 : ℝ) : EReal)

theorem local_rows (r : Fin 2176) (l : Fin 128) (o : ℕ) (h : o ≤ r.val ∧ r.val < o + 544)
    (h' : ∀ a : Fin 2, (![o, 0] : Fin 2 → ℕ) a ≤ ((ix2 r l : S2176x128.Idx) a).val ∧ ((ix2 r l : S2176x128.Idx) a).val < (![o, 0] : Fin 2 → ℕ) a + S544x128.size a) :
    Rect.unitLocal (s := S2176x128) (off := ![o, 0]) (size := S544x128.size) (ix2 r l) h'
      = (ix2 ⟨r.val - o, by omega⟩ l : S544x128.Idx) := by
  refine funext fun a => Fin.ext ?_
  rw [Rect.unitLocal_val]
  fin_cases a <;> rfl

theorem local_slab (t : Fin 4) (a : Fin 1088) (x : Fin 128) (o : ℕ) (h : t.val = o)
    (h' : ∀ y : Fin 3, (![o, 0, 0] : Fin 3 → ℕ) y ≤ ((ix3 t a x : S4x1088x128.Idx) y).val
      ∧ ((ix3 t a x : S4x1088x128.Idx) y).val < (![o, 0, 0] : Fin 3 → ℕ) y + S1x1088x128.size y) :
    Rect.unitLocal (s := S4x1088x128) (off := ![o, 0, 0]) (size := S1x1088x128.size) (ix3 t a x) h'
      = (ix3 0 a x : S1x1088x128.Idx) := by
  refine funext fun y => Fin.ext ?_
  rw [Rect.unitLocal_val]
  fin_cases y
  · show t.val - o = 0; omega
  · rfl
  · rfl

section
variable (𝒱 : Variants) (c : Dev nD) (bd : Option 𝒱.V) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (arg1 : BitVec 32) (v2 : IVec S544x128 1) (v12 v13 : Vec Ideal S128x128 .bf16) (v20 : FVec Ideal S1088x128 .f32) (v26 v30 : IVec S1088x128 32) (v31 v32 : FVec Ideal S128x128 .f32) (v33 : FVec Ideal S1x128 .f32) (cst_14 : Ideal .f32) (v52 : BitVec 32)
  (x0 : Vec Ideal S2176x128 .bf16) (x7 : Vec Ideal S2176x128 .f32) (xs0 xs1 xs2 : Vec Ideal S4x1088x128 .f32) (X2 : BufTy.Contents (Elt Ideal) arg2.view.ty) (X9 : BufTy.Contents (Elt Ideal) arg9.view.ty) (X15 : BufTy.Contents (Elt Ideal) arg15.view.ty) (X16 : BufTy.Contents (Elt Ideal) arg16.view.ty) (X17 : BufTy.Contents (Elt Ideal) arg17.view.ty)
  (G10 : BufTy.Contents (Elt Ideal) arg10.view.ty) (G18 : BufTy.Contents (Elt Ideal) arg18.view.ty)
  (init : FVec Ideal S128x128 .f32 × FVec Ideal S128x128 .f32 × FVec Ideal S1x128 .f32 × FVec Ideal S1x128 .f32)

theorem loop_inv (B : Pair) (e2 : arg2.view.read (Elt Ideal) X2 = x0) (e9 : arg9.view.read (Elt Ideal) X9 = x7) (e15 : arg15.view.read (Elt Ideal) X15 = xs0) (e16 : arg16.view.read (Elt Ideal) X16 = xs1) (e17 : arg17.view.read (Elt Ideal) X17 = xs2) (h52 : v52 = (k0_t1_loop i).lb) (A : At B (i 1).val v2 v12 v13 v20 v26 v30 x0 x7 xs0 xs1 xs2)
    (Q : ℕ → ℕ → ℝ) (S : ℕ → ℕ → ℕ → ℝ)
    (h0 : Inv B (i 1).val (b0 i) 0 Q S init (arg10.view.read (Elt Ideal) G10) (arg18.view.read (Elt Ideal) G18)) :
    ∀ n : ℕ, n ≤ (k0_t1_loop i).trips →
      Inv B (i 1).val (b0 i) n Q S (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 G10 G18 init n).1
        (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 G10 G18 init n).2.1))
        (arg18.view.read (Elt Ideal) (arg18.view.writes (Elt Ideal) G18 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 G10 G18 init n).2.2)) := by
  intro n
  induction n with
  | zero => intro _; exact h0
  | succ n ih =>
    intro hn
    have I := ih (Nat.le_of_succ_le hn)
    have hk := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 G10 G18 init ⟨n, hn⟩
    rw [tripR_eq (e2 := e2) (e9 := e9) (e15 := e15) (e16 := e16) (e17 := e17),
      tripL_eq (e2 := e2) (e9 := e9) (e15 := e15) (e16 := e16) (e17 := e17)] at hk
    refine Eq.mpr (congrArg (fun s => Inv B (i 1).val (b0 i) (n + 1) Q S s.1
      (arg10.view.read (Elt Ideal) (arg10.view.writes (Elt Ideal) G10 s.2.1))
      (arg18.view.read (Elt Ideal) (arg18.view.writes (Elt Ideal) G18 s.2.2))) hk) ?_
    clear hk ih h0
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v52 X2 X9 X15 X16 X17 G10 G18 init n = s at I ⊢
    have HP := tileP_holds ⟨n, hn⟩ h52 A
    have HD := tileDs_holds ⟨n, hn⟩ h52 A
    refine ⟨?_, ?_, ?_, ?_, ?_, ?_⟩
    · intro x l
      rw [Finset.sum_range_succ]
      exact pay73_apply _ _ _ _ HD v2 A.half _ (fun r l => B.q (544 * (b0 i + n) + r) l)
        (fun r l => (ld_rows i ⟨n, hn⟩ x0 r l).trans (A.q _ _)) _ x l _ (I.dk x l)
    · intro x l
      rw [Finset.sum_range_succ]
      exact pay72_apply _ _ HP v2 A.half _ (fun r l => B.d (544 * (b0 i + n) + r) l)
        (fun r l => (ld_rows i ⟨n, hn⟩ x7 r l).trans (A.d _ _)) _ x l _ (I.dv x l)
    · intro x
      rw [Finset.sum_range_succ, neg_add, ← sub_eq_add_neg]
      exact pay75_apply _ _ _ _ HD _ x _ (I.c0 x)
    · intro x
      rw [Finset.sum_range_succ, neg_add, ← sub_eq_add_neg]
      exact pay76_apply _ _ _ _ HD _ x _ (I.c1 x)
    · intro r l
      have hb := blk_lt i ⟨n, hn⟩
      have hr := r.isLt
      refine (View.read_writes_cons_unit arg10.view G10 _ _ s.2.1 (ix2 r l) (off1_eq i ⟨n, hn⟩)).trans ?_
      by_cases h : 544 * (b0 i + n) ≤ r.val ∧ r.val < 544 * (b0 i + n) + 544
      · refine (dif_pos (show ∀ a : Fin 2, _ from ?_)).trans ?_
        · intro a
          fin_cases a
          · exact h
          · exact ⟨Nat.zero_le _, (Nat.zero_add 128).symm ▸ l.isLt⟩
        refine (congrArg _ (local_rows r l _ h _)).trans ?_
        have hd := I.dq r l
        rw [if_neg (by omega), add_zero] at hd
        have hi : (⟨544 * (b0 i + n) + (r.val - 544 * (b0 i + n)), row_lt i ⟨n, hn⟩ ⟨r.val - 544 * (b0 i + n), by omega⟩⟩ : Fin 2176) = r :=
          Fin.ext (by show 544 * (b0 i + n) + (r.val - 544 * (b0 i + n)) = r.val; omega)
        refine (pay74_apply _ _ _ _ HD v2 A.half v12 (fun x l => B.k (128 * (i 1).val + x) l) A.k _ _ l (Q r.val l.val)
          ((ld_rows i ⟨n, hn⟩ _ _ l).trans ((congrArg (fun z => View.read _ _ _ (ix2 z l)) hi).trans hd))).trans ?_
        rw [if_pos (by omega)]
        simp only []
        rw [show 544 * (b0 i + n) + (r.val - 544 * (b0 i + n)) = r.val by omega]
      · refine (dif_neg (fun h' => h (h' 0))).trans ((I.dq r l).trans ?_)
        have : (544 * b0 i ≤ r.val ∧ r.val < 544 * (b0 i + n)) ↔ (544 * b0 i ≤ r.val ∧ r.val < 544 * (b0 i + (n + 1))) := by omega
        simp only [this]
    · intro t a x
      have hb := blk_lt i ⟨n, hn⟩
      have ht := t.isLt
      refine (View.read_writes_cons_unit arg18.view G18 _ _ s.2.2 (ix3 t a x) (off2_eq i ⟨n, hn⟩)).trans ?_
      by_cases h : t.val = b0 i + n
      · refine (dif_pos (show ∀ a : Fin 3, _ from ?_)).trans ?_
        · intro y
          fin_cases y
          · exact ⟨h.ge, Nat.lt_succ_of_le h.le⟩
          · exact ⟨Nat.zero_le _, (Nat.zero_add 1088).symm ▸ a.isLt⟩
          · exact ⟨Nat.zero_le _, (Nat.zero_add 128).symm ▸ x.isLt⟩
        refine (congrArg _ (local_slab t a x _ h _)).trans ?_
        have hd := I.acc t a x
        rw [if_neg (by omega), add_zero] at hd
        have hi : (⟨b0 i + n, hb⟩ : Fin 4) = t := Fin.ext h.symm
        refine (pay77_apply _ _ _ _ HD _ a x (S t.val a.val x.val)
          ((ld_slab i ⟨n, hn⟩ _ a x).trans ((congrArg (fun z => View.read _ _ _ (ix3 z a x)) hi).trans hd))).trans ?_
        rw [if_pos (by omega)]
        simp only []
        rw [h]
      · refine (dif_neg (fun h' => h ?_)).trans ((I.acc t a x).trans ?_)
        · have := h' 0
          exact Nat.le_antisymm (Nat.le_of_lt_succ this.2) this.1
        have : (b0 i ≤ t.val ∧ t.val < b0 i + n) ↔ (b0 i ≤ t.val ∧ t.val < b0 i + (n + 1)) := by omega
        simp only [this]
end

end Cert.KernelIdeal.Fox
-- ==== Proof.Fill.lean ====
module

public import proofs.«01_k».proof.Proof.Pay

@[expose] public section

/-! The other blocks the kernel computes, read element by element: the spread decay, log-sum-exp and row sums of a row
    block, the key side's decay, the positions, the zero blocks, and the last key block's sums over the keys. -/

set_option maxRecDepth 16384

noncomputable section

namespace Cert.KernelIdeal.Fox

open Idealize.ShloMosaic Idealize.SL.Sem Cert.KernelIdeal.Gen

theorem cmpi_eq_word (a b : ℕ) (ha : a < 2 ^ 32) (hb : b < 2 ^ 32) :
    IntOp.cmpi CmpIPredicate.eq (BitVec.ofNat 32 a) (BitVec.ofNat 32 b) = BitVec.ofBool (decide (a = b)) := by
  have : BitVec.ofNat 32 a = BitVec.ofNat 32 b ↔ a = b := by
    rw [← BitVec.toNat_inj, BitVec.toNat_ofNat, BitVec.toNat_ofNat, Nat.mod_eq_of_lt ha, Nat.mod_eq_of_lt hb]
  simp only [IntOp.cmpi]
  by_cases h : a = b
  · simp [h]
  · rw [beq_eq_false_iff_ne.mpr (fun e => h (this.mp e))]; simp [h]

theorem cmpi_slt_word (a b : ℕ) (ha : a < 2 ^ 31) (hb : b < 2 ^ 31) :
    IntOp.cmpi CmpIPredicate.slt (BitVec.ofNat 32 a) (BitVec.ofNat 32 b) = BitVec.ofBool (decide (a < b)) := by
  have e : ∀ n : ℕ, n < 2 ^ 31 → (BitVec.ofNat 32 n).toInt = (n : ℤ) := fun n hn => by
    rw [BitVec.toInt_eq_toNat_of_lt (by rw [BitVec.toNat_ofNat, Nat.mod_eq_of_lt (by omega)]; omega), BitVec.toNat_ofNat,
      Nat.mod_eq_of_lt (by omega)]
  simp only [IntOp.cmpi, BitVec.slt, e a ha, e b hb, Nat.cast_lt]

/-- One lane picked out of a sum over the lanes. -/
theorem pick_lane (n : ℕ) (hn : n < 128) (f : Fin 128 → EReal) :
    (∑ l : Fin 128, Scalar.select (IntOp.cmpi CmpIPredicate.eq (BitVec.ofNat 32 l.val) (BitVec.ofNat 32 n)) (f l) 0) = f ⟨n, hn⟩ := by
  rw [Finset.sum_eq_single (⟨n, hn⟩ : Fin 128)]
  · rw [cmpi_eq_word n n (by omega) (by omega), select_ofBool, if_pos rfl]
  · intro l _ hl
    have := l.isLt
    rw [cmpi_eq_word l.val n (by omega) (by omega), select_ofBool, if_neg (fun h => hl (Fin.ext h))]
  · intro h; exact absurd (Finset.mem_univ _) h

theorem base_word (p h : ℕ) (hp : p < 8) (hh : h < 2) :
    Scalar.addi (Scalar.muli (BitVec.ofNat 32 p) 16#32) (BitVec.ofNat 32 h) = BitVec.ofNat 32 (16 * p + h) := by
  rw [BitVec.ofNat_add, mul_comm 16 p, BitVec.ofNat_mul]; rfl

/-- The lane numbers. -/
abbrev lanes : IVec S544x128 32 := iota Kind.tc S544x128 32 [1] iota_S544x128_d1_w32

theorem pay58_half : IsHalf k0_pay58 := by
  intro r l
  pointwise [k0_pay58]
  exact cmpi_slt_word l.val 64 (by have := l.isLt; omega) (by omega)

theorem pay59_half : ∀ (r : Fin 544) (l : Fin 128), k0_pay59 (ix2 r l) = BitVec.ofBool (decide (¬ l.val < 64)) := by
  intro r l
  pointwise [k0_pay59]
  rw [pay58_half r l]
  by_cases h : l.val < 64 <;> simp [h] <;> rfl

theorem pay9_apply (p : ℕ) (hp : p < 8) (v : Vec Ideal S544x128 .f32) (r : Fin 544) (x : Fin 128) :
    k0_pay9 (F := Ideal) (BitVec.ofNat 32 p) lanes v (ix3 0 r x) = v (ix2 r ⟨16 * p, by omega⟩) := by
  pointwise [k0_pay9]
  rw [show (0#32) = BitVec.ofNat 32 0 from rfl, base_word p 0 hp (by omega)]
  exact pick_lane (16 * p) (by omega) (fun l => v (ix2 r l))

theorem pay12_apply (p : ℕ) (hp : p < 8) (v : Vec Ideal S544x128 .f32) (r : Fin 544) (x : Fin 128) :
    k0_pay12 (F := Ideal) lanes v (Scalar.muli (BitVec.ofNat 32 p) 16#32) 1#32 (ix3 0 r x) = v (ix2 r ⟨16 * p + 1, by omega⟩) := by
  pointwise [k0_pay12]
  rw [show (1#32) = BitVec.ofNat 32 1 from rfl, base_word p 1 hp (by omega)]
  exact pick_lane (16 * p + 1) (by omega) (fun l => v (ix2 r l))

theorem pay8_apply (v : Vec Ideal S544x128 .f32) (r : Fin 544) (x : Fin 128) :
    k0_pay8 (F := Ideal) (k0_pay7 lanes v) (ix3 0 r x) = v (ix2 r 0) := by
  pointwise [k0_pay8, k0_pay7, k0_pay5]
  exact pick_lane 0 (by omega) (fun l => v (ix2 r l))

theorem pay11_apply (v : Vec Ideal S544x128 .f32) (r : Fin 544) (x : Fin 128) :
    k0_pay11 (F := Ideal) lanes (k0_pay5 v) (ix3 0 r x) = v (ix2 r 64) := by
  pointwise [k0_pay11, k0_pay5]
  exact pick_lane 64 (by omega) (fun l => v (ix2 r l))

theorem pay6_apply (v w : Vec Ideal S544x128 .f32) (d o : ℕ → ℕ → ℝ)
    (hv : ∀ (r : Fin 544) (l : Fin 128), v (ix2 r l) = ((d r.val l.val : ℝ) : EReal))
    (hw : ∀ (r : Fin 544) (l : Fin 128), w (ix2 r l) = ((o r.val l.val : ℝ) : EReal)) (r : Fin 544) (x : Fin 128) :
    k0_pay6 (F := Ideal) k0_pay58 v w (ix3 0 r x) = ((Pair.headDot 0 (d r.val) (o r.val) : ℝ) : EReal) := by
  pointwise [k0_pay6, k0_pay4]
  unfold Pair.headDot
  rw [coe_sum]
  refine Finset.sum_congr rfl fun l _ => ?_
  have := l.isLt
  rw [pay58_half r l, select_ofBool, hv, hw, ← EReal.coe_mul]
  by_cases h : l.val < 64
  · rw [if_pos h, if_pos (by omega)]
  · rw [if_neg h, if_neg (by omega)]; rfl

theorem pay10_apply (v w : Vec Ideal S544x128 .f32) (d o : ℕ → ℕ → ℝ)
    (hv : ∀ (r : Fin 544) (l : Fin 128), v (ix2 r l) = ((d r.val l.val : ℝ) : EReal))
    (hw : ∀ (r : Fin 544) (l : Fin 128), w (ix2 r l) = ((o r.val l.val : ℝ) : EReal)) (r : Fin 544) (x : Fin 128) :
    k0_pay10 (F := Ideal) k0_pay59 (k0_pay4 v w) (ix3 0 r x) = ((Pair.headDot 1 (d r.val) (o r.val) : ℝ) : EReal) := by
  pointwise [k0_pay10, k0_pay4]
  unfold Pair.headDot
  rw [coe_sum]
  refine Finset.sum_congr rfl fun l _ => ?_
  have := l.isLt
  rw [pay59_half r l, select_ofBool, hv, hw, ← EReal.coe_mul]
  by_cases h : l.val < 64
  · rw [if_neg (by omega), if_neg (by omega)]; rfl
  · rw [if_pos h, if_pos (by omega)]

theorem pay63_apply (v w : Vec Ideal S1x128 .f32) (a : Fin 1088) (x : Fin 128) :
    k0_pay63 (F := Ideal) v w (ix2 a x) = if a.val < 544 then v (ix2 0 x) else w (ix2 0 x) := by
  pointwise [k0_pay63]
  by_cases h : a.val < 544
  · rw [if_pos h]; exact dif_pos h
  · rw [if_neg h]; exact dif_neg h

theorem pay64_apply (a : Fin 1088) (x : Fin 128) : k0_pay64 (ix2 a x) = BitVec.ofNat 32 (a.val % 544) := by
  pointwise [k0_pay64]
  have ha := a.isLt
  rw [show IntOp.cmpi CmpIPredicate.slt (BitVec.ofNat 32 a.val) 544#32 = BitVec.ofBool (decide (a.val < 544)) from
    cmpi_slt_word a.val 544 (by omega) (by omega), select_ofBool]
  by_cases h : a.val < 544
  · rw [if_pos h, Nat.mod_eq_of_lt h]
  · rw [if_neg h, show a.val % 544 = a.val - 544 by omega]
    apply BitVec.eq_of_toNat_eq
    show (BitVec.ofNat 32 a.val - 544#32).toNat = _
    rw [BitVec.toNat_sub, BitVec.toNat_ofNat, BitVec.toNat_ofNat, BitVec.toNat_ofNat]
    omega

theorem pay65_apply (i : grid0.Coords) (a : Fin 1088) (x : Fin 128) :
    k0_pay65 i (ix2 a x) = BitVec.ofNat 32 (128 * (i 1).val + x.val) := by
  pointwise [k0_pay65]
  rw [BitVec.ofNat_add, mul_comm 128, BitVec.ofNat_mul]; rfl

theorem pay2_apply (r : Fin 2176) (l : Fin 128) : k0_pay2 (F := Ideal) (ix2 r l) = ((0 : ℝ) : EReal) := by
  pointwise [k0_pay2]
  rfl

theorem pay3_apply (t : Fin 4) (a : Fin 1088) (x : Fin 128) : k0_pay3 (F := Ideal) (ix3 t a x) = ((0 : ℝ) : EReal) := by
  pointwise [k0_pay3]
  rfl

theorem pay60_apply (r : Fin 2176) (l : Fin 128) : k0_pay60 (F := Ideal) (ix2 r l) = ((0 : ℝ) : EReal) := by
  pointwise [k0_pay60]
  rfl

theorem pay86_apply (a : Fin 16) (x : Fin 128) : k0_pay86 (F := Ideal) (ix2 a x) = ((0 : ℝ) : EReal) := by
  pointwise [k0_pay86]
  rfl

theorem pay66_apply (x l : Fin 128) : k0_pay66 (F := Ideal) (ix2 x l) = ((0 : ℝ) : EReal) := by
  pointwise [k0_pay66]
  rfl

theorem pay67_apply (x l : Fin 128) : k0_pay67 (F := Ideal) (ix2 x l) = ((0 : ℝ) : EReal) := by
  pointwise [k0_pay67]
  rfl

theorem pay68_apply (x : Fin 128) : k0_pay68 (F := Ideal) (ix2 0 x) = ((0 : ℝ) : EReal) := by
  pointwise [k0_pay68]
  rfl

theorem pay69_apply (x : Fin 128) : k0_pay69 (F := Ideal) (FloatOps.ofBits FTy.f32 0#32) (ix2 0 x) = ((0 : ℝ) : EReal) := by
  pointwise [k0_pay69]
  rfl

theorem pay48_apply (p : ℕ) (hp : p < 8) (v w : Vec Ideal S1x544x128 .f32) (z : Vec Ideal S544x128 .f32) (r : Fin 544) (l : Fin 128)
    (s : ℝ) (f g : ℕ → ℝ) (hs : z (ix2 r l) = (s : EReal)) (hv : ∀ x : Fin 128, v (ix3 0 r x) = ((f x.val : ℝ) : EReal))
    (hw : ∀ x : Fin 128, w (ix3 0 r x) = ((g x.val : ℝ) : EReal)) :
    k0_pay48 (F := Ideal) (BitVec.ofNat 32 p) lanes v w z (ix2 r l)
      = ((s + ((if l.val = 16 * p then ∑ x : Fin 128, f x.val else 0) + (if l.val = 16 * p + 1 then ∑ x : Fin 128, g x.val else 0)) : ℝ) : EReal) := by
  pointwise [k0_pay48]
  have := l.isLt
  rw [show (0#32) = BitVec.ofNat 32 0 from rfl, show (1#32) = BitVec.ofNat 32 1 from rfl, base_word p 0 hp (by omega),
    base_word p 1 hp (by omega), cmpi_eq_word l.val (16 * p + 0) (by omega) (by omega),
    cmpi_eq_word l.val (16 * p + 1) (by omega) (by omega), select_ofBool, select_ofBool, hs]
  simp only [hv, hw, ← coe_sum]
  rw [EReal.coe_add, EReal.coe_add]
  congr 2
  · rw [add_zero]; split <;> rfl
  · split <;> rfl

end Cert.KernelIdeal.Fox
-- ==== Proof.Open.lean ====
module

public import proofs.«01_k».proof.Proof.LoopVal
public import proofs.«01_k».proof.Proof.Fill

@[expose] public section

/-! What the kernel's body stores at a grid point, in each of its four cases, as the loop's state and the named blocks. -/

set_option maxRecDepth 16384

noncomputable section

namespace Cert.KernelIdeal.Fox

open Idealize.ShloMosaic Idealize.SL.Sem Cert.KernelIdeal.Gen Idealize.ShloMosaic.TcCoe

variable {F : FTy → Type} [FloatOps F]

/-- What the loop carries and has stored. -/
abbrev Carried (F : FTy → Type) : Type :=
  (FVec F S128x128 .f32 × FVec F S128x128 .f32 × FVec F S1x128 .f32 × FVec F S1x128 .f32)
    × List (View.Piece (Elt F) S2176x128 .f32) × List (View.Piece (Elt F) S4x1088x128 .f32)

/-- A key block, loaded whole. -/
abbrev ldK (x : Vec F S128x128 .bf16) : Vec F S128x128 .bf16 := View.ld x (Rect.unit ![0, 0] ![128, 128] inb_S128x128_S128x128_0_0)

/-- The key side's decay, on the stacked rows. -/
abbrev ckTile (x4 : Vec F S16x128 .f32) : FVec F S1088x128 .f32 :=
  k0_pay63 (View.ld x4 (Rect.unit ![0, 0] ![1, 128] inb_S16x128_S1x128_0_0)) (View.ld x4 (Rect.unit ![1, 0] ![1, 128] inb_S16x128_S1x128_1_0))

/-- The zero stores that begin a pair of heads. -/
def zeroQ : List (View.Piece (Elt F) S2176x128 .f32) := [⟨Rect.unit ![0, 0] ![2176, 128] inb_S2176x128_S2176x128_0_0, k0_pay2⟩]
def zeroS : List (View.Piece (Elt F) S4x1088x128 .f32) := [⟨Rect.unit ![0, 0, 0] ![4, 1088, 128] inb_S4x1088x128_S4x1088x128_0_0_0, k0_pay3⟩]

/-- The spread decay of the query side. -/
def cqL (i : grid0.Coords) (x3 : Vec F S2176x128 .f32) : List (View.Piece (Elt F) S4x1088x128 .f32) :=
  [⟨Rect.unit ![3, 544, 0] ![1, 544, 128] inb_S4x1088x128_S1x544x128_3_544_0, k0_pay12 lanes (View.ld x3 (Rect.unit ![1632, 0] ![544, 128] inb_S2176x128_S544x128_1632_0)) (Scalar.muli (BitVec.ofNat 32 (i 0).val) 16#32) 1#32⟩,
   ⟨Rect.unit ![3, 0, 0] ![1, 544, 128] inb_S4x1088x128_S1x544x128_3_0_0, k0_pay9 (BitVec.ofNat 32 (i 0).val) lanes (View.ld x3 (Rect.unit ![1632, 0] ![544, 128] inb_S2176x128_S544x128_1632_0))⟩,
   ⟨Rect.unit ![2, 544, 0] ![1, 544, 128] inb_S4x1088x128_S1x544x128_2_544_0, k0_pay12 lanes (View.ld x3 (Rect.unit ![1088, 0] ![544, 128] inb_S2176x128_S544x128_1088_0)) (Scalar.muli (BitVec.ofNat 32 (i 0).val) 16#32) 1#32⟩,
   ⟨Rect.unit ![2, 0, 0] ![1, 544, 128] inb_S4x1088x128_S1x544x128_2_0_0, k0_pay9 (BitVec.ofNat 32 (i 0).val) lanes (View.ld x3 (Rect.unit ![1088, 0] ![544, 128] inb_S2176x128_S544x128_1088_0))⟩,
   ⟨Rect.unit ![1, 544, 0] ![1, 544, 128] inb_S4x1088x128_S1x544x128_1_544_0, k0_pay12 lanes (View.ld x3 (Rect.unit ![544, 0] ![544, 128] inb_S2176x128_S544x128_544_0)) (Scalar.muli (BitVec.ofNat 32 (i 0).val) 16#32) 1#32⟩,
   ⟨Rect.unit ![1, 0, 0] ![1, 544, 128] inb_S4x1088x128_S1x544x128_1_0_0, k0_pay9 (BitVec.ofNat 32 (i 0).val) lanes (View.ld x3 (Rect.unit ![544, 0] ![544, 128] inb_S2176x128_S544x128_544_0))⟩,
   ⟨Rect.unit ![0, 544, 0] ![1, 544, 128] inb_S4x1088x128_S1x544x128_0_544_0, k0_pay12 lanes (View.ld x3 (Rect.unit ![0, 0] ![544, 128] inb_S2176x128_S544x128_0_0)) (Scalar.muli (BitVec.ofNat 32 (i 0).val) 16#32) 1#32⟩,
   ⟨Rect.unit ![0, 0, 0] ![1, 544, 128] inb_S4x1088x128_S1x544x128_0_0_0, k0_pay9 (BitVec.ofNat 32 (i 0).val) lanes (View.ld x3 (Rect.unit ![0, 0] ![544, 128] inb_S2176x128_S544x128_0_0))⟩]

/-- The spread log-sum-exp. -/
def lseL (x6 : Vec F S2176x128 .f32) : List (View.Piece (Elt F) S4x1088x128 .f32) :=
  [⟨Rect.unit ![3, 544, 0] ![1, 544, 128] inb_S4x1088x128_S1x544x128_3_544_0, k0_pay11 lanes (k0_pay5 (View.ld x6 (Rect.unit ![1632, 0] ![544, 128] inb_S2176x128_S544x128_1632_0)))⟩,
   ⟨Rect.unit ![3, 0, 0] ![1, 544, 128] inb_S4x1088x128_S1x544x128_3_0_0, k0_pay8 (k0_pay7 lanes (View.ld x6 (Rect.unit ![1632, 0] ![544, 128] inb_S2176x128_S544x128_1632_0)))⟩,
   ⟨Rect.unit ![2, 544, 0] ![1, 544, 128] inb_S4x1088x128_S1x544x128_2_544_0, k0_pay11 lanes (k0_pay5 (View.ld x6 (Rect.unit ![1088, 0] ![544, 128] inb_S2176x128_S544x128_1088_0)))⟩,
   ⟨Rect.unit ![2, 0, 0] ![1, 544, 128] inb_S4x1088x128_S1x544x128_2_0_0, k0_pay8 (k0_pay7 lanes (View.ld x6 (Rect.unit ![1088, 0] ![544, 128] inb_S2176x128_S544x128_1088_0)))⟩,
   ⟨Rect.unit ![1, 544, 0] ![1, 544, 128] inb_S4x1088x128_S1x544x128_1_544_0, k0_pay11 lanes (k0_pay5 (View.ld x6 (Rect.unit ![544, 0] ![544, 128] inb_S2176x128_S544x128_544_0)))⟩,
   ⟨Rect.unit ![1, 0, 0] ![1, 544, 128] inb_S4x1088x128_S1x544x128_1_0_0, k0_pay8 (k0_pay7 lanes (View.ld x6 (Rect.unit ![544, 0] ![544, 128] inb_S2176x128_S544x128_544_0)))⟩,
   ⟨Rect.unit ![0, 544, 0] ![1, 544, 128] inb_S4x1088x128_S1x544x128_0_544_0, k0_pay11 lanes (k0_pay5 (View.ld x6 (Rect.unit ![0, 0] ![544, 128] inb_S2176x128_S544x128_0_0)))⟩,
   ⟨Rect.unit ![0, 0, 0] ![1, 544, 128] inb_S4x1088x128_S1x544x128_0_0_0, k0_pay8 (k0_pay7 lanes (View.ld x6 (Rect.unit ![0, 0] ![544, 128] inb_S2176x128_S544x128_0_0)))⟩]

/-- The spread row sums of the cotangent times the output. -/
def dsumL (x7 x5 : Vec F S2176x128 .f32) : List (View.Piece (Elt F) S4x1088x128 .f32) :=
  [⟨Rect.unit ![3, 544, 0] ![1, 544, 128] inb_S4x1088x128_S1x544x128_3_544_0, k0_pay10 k0_pay59 (k0_pay4 (View.ld x7 (Rect.unit ![1632, 0] ![544, 128] inb_S2176x128_S544x128_1632_0)) (View.ld x5 (Rect.unit ![1632, 0] ![544, 128] inb_S2176x128_S544x128_1632_0)))⟩,
   ⟨Rect.unit ![3, 0, 0] ![1, 544, 128] inb_S4x1088x128_S1x544x128_3_0_0, k0_pay6 k0_pay58 (View.ld x7 (Rect.unit ![1632, 0] ![544, 128] inb_S2176x128_S544x128_1632_0)) (View.ld x5 (Rect.unit ![1632, 0] ![544, 128] inb_S2176x128_S544x128_1632_0))⟩,
   ⟨Rect.unit ![2, 544, 0] ![1, 544, 128] inb_S4x1088x128_S1x544x128_2_544_0, k0_pay10 k0_pay59 (k0_pay4 (View.ld x7 (Rect.unit ![1088, 0] ![544, 128] inb_S2176x128_S544x128_1088_0)) (View.ld x5 (Rect.unit ![1088, 0] ![544, 128] inb_S2176x128_S544x128_1088_0)))⟩,
   ⟨Rect.unit ![2, 0, 0] ![1, 544, 128] inb_S4x1088x128_S1x544x128_2_0_0, k0_pay6 k0_pay58 (View.ld x7 (Rect.unit ![1088, 0] ![544, 128] inb_S2176x128_S544x128_1088_0)) (View.ld x5 (Rect.unit ![1088, 0] ![544, 128] inb_S2176x128_S544x128_1088_0))⟩,
   ⟨Rect.unit ![1, 544, 0] ![1, 544, 128] inb_S4x1088x128_S1x544x128_1_544_0, k0_pay10 k0_pay59 (k0_pay4 (View.ld x7 (Rect.unit ![544, 0] ![544, 128] inb_S2176x128_S544x128_544_0)) (View.ld x5 (Rect.unit ![544, 0] ![544, 128] inb_S2176x128_S544x128_544_0)))⟩,
   ⟨Rect.unit ![1, 0, 0] ![1, 544, 128] inb_S4x1088x128_S1x544x128_1_0_0, k0_pay6 k0_pay58 (View.ld x7 (Rect.unit ![544, 0] ![544, 128] inb_S2176x128_S544x128_544_0)) (View.ld x5 (Rect.unit ![544, 0] ![544, 128] inb_S2176x128_S544x128_544_0))⟩,
   ⟨Rect.unit ![0, 544, 0] ![1, 544, 128] inb_S4x1088x128_S1x544x128_0_544_0, k0_pay10 k0_pay59 (k0_pay4 (View.ld x7 (Rect.unit ![0, 0] ![544, 128] inb_S2176x128_S544x128_0_0)) (View.ld x5 (Rect.unit ![0, 0] ![544, 128] inb_S2176x128_S544x128_0_0)))⟩,
   ⟨Rect.unit ![0, 0, 0] ![1, 544, 128] inb_S4x1088x128_S1x544x128_0_0_0, k0_pay6 k0_pay58 (View.ld x7 (Rect.unit ![0, 0] ![544, 128] inb_S2176x128_S544x128_0_0)) (View.ld x5 (Rect.unit ![0, 0] ![544, 128] inb_S2176x128_S544x128_0_0))⟩]

/-- The key side's sums: two rows over a zero block. -/
def dctL (a b : FVec F S1x128 .f32) : List (View.Piece (Elt F) S16x128 .f32) :=
  [⟨Rect.unit ![1, 0] ![1, 128] inb_S16x128_S1x128_1_0, b⟩, ⟨Rect.unit ![0, 0] ![1, 128] inb_S16x128_S1x128_0_0, a⟩,
   ⟨Rect.unit ![0, 0] ![16, 128] inb_S16x128_S16x128_0_0, k0_pay86⟩]

/-- The query side's sums, added to what was there. -/
def dcqL (i : grid0.Coords) (s : Vec F S4x1088x128 .f32) (x : Vec F S2176x128 .f32) : List (View.Piece (Elt F) S2176x128 .f32) :=
  [⟨Rect.unit ![1632, 0] ![544, 128] inb_S2176x128_S544x128_1632_0, k0_pay48 (BitVec.ofNat 32 (i 0).val) lanes (View.ld s (Rect.unit ![3, 0, 0] ![1, 544, 128] inb_S4x1088x128_S1x544x128_3_0_0)) (View.ld s (Rect.unit ![3, 544, 0] ![1, 544, 128] inb_S4x1088x128_S1x544x128_3_544_0)) (View.ld x (Rect.unit ![1632, 0] ![544, 128] inb_S2176x128_S544x128_1632_0))⟩,
   ⟨Rect.unit ![1088, 0] ![544, 128] inb_S2176x128_S544x128_1088_0, k0_pay48 (BitVec.ofNat 32 (i 0).val) lanes (View.ld s (Rect.unit ![2, 0, 0] ![1, 544, 128] inb_S4x1088x128_S1x544x128_2_0_0)) (View.ld s (Rect.unit ![2, 544, 0] ![1, 544, 128] inb_S4x1088x128_S1x544x128_2_544_0)) (View.ld x (Rect.unit ![1088, 0] ![544, 128] inb_S2176x128_S544x128_1088_0))⟩,
   ⟨Rect.unit ![544, 0] ![544, 128] inb_S2176x128_S544x128_544_0, k0_pay48 (BitVec.ofNat 32 (i 0).val) lanes (View.ld s (Rect.unit ![1, 0, 0] ![1, 544, 128] inb_S4x1088x128_S1x544x128_1_0_0)) (View.ld s (Rect.unit ![1, 544, 0] ![1, 544, 128] inb_S4x1088x128_S1x544x128_1_544_0)) (View.ld x (Rect.unit ![544, 0] ![544, 128] inb_S2176x128_S544x128_544_0))⟩,
   ⟨Rect.unit ![0, 0] ![544, 128] inb_S2176x128_S544x128_0_0, k0_pay48 (BitVec.ofNat 32 (i 0).val) lanes (View.ld s (Rect.unit ![0, 0, 0] ![1, 544, 128] inb_S4x1088x128_S1x544x128_0_0_0)) (View.ld s (Rect.unit ![0, 544, 0] ![1, 544, 128] inb_S4x1088x128_S1x544x128_0_544_0)) (View.ld x (Rect.unit ![0, 0] ![544, 128] inb_S2176x128_S544x128_0_0))⟩]

/-- The loop's state after its turns. -/
def loopSt (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (x1 x2 : Vec F S128x128 .bf16) (x4 : Vec F S16x128 .f32) (X2 : BufTy.Contents (Elt F) arg2.view.ty) (X9 : BufTy.Contents (Elt F) arg9.view.ty) (X15 : BufTy.Contents (Elt F) arg15.view.ty) (X16 : BufTy.Contents (Elt F) arg16.view.ty) (X17 : BufTy.Contents (Elt F) arg17.view.ty) (G10 : BufTy.Contents (Elt F) arg10.view.ty) (G18 : BufTy.Contents (Elt F) arg18.view.ty) : Carried F :=
  st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) k0_pay58 (ldK x1) (ldK x2)
    (ckTile x4) k0_pay64 (k0_pay65 i) k0_pay66 k0_pay67 k0_pay68 (FloatOps.ofBits FTy.f32 0#32) (k0_t1_loop i).lb
    X2 X9 X15 X16 X17 G10 G18 (k0_pay66, k0_pay67, k0_pay68, k0_pay69 (FloatOps.ofBits FTy.f32 0#32)) (k0_t1_loop i).trips

/-- The remainder loop makes no turn. -/
theorem t2_trips (i : grid0.Coords) : (k0_t2_loop i).trips = 0 := by
  have h : (i 1).val % 17 = (i 1).val := Nat.mod_eq_of_lt (i 1).isLt
  have e : k0_t2_loop i = k0_t2_loop (fun a => match a with | 0 => ⟨0, by decide⟩ | 1 => ⟨(i 1).val % 17, Nat.mod_lt _ (by decide)⟩) := by
    unfold k0_t2_loop
    simp only [h]
  rw [e]
  have : ∀ n : Fin 17, (k0_t2_loop (fun a => match a with | 0 => ⟨0, by decide⟩ | 1 => ⟨n.val % 17, Nat.mod_lt _ (by decide)⟩)).trips = 0 := by
    decide +kernel
  exact this ⟨(i 1).val, (i 1).isLt⟩

theorem st2_zero {𝒱 : Variants} {c : Dev nD} {bd : Option 𝒱.V} {i : grid0.Coords} {arg2 : Memref sig .tc .vmem S2176x128 .bf16} {harg2 : arg2.IsWhole} {arg3 : Memref sig .tc .vmem S128x128 .bf16} {harg3 : arg3.IsWhole} {arg4 : Memref sig .tc .vmem S128x128 .bf16} {harg4 : arg4.IsWhole} {arg5 : Memref sig .tc .vmem S2176x128 .f32} {harg5 : arg5.IsWhole} {arg6 : Memref sig .tc .vmem S16x128 .f32} {harg6 : arg6.IsWhole} {arg7 : Memref sig .tc .vmem S2176x128 .f32} {harg7 : arg7.IsWhole} {arg8 : Memref sig .tc .vmem S2176x128 .f32} {harg8 : arg8.IsWhole} {arg9 : Memref sig .tc .vmem S2176x128 .f32} {harg9 : arg9.IsWhole} {arg10 : Memref sig .tc .vmem S2176x128 .f32} {harg10 : arg10.IsWhole} {arg11 : Memref sig .tc .vmem S128x128 .f32} {harg11 : arg11.IsWhole} {arg12 : Memref sig .tc .vmem S128x128 .f32} {harg12 : arg12.IsWhole} {arg13 : Memref sig .tc .vmem S16x128 .f32} {harg13 : arg13.IsWhole} {arg14 : Memref sig .tc .vmem S2176x128 .f32} {harg14 : arg14.IsWhole} {arg15 : Memref sig .tc .vmem S4x1088x128 .f32} {harg15 : arg15.IsWhole} {arg16 : Memref sig .tc .vmem S4x1088x128 .f32} {harg16 : arg16.IsWhole} {arg17 : Memref sig .tc .vmem S4x1088x128 .f32} {harg17 : arg17.IsWhole} {arg18 : Memref sig .tc .vmem S4x1088x128 .f32} {harg18 : arg18.IsWhole} {arg1 : BitVec 32} {v2 : IVec S544x128 1} {v12 : Vec F S128x128 .bf16} {v13 : Vec F S128x128 .bf16} {v20 : FVec F S1088x128 .f32} {v26 : IVec S1088x128 32} {v30 : IVec S1088x128 32} {v31 : FVec F S128x128 .f32} {v32 : FVec F S128x128 .f32} {v33 : FVec F S1x128 .f32} {cst_14 : F .f32} {v57 : BitVec 32} {X_arg2 : BufTy.Contents (Elt F) arg2.view.ty} {X_arg9 : BufTy.Contents (Elt F) arg9.view.ty} {X_arg15 : BufTy.Contents (Elt F) arg15.view.ty} {X_arg16 : BufTy.Contents (Elt F) arg16.view.ty} {X_arg17 : BufTy.Contents (Elt F) arg17.view.ty} {G_arg10 : BufTy.Contents (Elt F) arg10.view.ty} {G_arg18 : BufTy.Contents (Elt F) arg18.view.ty} {init : FVec F S128x128 .f32 × FVec F S128x128 .f32 × FVec F S1x128 .f32 × FVec F S1x128 .f32} {n : ℕ} (h : n = 0) : st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v2 v12 v13 v20 v26 v30 v31 v32 v33 cst_14 v57 X_arg2 X_arg9 X_arg15 X_arg16 X_arg17 G_arg10 G_arg18 init n = (init, [], []) := by
  subst h; rfl

end Cert.KernelIdeal.Fox
-- ==== Proof.Result.lean ====
module

public import proofs.«01_k».proof.Proof.Open

@[expose] public section

/-! What the loop leaves at one key block, over the reals: the sums over all the rows, and the running sums over the key
    blocks met so far. -/

set_option maxRecDepth 16384

noncomputable section

namespace Cert.KernelIdeal.Fox

open Idealize.ShloMosaic Idealize.SL.Sem Cert.KernelIdeal.Gen Idealize.ShloMosaic.TcCoe

/-- A sum over the rows, block by block. -/
theorem sum_blocks (f : ℕ → ℝ) (n : ℕ) :
    ∑ r ∈ Finset.range (544 * n), f r = ∑ m ∈ Finset.range n, ∑ r : Fin 544, f (544 * m + r.val) := by
  induction n with
  | zero => rfl
  | succ n ih =>
    rw [Finset.sum_range_succ, ← ih, show 544 * (n + 1) = 544 * n + 544 by ring, Finset.sum_range_add]
    rw [Finset.sum_range (fun x => f (544 * n + x))]

/-- The rows before the first block met add nothing. -/
theorem sum_rows (f : ℕ → ℝ) (b : ℕ) (hb : b ≤ 4) (hf : ∀ r, r < 544 * b → f r = 0) :
    ∑ m ∈ Finset.range (4 - b), ∑ r : Fin 544, f (544 * (b + m) + r.val) = ∑ r ∈ Finset.range 2176, f r := by
  rw [show 2176 = 544 * 4 by norm_num, sum_blocks f 4]
  rw [show (4 : ℕ) = b + (4 - b) by omega, Finset.sum_range_add, show b + (4 - b) - b = 4 - b by omega]
  rw [Finset.sum_eq_zero (s := Finset.range b), zero_add]
  intro m hm
  refine Finset.sum_eq_zero fun r _ => hf _ ?_
  have := Finset.mem_range.mp hm
  have := r.isLt
  omega

namespace Pair
variable (B : Pair)

/-- The gradient of q summed over the first `n` key blocks. -/
def dqAcc (n r l : ℕ) : ℝ := ∑ j ∈ Finset.range n, ∑ x : Fin 128, B.ds (l / 64) r (128 * j + x.val) * B.k (128 * j + x.val) l

/-- The logits' gradients of the first `n` key blocks, summed lane by lane. -/
def sAcc (n t a x : ℕ) : ℝ := ∑ j ∈ Finset.range n, B.ds (a / 544) (544 * t + a % 544) (128 * j + x)

/-- The gradient of k. -/
def dk (y l : ℕ) : ℝ := ∑ r ∈ Finset.range 2176, B.ds (l / 64) r y * B.q r l

/-- The gradient of v. -/
def dv (y l : ℕ) : ℝ := ∑ r ∈ Finset.range 2176, B.pr (l / 64) r y * B.d r l

/-- The gradient of the key side's decay. -/
def dct (h y : ℕ) : ℝ := -∑ r ∈ Finset.range 2176, B.ds h r y

end Pair

/-- What a grid point's input blocks hold: pair `p` of heads, key block `j`. -/
structure Blk (B : Pair) (p j : ℕ) (x0 : Vec Ideal S2176x128 .bf16) (x1 x2 : Vec Ideal S128x128 .bf16) (x3 : Vec Ideal S2176x128 .f32)
    (x4 : Vec Ideal S16x128 .f32) (x5 x6 x7 : Vec Ideal S2176x128 .f32) : Prop where
  q : ∀ (r : Fin 2176) (l : Fin 128), x0 (ix2 r l) = ((B.q r.val l.val : ℝ) : EReal)
  k : ∀ x l : Fin 128, x1 (ix2 x l) = ((B.k (128 * j + x.val) l.val : ℝ) : EReal)
  v : ∀ x l : Fin 128, x2 (ix2 x l) = ((B.v (128 * j + x.val) l.val : ℝ) : EReal)
  cq : ∀ (r : Fin 2176) (h : ℕ) (hh : 16 * p + h < 128), h < 2 → x3 (ix2 r ⟨16 * p + h, hh⟩) = ((B.cq h r.val : ℝ) : EReal)
  ck : ∀ (h : ℕ) (hh : h < 16) (x : Fin 128), h < 2 → x4 (ix2 ⟨h, hh⟩ x) = ((B.ck h (128 * j + x.val) : ℝ) : EReal)
  o : ∀ (r : Fin 2176) (l : Fin 128), x5 (ix2 r l) = ((B.o r.val l.val : ℝ) : EReal)
  lse : ∀ (r : Fin 2176) (h : ℕ) (hh : 64 * h < 128), x6 (ix2 r ⟨64 * h, hh⟩) = ((B.lse h r.val : ℝ) : EReal)
  d : ∀ (r : Fin 2176) (l : Fin 128), x7 (ix2 r l) = ((B.d r.val l.val : ℝ) : EReal)

/-- What the three spread scratch arrays hold. -/
structure Spread (B : Pair) (xs0 xs1 xs2 : Vec Ideal S4x1088x128 .f32) : Prop where
  cq : ∀ (t : Fin 4) (a : Fin 1088) (x : Fin 128), xs0 (ix3 t a x) = ((B.cq (a.val / 544) (544 * t.val + a.val % 544) : ℝ) : EReal)
  lse : ∀ (t : Fin 4) (a : Fin 1088) (x : Fin 128), xs1 (ix3 t a x) = ((B.lse (a.val / 544) (544 * t.val + a.val % 544) : ℝ) : EReal)
  dsum : ∀ (t : Fin 4) (a : Fin 1088) (x : Fin 128), xs2 (ix3 t a x) = ((B.dsum (a.val / 544) (544 * t.val + a.val % 544) : ℝ) : EReal)

theorem ldK_eq {F : FTy → Type} (x : Vec F S128x128 .bf16) : ldK x = x :=
  View.ld_unit_zero (S := S128x128) (off := ![0, 0]) (by funext a; fin_cases a <;> rfl) _ x

theorem at_of_blk {B : Pair} {p : ℕ} {i : grid0.Coords} {x0 : Vec Ideal S2176x128 .bf16} {x1 x2 : Vec Ideal S128x128 .bf16} {x3 : Vec Ideal S2176x128 .f32}
    {x4 : Vec Ideal S16x128 .f32} {x5 x6 x7 : Vec Ideal S2176x128 .f32} {xs0 xs1 xs2 : Vec Ideal S4x1088x128 .f32}
    (H : Blk B p (i 1).val x0 x1 x2 x3 x4 x5 x6 x7) (S : Spread B xs0 xs1 xs2) :
    At B (i 1).val k0_pay58 (ldK x1) (ldK x2) (ckTile x4) k0_pay64 (k0_pay65 i) x0 x7 xs0 xs1 xs2 where
  half := pay58_half
  k x l := by rw [ldK_eq]; exact H.k x l
  v x l := by rw [ldK_eq]; exact H.v x l
  ck a x := by
    have ha := a.isLt
    refine (pay63_apply _ _ a x).trans ?_
    by_cases h : a.val < 544
    · rw [if_pos h, Nat.div_eq_of_lt h]
      refine Eq.trans ?_ (H.ck 0 (by omega) x (by omega))
      refine congrArg x4 (funext fun y => Fin.ext ?_)
      refine (Rect.idx_unit_val _ _ _ _ _).trans ?_
      fin_cases y
      · rfl
      · exact Nat.zero_add _
    · rw [if_neg h, show a.val / 544 = 1 by omega]
      refine Eq.trans ?_ (H.ck 1 (by omega) x (by omega))
      refine congrArg x4 (funext fun y => Fin.ext ?_)
      refine (Rect.idx_unit_val _ _ _ _ _).trans ?_
      fin_cases y
      · rfl
      · exact Nat.zero_add _
  row := pay64_apply
  key := pay65_apply i
  q := H.q
  d := H.d
  cq := S.cq
  lse := S.lse
  dsum := S.dsum

/-- The loop's outcome at key block `j`. -/
structure Outcome (B : Pair) (j : ℕ) (acc : FVec Ideal S128x128 .f32 × FVec Ideal S128x128 .f32 × FVec Ideal S1x128 .f32 × FVec Ideal S1x128 .f32)
    (f10 : Vec Ideal S2176x128 .f32) (f18 : Vec Ideal S4x1088x128 .f32) : Prop where
  dk : ∀ x l : Fin 128, acc.1 (ix2 x l) = ((B.dk (128 * j + x.val) l.val : ℝ) : EReal)
  dv : ∀ x l : Fin 128, acc.2.1 (ix2 x l) = ((B.dv (128 * j + x.val) l.val : ℝ) : EReal)
  c0 : ∀ x : Fin 128, acc.2.2.1 (ix2 0 x) = ((B.dct 0 (128 * j + x.val) : ℝ) : EReal)
  c1 : ∀ x : Fin 128, acc.2.2.2 (ix2 0 x) = ((B.dct 1 (128 * j + x.val) : ℝ) : EReal)
  dq : ∀ (r : Fin 2176) (l : Fin 128), f10 (ix2 r l) = ((B.dqAcc (j + 1) r.val l.val : ℝ) : EReal)
  acc : ∀ (t : Fin 4) (a : Fin 1088) (x : Fin 128), f18 (ix3 t a x) = ((B.sAcc (j + 1) t.val a.val x.val : ℝ) : EReal)

theorem outcome_of_inv {B : Pair} {j : ℕ} (hj : j < 17) {acc : FVec Ideal S128x128 .f32 × FVec Ideal S128x128 .f32 × FVec Ideal S1x128 .f32 × FVec Ideal S1x128 .f32}
    {f10 : Vec Ideal S2176x128 .f32} {f18 : Vec Ideal S4x1088x128 .f32}
    (I : Inv B j (128 * j / 544) (4 - 128 * j / 544) (B.dqAcc j) (B.sAcc j) acc f10 f18) : Outcome B j acc f10 f18 where
  dk x l := by
    rw [I.dk x l, sum_rows (fun r => B.ds (l.val / 64) r (128 * j + x.val) * B.q r l.val) _ (by omega)]
    · rfl
    · intro r hr; rw [B.ds_eq_zero (by omega), zero_mul]
  dv x l := by
    rw [I.dv x l, sum_rows (fun r => B.pr (l.val / 64) r (128 * j + x.val) * B.d r l.val) _ (by omega)]
    · rfl
    · intro r hr; rw [B.pr_eq_zero (by omega), zero_mul]
  c0 x := by
    rw [I.c0 x, sum_rows (fun r => B.ds 0 r (128 * j + x.val)) _ (by omega)]
    · rfl
    · intro r hr; exact B.ds_eq_zero (by omega)
  c1 x := by
    rw [I.c1 x, sum_rows (fun r => B.ds 1 r (128 * j + x.val)) _ (by omega)]
    · rfl
    · intro r hr; exact B.ds_eq_zero (by omega)
  dq r l := by
    rw [I.dq r l]
    have hr := r.isLt
    unfold Pair.dqAcc
    rw [Finset.sum_range_succ]
    by_cases h : 544 * (128 * j / 544) ≤ r.val
    · rw [if_pos (by omega)]
    · rw [if_neg (by omega), Finset.sum_eq_zero (s := Finset.univ)]
      intro x _; rw [B.ds_eq_zero (by omega), zero_mul]
  acc t a x := by
    rw [I.acc t a x]
    have ht := t.isLt
    unfold Pair.sAcc
    rw [Finset.sum_range_succ]
    by_cases h : 128 * j / 544 ≤ t.val
    · rw [if_pos (by omega)]
    · have := Nat.mod_lt a.val (show 544 > 0 by omega)
      rw [if_neg (by omega), B.ds_eq_zero (by omega)]

/-- The loop at a grid point. -/
theorem loopSt_outcome (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (B : Pair) (p : ℕ)
    {x0 : Vec Ideal S2176x128 .bf16} {x1 x2 : Vec Ideal S128x128 .bf16} {x3 : Vec Ideal S2176x128 .f32}
    {x4 : Vec Ideal S16x128 .f32} {x5 x6 x7 : Vec Ideal S2176x128 .f32} {xs0 xs1 xs2 : Vec Ideal S4x1088x128 .f32} {X2 : BufTy.Contents (Elt Ideal) arg2.view.ty} {X9 : BufTy.Contents (Elt Ideal) arg9.view.ty} {X15 : BufTy.Contents (Elt Ideal) arg15.view.ty} {X16 : BufTy.Contents (Elt Ideal) arg16.view.ty} {X17 : BufTy.Contents (Elt Ideal) arg17.view.ty} {G10 : BufTy.Contents (Elt Ideal) arg10.view.ty} {G18 : BufTy.Contents (Elt Ideal) arg18.view.ty}
    (e2 : arg2.view.read (Elt Ideal) X2 = x0) (e9 : arg9.view.read (Elt Ideal) X9 = x7) (e15 : arg15.view.read (Elt Ideal) X15 = xs0) (e16 : arg16.view.read (Elt Ideal) X16 = xs1) (e17 : arg17.view.read (Elt Ideal) X17 = xs2)
    (H : Blk B p (i 1).val x0 x1 x2 x3 x4 x5 x6 x7) (S : Spread B xs0 xs1 xs2)
    (h10 : ∀ (r : Fin 2176) (l : Fin 128), arg10.view.read (Elt Ideal) G10 (ix2 r l) = ((B.dqAcc (i 1).val r.val l.val : ℝ) : EReal))
    (h18 : ∀ (t : Fin 4) (a : Fin 1088) (x : Fin 128), arg18.view.read (Elt Ideal) G18 (ix3 t a x) = ((B.sAcc (i 1).val t.val a.val x.val : ℝ) : EReal)) :
    Outcome B (i 1).val (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 X2 X9 X15 X16 X17 G10 G18).1
      (arg10.view.read (Elt Ideal) (arg10.view.writes (Elt Ideal) G10 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 X2 X9 X15 X16 X17 G10 G18).2.1))
      (arg18.view.read (Elt Ideal) (arg18.view.writes (Elt Ideal) G18 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 X2 X9 X15 X16 X17 G10 G18).2.2)) := by
  have hj : (i 1).val < 17 := (i 1).isLt
  have h := loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) k0_pay58 (ldK x1) (ldK x2) (ckTile x4) k0_pay64 (k0_pay65 i)
    k0_pay66 k0_pay67 k0_pay68 (FloatOps.ofBits FTy.f32 0#32) (k0_t1_loop i).lb x0 x7 xs0 xs1 xs2 X2 X9 X15 X16 X17 G10 G18
    (k0_pay66, k0_pay67, k0_pay68, k0_pay69 (FloatOps.ofBits FTy.f32 0#32)) B e2 e9 e15 e16 e17 rfl (at_of_blk H S)
    (B.dqAcc (i 1).val) (B.sAcc (i 1).val)
    ⟨fun x l => by rw [Finset.range_zero, Finset.sum_empty]; exact pay66_apply x l,
     fun x l => by rw [Finset.range_zero, Finset.sum_empty]; exact pay67_apply x l,
     fun x => by rw [Finset.range_zero, Finset.sum_empty, neg_zero]; exact pay68_apply x,
     fun x => by rw [Finset.range_zero, Finset.sum_empty, neg_zero]; exact pay69_apply x,
     fun r l => by rw [if_neg (by omega), add_zero]; exact h10 r l,
     fun t a x => by rw [if_neg (by omega), add_zero]; exact h18 t a x⟩
    _ (le_refl _)
  refine outcome_of_inv hj ?_
  have e := trips_eq i
  unfold b0 at e h
  rw [← e]
  exact h

end Cert.KernelIdeal.Fox
-- ==== Proof.Whole.lean ====
module

public import proofs.«01_k».proof.Proof.Result

@[expose] public section

/-! The gradient of the causal softmax attention with a decay, over the reals, on whole arrays: 16 heads of 64 lanes, 2176
    positions of which the first 112 are empty. Each pair of heads of the kernel is a part of it. -/

noncomputable section

namespace Cert.KernelIdeal.Fox

open scoped BigOperators

/-- The arguments, as reals: q, k, v and the cotangent by position and lane, the decay by position and lane and by lane
    and position. -/
structure Whole where
  q : ℕ → ℕ → ℝ
  k : ℕ → ℕ → ℝ
  v : ℕ → ℕ → ℝ
  c : ℕ → ℕ → ℝ
  ct : ℕ → ℕ → ℝ
  d : ℕ → ℕ → ℝ

namespace Whole
variable (A : Whole)

/-- The decay's lane of head `h`. -/
def lane (h : ℕ) : ℕ := 16 * (h / 2) + h % 2

/-- The logit of query `r` and key `x` in head `h`. -/
def sc (h r x : ℕ) : ℝ := (∑ l : Fin 64, A.q r (64 * h + l.val) * A.k x (64 * h + l.val)) + A.c r (lane h) - A.ct (lane h) x

/-- The sum of a row's exponentials. -/
def Z (h r : ℕ) : ℝ := ∑ x ∈ Finset.range 2176, if x ≤ r ∧ 112 ≤ x then Real.exp (A.sc h r x) else 0

/-- The softmax. -/
def P (h r x : ℕ) : ℝ := if x ≤ r ∧ 112 ≤ x then Real.exp (A.sc h r x) / A.Z h r else 0

/-- The output. -/
def o (r l : ℕ) : ℝ := ∑ x ∈ Finset.range 2176, A.P (l / 64) r x * A.v x l

/-- The softmax's cotangent. -/
def D (h r x : ℕ) : ℝ := ∑ l : Fin 64, A.d r (64 * h + l.val) * A.v x (64 * h + l.val)

/-- The logit's gradient. -/
def dS (h r x : ℕ) : ℝ := A.P h r x * (A.D h r x - ∑ y ∈ Finset.range 2176, A.P h r y * A.D h r y)

def dq (r l : ℕ) : ℝ := ∑ x ∈ Finset.range 2176, A.dS (l / 64) r x * A.k x l
def dk (y l : ℕ) : ℝ := ∑ r ∈ Finset.range 2176, A.dS (l / 64) r y * A.q r l
def dv (y l : ℕ) : ℝ := ∑ r ∈ Finset.range 2176, A.P (l / 64) r y * A.d r l
def dct (a y : ℕ) : ℝ := if a % 16 < 2 then -∑ r ∈ Finset.range 2176, A.dS (2 * (a / 16) + a % 16) r y else 0
def dc (r a : ℕ) : ℝ := if a % 16 < 2 then ∑ x ∈ Finset.range 2176, A.dS (2 * (a / 16) + a % 16) r x else 0

/-- Pair `p` of heads. -/
def pair (p : ℕ) : Pair where
  q r l := A.q r (128 * p + l)
  k x l := A.k x (128 * p + l)
  v x l := A.v x (128 * p + l)
  d r l := A.d r (128 * p + l)
  o r l := A.o r (128 * p + l)
  cq h r := A.c r (16 * p + h)
  ck h x := A.ct (16 * p + h) x
  lse h r := Real.log (A.Z (2 * p + h) r)

theorem Z_pos {h r : ℕ} (hr : 112 ≤ r) (hr' : r < 2176) : 0 < A.Z h r := by
  unfold Z
  refine Finset.sum_pos' (fun x _ => ?_) ⟨r, Finset.mem_range.mpr hr', ?_⟩
  · split
    · exact (Real.exp_pos _).le
    · exact le_refl _
  · rw [if_pos ⟨le_refl _, hr⟩]; exact Real.exp_pos _

theorem P_low {h r x : ℕ} (hr : r < 112) : A.P h r x = 0 := by
  unfold P; rw [if_neg (by omega)]

theorem P_low_key {h r x : ℕ} (hx : x < 112) : A.P h r x = 0 := by
  unfold P; rw [if_neg (by omega)]

theorem dS_low {h r x : ℕ} (hr : r < 112) : A.dS h r x = 0 := by
  unfold dS; rw [P_low A hr, zero_mul]

theorem dS_low_key {h r x : ℕ} (hx : x < 112) : A.dS h r x = 0 := by
  unfold dS; rw [P_low_key A hx, zero_mul]

/-- A head's product of two rows, over its own 64 lanes. -/
theorem headDot_eq (h : ℕ) (hh : h < 2) (a b : ℕ → ℝ) :
    Pair.headDot h a b = ∑ l : Fin 64, a (64 * h + l.val) * b (64 * h + l.val) := by
  unfold Pair.headDot
  rw [← Finset.sum_filter]
  symm
  refine Finset.sum_bij (fun (l : Fin 64) _ => (⟨64 * h + l.val, by have := l.isLt; omega⟩ : Fin 128)) ?_ ?_ ?_ ?_
  · intro l _
    have := l.isLt
    simp only [Finset.mem_filter, Finset.mem_univ, true_and]
    omega
  · intro l _ l' _ e
    have := congrArg Fin.val e
    exact Fin.ext (by simp only at this; omega)
  · intro l hl
    have hl2 := (Finset.mem_filter.mp hl).2
    have := l.isLt
    exact ⟨⟨l.val - 64 * h, by omega⟩, Finset.mem_univ _, Fin.ext (by show 64 * h + (l.val - 64 * h) = l.val; omega)⟩
  · intro l _; rfl

theorem lane_eq (p h : ℕ) (hh : h < 2) : lane (2 * p + h) = 16 * p + h := by
  unfold lane
  rw [show (2 * p + h) / 2 = p by omega, show (2 * p + h) % 2 = h by omega]

theorem sc_eq (p h r x : ℕ) (hh : h < 2) :
    Pair.headDot h ((A.pair p).q r) ((A.pair p).k x) + (A.pair p).cq h r - (A.pair p).ck h x = A.sc (2 * p + h) r x := by
  rw [headDot_eq h hh]
  unfold sc
  rw [lane_eq p h hh]
  congr 2
  refine Finset.sum_congr rfl fun l _ => ?_
  show A.q r (128 * p + (64 * h + l.val)) * A.k x (128 * p + (64 * h + l.val)) = _
  rw [show 128 * p + (64 * h + l.val) = 64 * (2 * p + h) + l.val by ring]

theorem pr_eq (p h r x : ℕ) (hh : h < 2) (hr : r < 2176) : (A.pair p).pr h r x = A.P (2 * p + h) r x := by
  unfold Pair.pr P
  by_cases hx : x ≤ r ∧ 112 ≤ x
  · rw [if_pos hx, if_pos hx, sc_eq A p h r x hh]
    show Real.exp (A.sc (2 * p + h) r x - Real.log (A.Z (2 * p + h) r)) = _
    rw [Real.exp_sub, Real.exp_log (A.Z_pos (by omega) hr)]
  · rw [if_neg hx, if_neg hx]

theorem dot_eq (p h r x : ℕ) (hh : h < 2) : Pair.headDot h ((A.pair p).d r) ((A.pair p).v x) = A.D (2 * p + h) r x := by
  rw [headDot_eq h hh]
  unfold D
  refine Finset.sum_congr rfl fun l _ => ?_
  show A.d r (128 * p + (64 * h + l.val)) * A.v x (128 * p + (64 * h + l.val)) = _
  rw [show 128 * p + (64 * h + l.val) = 64 * (2 * p + h) + l.val by ring]

theorem dsum_eq (p h r : ℕ) (hh : h < 2) :
    (A.pair p).dsum h r = ∑ y ∈ Finset.range 2176, A.P (2 * p + h) r y * A.D (2 * p + h) r y := by
  unfold Pair.dsum
  rw [headDot_eq h hh]
  have e : ∀ l : Fin 64, (A.pair p).d r (64 * h + l.val) * (A.pair p).o r (64 * h + l.val)
      = ∑ y ∈ Finset.range 2176, A.P (2 * p + h) r y * (A.d r (64 * (2 * p + h) + l.val) * A.v y (64 * (2 * p + h) + l.val)) := by
    intro l
    have := l.isLt
    show A.d r (128 * p + (64 * h + l.val)) * A.o r (128 * p + (64 * h + l.val)) = _
    rw [show 128 * p + (64 * h + l.val) = 64 * (2 * p + h) + l.val by ring]
    unfold o
    rw [show (64 * (2 * p + h) + l.val) / 64 = 2 * p + h by omega, Finset.mul_sum]
    refine Finset.sum_congr rfl fun y _ => ?_
    ring
  rw [Finset.sum_congr rfl fun l _ => e l, Finset.sum_comm]
  refine Finset.sum_congr rfl fun y _ => ?_
  unfold D
  rw [Finset.mul_sum]

theorem ds_eq (p h r x : ℕ) (hh : h < 2) (hr : r < 2176) : (A.pair p).ds h r x = A.dS (2 * p + h) r x := by
  unfold Pair.ds dS
  rw [pr_eq A p h r x hh hr, dot_eq A p h r x hh, dsum_eq A p h r hh]

theorem sum_keys (f : ℕ → ℝ) : ∑ j ∈ Finset.range 17, ∑ x : Fin 128, f (128 * j + x.val) = ∑ y ∈ Finset.range 2176, f y := by
  have key : ∀ n, ∑ j ∈ Finset.range n, ∑ x : Fin 128, f (128 * j + x.val) = ∑ y ∈ Finset.range (128 * n), f y := by
    intro n
    induction n with
    | zero => rfl
    | succ n ih =>
      rw [Finset.sum_range_succ, ih, show 128 * (n + 1) = 128 * n + 128 by ring, Finset.sum_range_add]
      rw [Finset.sum_range (fun x => f (128 * n + x))]
  exact key 17

theorem head_lane (p l : ℕ) (hl : l < 128) : 2 * p + l / 64 = (128 * p + l) / 64 := by omega

theorem dq_eq (p r l : ℕ) (hl : l < 128) (hr : r < 2176) : (A.pair p).dqAcc 17 r l = A.dq r (128 * p + l) := by
  unfold Pair.dqAcc dq
  rw [sum_keys (fun x => (A.pair p).ds (l / 64) r x * (A.pair p).k x l)]
  refine Finset.sum_congr rfl fun x _ => ?_
  rw [ds_eq A p _ r x (by omega) hr, head_lane p l hl]
  rfl

theorem dk_eq (p y l : ℕ) (hl : l < 128) : (A.pair p).dk y l = A.dk y (128 * p + l) := by
  unfold Pair.dk dk
  refine Finset.sum_congr rfl fun r hr => ?_
  rw [ds_eq A p _ r y (by omega) (Finset.mem_range.mp hr), head_lane p l hl]
  rfl

theorem dv_eq (p y l : ℕ) (hl : l < 128) : (A.pair p).dv y l = A.dv y (128 * p + l) := by
  unfold Pair.dv dv
  refine Finset.sum_congr rfl fun r hr => ?_
  rw [pr_eq A p _ r y (by omega) (Finset.mem_range.mp hr), head_lane p l hl]
  rfl

theorem dct_eq (p h y : ℕ) (hh : h < 16) : (if h < 2 then (A.pair p).dct h y else 0) = A.dct (16 * p + h) y := by
  unfold dct
  rw [show (16 * p + h) % 16 = h by omega, show (16 * p + h) / 16 = p by omega]
  by_cases h2 : h < 2
  · rw [if_pos h2, if_pos h2]
    unfold Pair.dct
    refine congrArg (- ·) (Finset.sum_congr rfl fun r hr => ?_)
    exact ds_eq A p h r y h2 (Finset.mem_range.mp hr)
  · rw [if_neg h2, if_neg h2]

theorem acc_eq (p h r : ℕ) (hh : h < 2) (hr : r < 2176) :
    ∑ x : Fin 128, (A.pair p).sAcc 17 (r / 544) (544 * h + r % 544) x.val = ∑ x ∈ Finset.range 2176, A.dS (2 * p + h) r x := by
  unfold Pair.sAcc
  rw [Finset.sum_comm, sum_keys (fun x => (A.pair p).ds ((544 * h + r % 544) / 544) (544 * (r / 544) + (544 * h + r % 544) % 544) x)]
  refine Finset.sum_congr rfl fun x _ => ?_
  rw [show (544 * h + r % 544) / 544 = h by omega, show 544 * (r / 544) + (544 * h + r % 544) % 544 = r by omega]
  exact ds_eq A p h r x hh hr

end Whole

end Cert.KernelIdeal.Fox
-- ==== Proof.Host.lean ====
module

public import proofs.«01_k».proof.Proof.Gen.KernelIdeal.Frame.Runs
public import proofs.«01_k».proof.Proof.Whole
public import Idealize.ShloMosaic.Lib.StableHlo.RunRead

@[expose] public section

/-! What the host code before the kernel computes: the logits, each row's softmax, the output and the row's log-sum. -/

set_option maxRecDepth 16384

noncomputable section

namespace Cert.KernelIdeal.Fox

open Idealize.ShloMosaic Idealize.SL.Sem Cert.KernelIdeal Cert.KernelIdeal.Gen Idealize.ShloMosaic.TcCoe

section
variable {F : FTy → Type} [FloatOps F]
  (x0 x1 : FVec F S2176x1024 .bf16) (x2 : FVec F S2176x1024 .bf16) (x3 : FVec F S2176x128 .f32) (x4 : FVec F S128x2176 .f32)

/-- A head's decay by position, without the empty slots. -/
def decayT (y : FVec F S2176x128 .f32) : FVec F S16x2064 .f32 :=
  transpose S16x2064 [1, 0] (extractStridedSlice S2064x16 ![112, 0] (shapeCast S2176x16 (extractStridedSlice S2176x8x2 ![0, 0, 0] (shapeCast S2176x8x16 y shapeCasts_S2176x128_S2176x8x16) slices_S2176x8x16_S2176x8x2_0_0_0) shapeCasts_S2176x8x2_S2176x16) slices_S2176x16_S2064x16_112_0) transposes_S2064x16_S16x2064_1_0

/-- The heads of an array, without the empty slots. -/
def headsT (x : FVec F S2176x1024 .bf16) : FVec F S2064x16x64 .f32 :=
  extractStridedSlice S2064x16x64 ![112, 0, 0] (shapeCast S2176x16x64 (extf .f32 x bitsLt_bf16_f32) shapeCasts_S2176x1024_S2176x16x64) slices_S2176x16x64_S2064x16x64_112_0_0

/-- Which keys a query sees. -/
def maskT : IVec S2064x2064 1 :=
  cmpi .sle (broadcastInDim S2064x2064 ![0, 1] bcast_S1x2064_S2064x2064_0_1 (broadcastInDim S1x2064 ![1] bcast_S2064_S1x2064_1 (iotaInDim S2064 32 0)))
    (broadcastInDim S2064x2064 ![0, 1] bcast_S2064x1_S2064x2064_0_1 (broadcastInDim S2064x1 ![0] bcast_S2064_S2064x1_0 (iotaInDim S2064 32 0)))

/-- The logits, minus infinity past the diagonal. -/
def scoresT : FVec F S16x2064x2064 .f32 :=
  select (broadcastInDim S16x2064x2064 ![1, 2] bcast_S2064x2064_S16x2064x2064_1_2 maskT)
    (subf (addf (Host.dotGeneral dot_S2064x16x64_S2064x16x64_S16x2064x2064_2_2_0_0_1_1 none (headsT x0) (headsT x1))
        (broadcastInDim S16x2064x2064 ![0, 1, 2] bcast_S16x2064x1_S16x2064x2064_0_1_2 (broadcastInDim S16x2064x1 ![0, 1] bcast_S16x2064_S16x2064x1_0_1 (decayT x3))))
      (broadcastInDim S16x2064x2064 ![0, 1, 2] bcast_S16x1x2064_S16x2064x2064_0_1_2 (broadcastInDim S16x1x2064 ![0, 2] bcast_S16x2064_S16x1x2064_0_2
        (decayT (transpose S2176x128 [1, 0] x4 transposes_S128x2176_S2176x128_1_0)))))
    (broadcastInDim S16x2064x2064 ![] bcast_S_S16x2064x2064 (constant S_ .f32 0xFF800000#32))

/-- A row's maximum. -/
def maxT (s : FVec F S16x2064x2064 .f32) : FVec F S16x2064 .f32 :=
  Host.reduce FloatOps.maximumf s (constant S_ .f32 0xFF800000#32) reducesTo_S16x2064x2064_S16x2064_d2 h_S_

/-- A row's exponentials. -/
def expT (s : FVec F S16x2064x2064 .f32) (mx : FVec F S16x2064x1 .f32) : FVec F S16x2064x2064 .f32 :=
  Host.exp (subf s (broadcastInDim S16x2064x2064 ![0, 1, 2] bcast_S16x2064x1_S16x2064x2064_0_1_2 mx))

/-- A row's sum. -/
def sumT (e : FVec F S16x2064x2064 .f32) : FVec F S16x2064x1 .f32 :=
  broadcastInDim S16x2064x1 ![0, 1] bcast_S16x2064_S16x2064x1_0_1 (Host.reduceAdd e (constant S_ .f32 0x00000000#32) reducesTo_S16x2064x2064_S16x2064_d2 h_S_)

/-- The softmax. -/
def softT (e : FVec F S16x2064x2064 .f32) : FVec F S16x2064x2064 .f32 :=
  Host.divf e (broadcastInDim S16x2064x2064 ![0, 1, 2] bcast_S16x2064x1_S16x2064x2064_0_1_2 (sumT e))

/-- Rows of zeros put back on the empty slots. -/
def padT (x : FVec F S2064x16x64 .f32) : FVec F S2176x1024 .f32 :=
  pad S2176x1024 ![112, 0] ![0, 0] ![0, 0] (shapeCast S2064x1024 x shapeCasts_S2064x16x64_S2064x1024) (sitofp .f32 (constantI S_ 32 0#32)) pads_S2064x1024_S2176x1024_11200_000 h_S_

def max1T (s : FVec F S16x2064x2064 .f32) : FVec F S16x2064x1 .f32 := broadcastInDim S16x2064x1 ![0, 1] bcast_S16x2064_S16x2064x1_0_1 (maxT s)

/-- The output. -/
def outT (s : FVec F S16x2064x2064 .f32) : FVec F S2176x1024 .f32 :=
  padT (transpose S2064x16x64 [2, 0, 1] (Host.dotGeneral dot_S2064x16x64_S16x2064x2064_S16x64x2064_0_2_2_1_1_0 none (headsT x2) (softT (expT s (max1T s)))) transposes_S16x64x2064_S2064x16x64_2_0_1)

/-- The log-sum. -/
def logT (s : FVec F S16x2064x2064 .f32) : FVec F S2176x1024 .f32 :=
  padT (broadcastInDim S2064x16x64 ![0, 1, 2] bcast_S2064x16x1_S2064x16x64_0_1_2 (transpose S2064x16x1 [1, 0, 2] (addf (max1T s) (Host.log (sumT (expT s (max1T s))))) transposes_S16x2064x1_S2064x16x1_1_0_2))

variable (m : (ℓ : Loc nD τ sig) → Buf (Elt F) ℓ) (c : Dev nD)

theorem V_out : V m c main_v50 = outT (m ((c : Thread nD τ).loc main_arg2)) (scoresT (m ((c : Thread nD τ).loc main_arg0)) (m ((c : Thread nD τ).loc main_arg1)) (m ((c : Thread nD τ).loc main_arg3)) (m ((c : Thread nD τ).loc main_arg4))) := by
  unfold V
  after_reads_simp
  rfl

theorem V_log : V m c main_v52 = logT (scoresT (m ((c : Thread nD τ).loc main_arg0)) (m ((c : Thread nD τ).loc main_arg1)) (m ((c : Thread nD τ).loc main_arg3)) (m ((c : Thread nD τ).loc main_arg4))) := by
  unfold V
  after_reads_simp
  rfl
end

end Cert.KernelIdeal.Fox

end
-- ==== Proof.Row.lean ====
module

public import Idealize.ShloMosaic.Lib.Pointwise
public import Idealize.ShloMosaic.PureOps.Ideal.Laws

@[expose] public section

/-! One row of a masked softmax over the extended reals, when every logit the mask lets through is a real number. -/

noncomputable section

namespace Cert.Fox

open Idealize.ShloMosaic
open scoped BigOperators

theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem ofBits_neg_inf : Ideal.ofBits .f32 4286578688#32 = (⊥ : EReal) := by simp [Ideal.ofBits, Ideal.ieee]

variable {n : ℕ} (r : Fin n) (s : Fin n → EReal) (a : Fin n → ℝ)

/-- A row of logits: real up to the diagonal, minus infinity past it. -/
def IsRow : Prop := ∀ x, s x = if x.val ≤ r.val then ((a x : ℝ) : EReal) else ⊥

variable {r s a}

/-- The row's maximum is a real number. -/
theorem IsRow.max (H : IsRow r s a) : ∃ μ : ℝ, Finset.fold Max.max (⊥ : EReal) s Finset.univ = ((μ : ℝ) : EReal) := by
  have h1 : ∀ t : Finset (Fin n), Finset.fold Max.max (⊥ : EReal) s t ≠ ⊤ := by
    intro t
    induction t using Finset.induction_on with
    | empty => simp
    | insert y t hy ih =>
      rw [Finset.fold_insert hy, H y]
      split
      · rcases max_choice ((a y : ℝ) : EReal) (Finset.fold Max.max (⊥ : EReal) s t) with h | h <;> rw [h]
        · exact EReal.coe_ne_top _
        · exact ih
      · rw [max_eq_right bot_le]; exact ih
  have h2 : ((a r : ℝ) : EReal) ≤ Finset.fold Max.max (⊥ : EReal) s Finset.univ := by
    rw [Finset.le_fold_max]
    exact Or.inr ⟨r, Finset.mem_univ _, by rw [H r, if_pos (le_refl _)]⟩
  have h3 : Finset.fold Max.max (⊥ : EReal) s Finset.univ ≠ ⊥ := fun h => by
    rw [h] at h2; exact EReal.coe_ne_bot _ (le_bot_iff.mp h2)
  exact ⟨_, (EReal.coe_toReal (h1 _) h3).symm⟩

/-- An exponential of the row, at any real shift. -/
theorem IsRow.exp (H : IsRow r s a) (μ : ℝ) (x : Fin n) :
    Ideal.exp (s x - (μ : EReal)) = ((if x.val ≤ r.val then Real.exp (a x - μ) else 0 : ℝ) : EReal) := by
  rw [H x]
  split
  · rw [← EReal.coe_sub, Ideal.exp_coe]
  · rw [EReal.bot_sub, Ideal.exp_bot]; rfl

/-- The sum of the row's exponentials at the shift `μ`. -/
def rowSum (r : Fin n) (a : Fin n → ℝ) (μ : ℝ) : ℝ := ∑ x, if x.val ≤ r.val then Real.exp (a x - μ) else 0

theorem rowSum_pos (μ : ℝ) : 0 < rowSum r a μ := by
  unfold rowSum
  refine Finset.sum_pos' (fun x _ => ?_) ⟨r, Finset.mem_univ _, ?_⟩
  · split
    · exact (Real.exp_pos _).le
    · exact le_refl _
  · rw [if_pos (le_refl _)]; exact Real.exp_pos _

theorem rowSum_shift (μ : ℝ) : rowSum r a μ = rowSum r a 0 * Real.exp (-μ) := by
  unfold rowSum
  rw [Finset.sum_mul]
  refine Finset.sum_congr rfl fun x _ => ?_
  split
  · rw [← Real.exp_add]; ring_nf
  · rw [zero_mul]

theorem IsRow.sum (H : IsRow r s a) (μ : ℝ) : ∑ x, Ideal.exp (s x - (μ : EReal)) = ((rowSum r a μ : ℝ) : EReal) := by
  unfold rowSum
  rw [coe_sum]
  exact Finset.sum_congr rfl fun x _ => H.exp μ x

/-- The row's softmax. -/
theorem soft_real (μ : ℝ) (x : Fin n) :
    (if x.val ≤ r.val then Real.exp (a x - μ) else 0) * (1 / rowSum r a μ) = if x.val ≤ r.val then Real.exp (a x) / rowSum r a 0 else 0 := by
  have h := (rowSum_pos (r := r) (a := a) 0).ne'
  have h' := Real.exp_ne_zero (-μ)
  rw [rowSum_shift]
  split
  · rw [sub_eq_add_neg, Real.exp_add]; field_simp
  · rw [zero_mul]

theorem IsRow.soft (H : IsRow r s a) (μ : ℝ) (x : Fin n) :
    Ideal.div (Ideal.exp (s x - (μ : EReal))) (∑ y, Ideal.exp (s y - (μ : EReal))) = ((if x.val ≤ r.val then Real.exp (a x) / rowSum r a 0 else 0 : ℝ) : EReal) := by
  rw [H.sum, H.exp, Ideal.div_coe (rowSum_pos μ).ne', ← EReal.coe_mul, soft_real]

/-- The row's log-sum. -/
theorem IsRow.logsum (H : IsRow r s a) (μ : ℝ) :
    (μ : EReal) + Ideal.log (∑ y, Ideal.exp (s y - (μ : EReal))) = ((Real.log (rowSum r a 0) : ℝ) : EReal) := by
  rw [H.sum, Ideal.log_coe, if_neg (not_le.mpr (rowSum_pos μ)), ← EReal.coe_add, rowSum_shift,
    Real.log_mul (rowSum_pos 0).ne' (Real.exp_ne_zero _), Real.log_exp]
  congr 1; ring

end Cert.Fox

end
-- ==== Proof.Scores.lean ====
module

public import proofs.«01_k».proof.Proof.Host
public import proofs.«01_k».proof.Proof.Row

@[expose] public section

/-! The host code's values over the extended reals, when the arguments are real numbers. -/

set_option maxRecDepth 16384

noncomputable section

namespace Cert.KernelIdeal.Fox

open Idealize.ShloMosaic Idealize.SL.Sem Cert.KernelIdeal Cert.KernelIdeal.Gen Idealize.ShloMosaic.TcCoe

theorem maxT_apply (s : FVec Ideal S16x2064x2064 .f32) (h : Fin 16) (r : Fin 2064) :
    maxT s (ix2 h r) = Finset.fold max (Ideal.ofBits FTy.f32 4286578688#32) (fun x => s (ix3 h r x)) Finset.univ := by
  pointwise [maxT]

theorem sitofp_zero : (FloatOps.sitofp FTy.f32 0#32 : Ideal .f32) = 0 := by
  simp [FloatOps.sitofp]

theorem padT_apply (x : FVec Ideal S2064x16x64 .f32) (r : Fin 2176) (l : Fin 1024) :
    padT x (ix2 r l) = if h : 112 ≤ r.val then x (ix3 ⟨r.val - 112, by omega⟩ ⟨l.val / 64, by omega⟩ ⟨l.val % 64, by omega⟩) else 0 := by
  pointwise [padT]
  by_cases h : 112 ≤ r.val
  · rw [dif_pos ⟨h, by omega⟩, dif_pos h]
  · rw [dif_neg (fun H => h H.1), dif_neg h, sitofp_zero]

theorem max1T_apply (s : FVec Ideal S16x2064x2064 .f32) (h : Fin 16) (r : Fin 2064) (z : Fin 1) :
    max1T s (ix3 h r z) = maxT s (ix2 h r) := by
  pointwise [max1T]

theorem expT_apply (s : FVec Ideal S16x2064x2064 .f32) (mx : FVec Ideal S16x2064x1 .f32) (h : Fin 16) (r x : Fin 2064) :
    expT s mx (ix3 h r x) = Ideal.exp (s (ix3 h r x) - mx (ix3 h r 0)) := by
  pointwise [expT]

theorem sumT_apply (e : FVec Ideal S16x2064x2064 .f32) (h : Fin 16) (r : Fin 2064) (z : Fin 1) :
    sumT e (ix3 h r z) = ∑ x, e (ix3 h r x) := by
  pointwise [sumT]

theorem softT_apply (e : FVec Ideal S16x2064x2064 .f32) (h : Fin 16) (r x : Fin 2064) :
    softT e (ix3 h r x) = Ideal.div (e (ix3 h r x)) (sumT e (ix3 h r 0)) := by
  pointwise [softT]

theorem headsT_apply (x : FVec Ideal S2176x1024 .bf16) (r : Fin 2064) (h : Fin 16) (l : Fin 64) :
    headsT x (ix3 r h l) = x (ix2 ⟨112 + r.val, by omega⟩ ⟨h.val * 64 + l.val, by omega⟩) := by
  pointwise [headsT]

/-- The output, head by head. -/
def outH (w : FVec Ideal S2064x16x64 .f32) (s : FVec Ideal S16x2064x2064 .f32) : FVec Ideal S2064x16x64 .f32 :=
  transpose S2064x16x64 [2, 0, 1] (Host.dotGeneral dot_S2064x16x64_S16x2064x2064_S16x64x2064_0_2_2_1_1_0 none w s) transposes_S16x64x2064_S2064x16x64_2_0_1

theorem outH_apply (w : FVec Ideal S2064x16x64 .f32) (s : FVec Ideal S16x2064x2064 .f32) (r : Fin 2064) (h : Fin 16) (l : Fin 64) :
    outH w s (ix3 r h l) = ∑ x, w (ix3 x h l) * s (ix3 h r x) := by
  pointwise [outH]

/-- The log-sum, head by head. -/
def logH (s : FVec Ideal S16x2064x1 .f32) : FVec Ideal S2064x16x64 .f32 :=
  broadcastInDim S2064x16x64 ![0, 1, 2] bcast_S2064x16x1_S2064x16x64_0_1_2 (transpose S2064x16x1 [1, 0, 2] s transposes_S16x2064x1_S2064x16x1_1_0_2)

theorem logH_apply (s : FVec Ideal S16x2064x1 .f32) (r : Fin 2064) (h : Fin 16) (l : Fin 64) : logH s (ix3 r h l) = s (ix3 h r 0) := by
  pointwise [logH]

theorem addLog_apply (a b : FVec Ideal S16x2064x1 .f32) (h : Fin 16) (r : Fin 2064) (z : Fin 1) :
    addf a (Host.log b) (ix3 h r z) = a (ix3 h r z) + Ideal.log (b (ix3 h r z)) := by
  pointwise

theorem scoresT_apply (x0 x1 : FVec Ideal S2176x1024 .bf16) (x3 : FVec Ideal S2176x128 .f32) (x4 : FVec Ideal S128x2176 .f32) (h : Fin 16) (r x : Fin 2064) :
    scoresT x0 x1 x3 x4 (ix3 h r x) = Scalar.select (IntOp.cmpi .sle (BitVec.ofNat 32 x.val) (BitVec.ofNat 32 r.val))
      ((∑ y : Fin 64, x0 (ix2 ⟨112 + r.val, by omega⟩ ⟨h.val * 64 + y.val, by omega⟩) * x1 (ix2 ⟨112 + x.val, by omega⟩ ⟨h.val * 64 + y.val, by omega⟩))
        + x3 (ix2 ⟨112 + r.val, by omega⟩ ⟨h.val / 2 * 16 + h.val % 2, by omega⟩) - x4 (ix2 ⟨h.val / 2 * 16 + h.val % 2, by omega⟩ ⟨112 + x.val, by omega⟩))
      (Ideal.ofBits FTy.f32 4286578688#32) := by
  pointwise [scoresT, maskT, headsT, decayT]

end Cert.KernelIdeal.Fox

end
-- ==== Proof.Args.lean ====
module

public import proofs.«01_k».proof.Proof.Scores

@[expose] public section

/-! The output and the log-sum that the host code hands to the kernel, when the arguments are real numbers. -/

set_option maxRecDepth 16384

noncomputable section

namespace Cert.KernelIdeal.Fox

open Idealize.ShloMosaic Idealize.SL.Sem Cert.KernelIdeal Cert.KernelIdeal.Gen Idealize.ShloMosaic.TcCoe Cert.Fox

/-- The arguments are the real arrays of `A`. -/
structure Args (A : Whole) (x0 x1 x2 : FVec Ideal S2176x1024 .bf16) (x3 : FVec Ideal S2176x128 .f32) (x4 : FVec Ideal S128x2176 .f32)
    (x5 : FVec Ideal S2176x1024 .f32) : Prop where
  q : ∀ r l, x0 (ix2 r l) = ((A.q r.val l.val : ℝ) : EReal)
  k : ∀ r l, x1 (ix2 r l) = ((A.k r.val l.val : ℝ) : EReal)
  v : ∀ r l, x2 (ix2 r l) = ((A.v r.val l.val : ℝ) : EReal)
  c : ∀ r l, x3 (ix2 r l) = ((A.c r.val l.val : ℝ) : EReal)
  ct : ∀ a x, x4 (ix2 a x) = ((A.ct a.val x.val : ℝ) : EReal)
  d : ∀ r l, x5 (ix2 r l) = ((A.d r.val l.val : ℝ) : EReal)

/-- The mask of query `r` and key `x`. -/
theorem seen_eq (r x : ℕ) (hr : r < 2064) (hx : x < 2064) (a b : EReal) :
    Scalar.select (IntOp.cmpi .sle (BitVec.ofNat 32 x) (BitVec.ofNat 32 r)) a b = if x ≤ r then a else b := by
  have e : (BitVec.ofNat 32 x).sle (BitVec.ofNat 32 r) = decide (x ≤ r) := by
    rw [BitVec.sle_eq_decide]
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  show Scalar.select (BitVec.ofBool ((BitVec.ofNat 32 x).sle (BitVec.ofNat 32 r))) a b = _
  rw [e]
  by_cases h : x ≤ r
  · rw [if_pos h, decide_eq_true h]; rfl
  · rw [if_neg h, decide_eq_false h]; rfl

/-- A sum over the positions that ignores the empty slots. -/
theorem sum_filled (f : ℕ → ℝ) (hf : ∀ x, x < 112 → f x = 0) : ∑ x ∈ Finset.range 2176, f x = ∑ x : Fin 2064, f (112 + x.val) := by
  rw [show 2176 = 112 + 2064 from rfl, Finset.sum_range_add, Finset.sum_eq_zero (fun x hx => hf x (Finset.mem_range.mp hx)), zero_add,
    Finset.sum_range]

namespace Whole
variable (A : Whole)

theorem rowSum_eq (h : ℕ) (r : Fin 2064) : rowSum r (fun x => A.sc h (112 + r.val) (112 + x.val)) 0 = A.Z h (112 + r.val) := by
  unfold Z rowSum
  rw [sum_filled _ (fun x hx => if_neg (by omega))]
  refine Finset.sum_congr rfl fun x _ => ?_
  rw [sub_zero]
  by_cases hx : x.val ≤ r.val
  · rw [if_pos hx, if_pos ⟨by omega, by omega⟩]
  · rw [if_neg hx, if_neg (by omega)]

theorem soft_eq (h : ℕ) (r x : Fin 2064) :
    (if x.val ≤ r.val then Real.exp (A.sc h (112 + r.val) (112 + x.val)) / rowSum r (fun x => A.sc h (112 + r.val) (112 + x.val)) 0 else 0)
      = A.P h (112 + r.val) (112 + x.val) := by
  unfold P
  rw [rowSum_eq]
  by_cases hx : x.val ≤ r.val
  · rw [if_pos hx, if_pos ⟨by omega, by omega⟩]
  · rw [if_neg hx, if_neg (by omega)]

end Whole

section
variable {A : Whole} {x0 x1 x2 : FVec Ideal S2176x1024 .bf16} {x3 : FVec Ideal S2176x128 .f32} {x4 : FVec Ideal S128x2176 .f32}
  {x5 : FVec Ideal S2176x1024 .f32} (H : Args A x0 x1 x2 x3 x4 x5)
include H

/-- A row of the kernel's logits. -/
theorem Args.row (h : Fin 16) (r : Fin 2064) :
    IsRow r (fun x => scoresT x0 x1 x3 x4 (ix3 h r x)) (fun x => A.sc h.val (112 + r.val) (112 + x.val)) := by
  intro x
  show scoresT x0 x1 x3 x4 (ix3 h r x) = _
  rw [scoresT_apply, seen_eq _ _ r.isLt x.isLt, ofBits_neg_inf]
  by_cases hx : x.val ≤ r.val
  · rw [if_pos hx, if_pos hx, H.c, H.ct]
    simp only [H.q, H.k]
    unfold Whole.sc Whole.lane
    rw [EReal.coe_sub, EReal.coe_add, coe_sum]
    simp only [← EReal.coe_mul, Nat.mul_comm 64, Nat.mul_comm 16]
  · rw [if_neg hx, if_neg hx]

theorem Args.max (h : Fin 16) (r : Fin 2064) : ∃ μ : ℝ, ∀ z, max1T (scoresT x0 x1 x3 x4) (ix3 h r z) = ((μ : ℝ) : EReal) := by
  obtain ⟨μ, hμ⟩ := (H.row h r).max
  refine ⟨μ, fun z => ?_⟩
  rw [max1T_apply, maxT_apply, ofBits_neg_inf]
  exact hμ

theorem Args.soft (h : Fin 16) (r x : Fin 2064) :
    softT (expT (scoresT x0 x1 x3 x4) (max1T (scoresT x0 x1 x3 x4))) (ix3 h r x) = ((A.P h.val (112 + r.val) (112 + x.val) : ℝ) : EReal) := by
  obtain ⟨μ, hμ⟩ := H.max h r
  rw [softT_apply, sumT_apply]
  simp only [expT_apply, hμ]
  rw [← A.soft_eq]
  exact (H.row h r).soft μ x

/-- The output. -/
theorem Args.out (r : Fin 2176) (l : Fin 1024) : outT x2 (scoresT x0 x1 x3 x4) (ix2 r l) = ((A.o r.val l.val : ℝ) : EReal) := by
  show padT (outH (headsT x2) (softT (expT (scoresT x0 x1 x3 x4) (max1T (scoresT x0 x1 x3 x4))))) (ix2 r l) = _
  rw [padT_apply]
  by_cases hr : 112 ≤ r.val
  · rw [dif_pos hr, outH_apply]
    unfold Whole.o
    rw [sum_filled _ (fun x hx => by rw [A.P_low_key hx, zero_mul]), coe_sum]
    refine Finset.sum_congr rfl fun x _ => ?_
    rw [headsT_apply, H.soft, H.v, ← EReal.coe_mul, mul_comm]
    simp only [Nat.add_sub_cancel' hr, Nat.mul_comm (l.val / 64) 64, Nat.div_add_mod]
  · rw [dif_neg hr]
    unfold Whole.o
    rw [Finset.sum_eq_zero (fun x _ => by rw [A.P_low (by omega), zero_mul])]; rfl

/-- The log-sum. -/
theorem Args.log (r : Fin 2176) (l : Fin 1024) :
    logT (scoresT x0 x1 x3 x4) (ix2 r l) = ((Real.log (A.Z (l.val / 64) r.val) : ℝ) : EReal) := by
  show padT (logH (addf (max1T (scoresT x0 x1 x3 x4)) (Host.log (sumT (expT (scoresT x0 x1 x3 x4) (max1T (scoresT x0 x1 x3 x4))))))) (ix2 r l) = _
  rw [padT_apply]
  by_cases hr : 112 ≤ r.val
  · have hl : l.val / 64 < 16 := by omega
    obtain ⟨μ, hμ⟩ := H.max ⟨l.val / 64, hl⟩ ⟨r.val - 112, by omega⟩
    rw [dif_pos hr, logH_apply, addLog_apply, sumT_apply]
    simp only [expT_apply, hμ]
    have e := (H.row ⟨l.val / 64, hl⟩ ⟨r.val - 112, by omega⟩).logsum μ
    rw [A.rowSum_eq] at e
    simp only [Nat.add_sub_cancel' hr] at e
    exact e
  · rw [dif_neg hr]
    have z : A.Z (l.val / 64) r.val = 0 := by
      unfold Whole.Z
      exact Finset.sum_eq_zero fun x _ => if_neg (by omega)
    rw [z, Real.log_zero]; rfl

end

end Cert.KernelIdeal.Fox

end
-- ==== Proof.Point.lean ====
module

public import proofs.«01_k».proof.Proof.Gen.KernelIdeal.Frame.RunD
public import Idealize.ShloMosaic.Lib.Claim

@[expose] public section

/-! What each grid point holds when it is done, point by point, and the pipeline's proof data made of it. -/

set_option maxRecDepth 16384

noncomputable section

namespace Cert.KernelIdeal.Fox

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The five output blocks and the four scratch arrays. -/
structure Held (F : FTy → Type) [FloatOps F] where
  w8 : Vec F S2176x128 .f32
  w9 : Vec F S128x128 .f32
  w10 : Vec F S128x128 .f32
  w11 : Vec F S16x128 .f32
  w12 : Vec F S2176x128 .f32
  s0 : Vec F S4x1088x128 .f32
  s1 : Vec F S4x1088x128 .f32
  s2 : Vec F S4x1088x128 .f32
  s3 : Vec F S4x1088x128 .f32

/-- What a list of writes leaves where nothing is known of the contents before. -/
def fresh {s : Shape} {e : EltTy} {sp : Space} (V : View sig .tc sp s e) (L : List (View.Piece (Elt F) s e)) : Vec F s e :=
  V.read (Elt F) (V.writes (Elt F) V.junk L)

/-- What a list of writes leaves over known contents. -/
def over {s : Shape} {e : EltTy} {sp : Space} (M : Memref sig .tc sp s e) (hM : M.IsWhole) (x : Vec F s e) (L : List (View.Piece (Elt F) s e)) : Vec F s e :=
  M.view.read (Elt F) (M.view.writes (Elt F) (hM.unread x) L)

variable (c : Dev nD) (t : Fin cfg0.N)

/-! ## The body's run at a point of each case, and what it leaves -/

/-- The run at a point of case A. -/
def runA (h0 : t.val % 136 = 0) (h1 : t.val % 17 = 0) (h2 : ¬t.val % 17 = 16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)

/-- What a point of case A leaves. -/
def heldA (h0 : t.val % 136 = 0) (h1 : t.val % 17 = 0) (h2 : ¬t.val % 17 = 16) : Held F where
  w8 := fresh VO0_8 (runA m c t h0 h1 h2).1
  w9 := fresh VO0_9 (runA m c t h0 h1 h2).2.1
  w10 := fresh VO0_10 (runA m c t h0 h1 h2).2.2.1
  w11 := fresh VO0_11 (runA m c t h0 h1 h2).2.2.2.1
  w12 := fresh VO0_12 (runA m c t h0 h1 h2).2.2.2.2.1
  s0 := fresh VS0_0 (runA m c t h0 h1 h2).2.2.2.2.2.1
  s1 := fresh VS0_1 (runA m c t h0 h1 h2).2.2.2.2.2.2.1
  s2 := fresh VS0_2 (runA m c t h0 h1 h2).2.2.2.2.2.2.2.1
  s3 := fresh VS0_3 (runA m c t h0 h1 h2).2.2.2.2.2.2.2.2.1

theorem heldA_w8 (h0 : t.val % 136 = 0) (h1 : t.val % 17 = 0) (h2 : ¬t.val % 17 = 16) : (heldA m c t h0 h1 h2).w8 = fresh VO0_8 (runA m c t h0 h1 h2).1 := by dsimp only [heldA]

theorem heldA_w9 (h0 : t.val % 136 = 0) (h1 : t.val % 17 = 0) (h2 : ¬t.val % 17 = 16) : (heldA m c t h0 h1 h2).w9 = fresh VO0_9 (runA m c t h0 h1 h2).2.1 := by dsimp only [heldA]

theorem heldA_w10 (h0 : t.val % 136 = 0) (h1 : t.val % 17 = 0) (h2 : ¬t.val % 17 = 16) : (heldA m c t h0 h1 h2).w10 = fresh VO0_10 (runA m c t h0 h1 h2).2.2.1 := by dsimp only [heldA]

theorem heldA_w11 (h0 : t.val % 136 = 0) (h1 : t.val % 17 = 0) (h2 : ¬t.val % 17 = 16) : (heldA m c t h0 h1 h2).w11 = fresh VO0_11 (runA m c t h0 h1 h2).2.2.2.1 := by dsimp only [heldA]

theorem heldA_w12 (h0 : t.val % 136 = 0) (h1 : t.val % 17 = 0) (h2 : ¬t.val % 17 = 16) : (heldA m c t h0 h1 h2).w12 = fresh VO0_12 (runA m c t h0 h1 h2).2.2.2.2.1 := by dsimp only [heldA]

theorem heldA_s0 (h0 : t.val % 136 = 0) (h1 : t.val % 17 = 0) (h2 : ¬t.val % 17 = 16) : (heldA m c t h0 h1 h2).s0 = fresh VS0_0 (runA m c t h0 h1 h2).2.2.2.2.2.1 := by dsimp only [heldA]

theorem heldA_s1 (h0 : t.val % 136 = 0) (h1 : t.val % 17 = 0) (h2 : ¬t.val % 17 = 16) : (heldA m c t h0 h1 h2).s1 = fresh VS0_1 (runA m c t h0 h1 h2).2.2.2.2.2.2.1 := by dsimp only [heldA]

theorem heldA_s2 (h0 : t.val % 136 = 0) (h1 : t.val % 17 = 0) (h2 : ¬t.val % 17 = 16) : (heldA m c t h0 h1 h2).s2 = fresh VS0_2 (runA m c t h0 h1 h2).2.2.2.2.2.2.2.1 := by dsimp only [heldA]

theorem heldA_s3 (h0 : t.val % 136 = 0) (h1 : t.val % 17 = 0) (h2 : ¬t.val % 17 = 16) : (heldA m c t h0 h1 h2).s3 = fresh VS0_3 (runA m c t h0 h1 h2).2.2.2.2.2.2.2.2.1 := by dsimp only [heldA]

theorem coverA_w8 (h0 : t.val % 136 = 0) (h1 : t.val % 17 = 0) (h2 : ¬t.val % 17 = 16) (y) : ∃ pc ∈ (runA m c t h0 h1 h2).1, y ∈ pc.1.set :=
  View.cover_of_wholeMem (runA m c t h0 h1 h2).1 (by sl_whole_mem) y

theorem coverA_w9 (h0 : t.val % 136 = 0) (h1 : t.val % 17 = 0) (h2 : ¬t.val % 17 = 16) (y) : ∃ pc ∈ (runA m c t h0 h1 h2).2.1, y ∈ pc.1.set :=
  View.cover_of_tiledL (runA m c t h0 h1 h2).2.1 S128x128.size (by sl_kernel_rfl) y

theorem coverA_w10 (h0 : t.val % 136 = 0) (h1 : t.val % 17 = 0) (h2 : ¬t.val % 17 = 16) (y) : ∃ pc ∈ (runA m c t h0 h1 h2).2.2.1, y ∈ pc.1.set :=
  View.cover_of_tiledL (runA m c t h0 h1 h2).2.2.1 S128x128.size (by sl_kernel_rfl) y

theorem coverA_w11 (h0 : t.val % 136 = 0) (h1 : t.val % 17 = 0) (h2 : ¬t.val % 17 = 16) (y) : ∃ pc ∈ (runA m c t h0 h1 h2).2.2.2.1, y ∈ pc.1.set :=
  View.cover_of_tiledBy (runA m c t h0 h1 h2).2.2.2.1 ![1, 128] (by sl_kernel_rfl) y

theorem coverA_w12 (h0 : t.val % 136 = 0) (h1 : t.val % 17 = 0) (h2 : ¬t.val % 17 = 16) (y) : ∃ pc ∈ (runA m c t h0 h1 h2).2.2.2.2.1, y ∈ pc.1.set :=
  View.cover_of_tiledL (runA m c t h0 h1 h2).2.2.2.2.1 S2176x128.size (by sl_kernel_rfl) y

theorem coverA_s0 (h0 : t.val % 136 = 0) (h1 : t.val % 17 = 0) (h2 : ¬t.val % 17 = 16) (y) : ∃ pc ∈ (runA m c t h0 h1 h2).2.2.2.2.2.1, y ∈ pc.1.set :=
  View.cover_of_tiledL (runA m c t h0 h1 h2).2.2.2.2.2.1 S1x544x128.size (by sl_kernel_rfl) y

theorem coverA_s1 (h0 : t.val % 136 = 0) (h1 : t.val % 17 = 0) (h2 : ¬t.val % 17 = 16) (y) : ∃ pc ∈ (runA m c t h0 h1 h2).2.2.2.2.2.2.1, y ∈ pc.1.set :=
  View.cover_of_tiledL (runA m c t h0 h1 h2).2.2.2.2.2.2.1 S1x544x128.size (by sl_kernel_rfl) y

theorem coverA_s2 (h0 : t.val % 136 = 0) (h1 : t.val % 17 = 0) (h2 : ¬t.val % 17 = 16) (y) : ∃ pc ∈ (runA m c t h0 h1 h2).2.2.2.2.2.2.2.1, y ∈ pc.1.set :=
  View.cover_of_tiledL (runA m c t h0 h1 h2).2.2.2.2.2.2.2.1 S1x544x128.size (by sl_kernel_rfl) y

theorem coverA_s3 (h0 : t.val % 136 = 0) (h1 : t.val % 17 = 0) (h2 : ¬t.val % 17 = 16) (y) : ∃ pc ∈ (runA m c t h0 h1 h2).2.2.2.2.2.2.2.2.1, y ∈ pc.1.set :=
  View.cover_of_wholeMem (runA m c t h0 h1 h2).2.2.2.2.2.2.2.2.1 (by sl_whole_mem) y

/-- The run at a point of case B. -/
def runB (h0 : ¬t.val % 136 = 0) (h1 : ¬t.val % 17 = 0) (h2 : ¬t.val % 17 = 16) (p : Held F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.w8 p.s0 p.s1 p.s2 p.s3

/-- What a point of case B leaves. -/
def heldB (h0 : ¬t.val % 136 = 0) (h1 : ¬t.val % 17 = 0) (h2 : ¬t.val % 17 = 16) (p : Held F) : Held F where
  w8 := over (ms0_8 t) (hs0_8 t) p.w8 (runB m c t h0 h1 h2 p).1
  w9 := fresh VO0_9 (runB m c t h0 h1 h2 p).2.1
  w10 := fresh VO0_10 (runB m c t h0 h1 h2 p).2.2.1
  w11 := fresh VO0_11 (runB m c t h0 h1 h2 p).2.2.2.1
  w12 := p.w12
  s0 := p.s0
  s1 := p.s1
  s2 := p.s2
  s3 := over scM0_3 (Memref.isWhole_whole _) p.s3 (runB m c t h0 h1 h2 p).2.2.2.2.2.2.2.2.1

theorem heldB_w8 (h0 : ¬t.val % 136 = 0) (h1 : ¬t.val % 17 = 0) (h2 : ¬t.val % 17 = 16) (p : Held F) : (heldB m c t h0 h1 h2 p).w8 = over (ms0_8 t) (hs0_8 t) p.w8 (runB m c t h0 h1 h2 p).1 := by dsimp only [heldB]

theorem heldB_w9 (h0 : ¬t.val % 136 = 0) (h1 : ¬t.val % 17 = 0) (h2 : ¬t.val % 17 = 16) (p : Held F) : (heldB m c t h0 h1 h2 p).w9 = fresh VO0_9 (runB m c t h0 h1 h2 p).2.1 := by dsimp only [heldB]

theorem heldB_w10 (h0 : ¬t.val % 136 = 0) (h1 : ¬t.val % 17 = 0) (h2 : ¬t.val % 17 = 16) (p : Held F) : (heldB m c t h0 h1 h2 p).w10 = fresh VO0_10 (runB m c t h0 h1 h2 p).2.2.1 := by dsimp only [heldB]

theorem heldB_w11 (h0 : ¬t.val % 136 = 0) (h1 : ¬t.val % 17 = 0) (h2 : ¬t.val % 17 = 16) (p : Held F) : (heldB m c t h0 h1 h2 p).w11 = fresh VO0_11 (runB m c t h0 h1 h2 p).2.2.2.1 := by dsimp only [heldB]

theorem heldB_w12 (h0 : ¬t.val % 136 = 0) (h1 : ¬t.val % 17 = 0) (h2 : ¬t.val % 17 = 16) (p : Held F) : (heldB m c t h0 h1 h2 p).w12 = p.w12 := by dsimp only [heldB]

theorem heldB_s0 (h0 : ¬t.val % 136 = 0) (h1 : ¬t.val % 17 = 0) (h2 : ¬t.val % 17 = 16) (p : Held F) : (heldB m c t h0 h1 h2 p).s0 = p.s0 := by dsimp only [heldB]

theorem heldB_s1 (h0 : ¬t.val % 136 = 0) (h1 : ¬t.val % 17 = 0) (h2 : ¬t.val % 17 = 16) (p : Held F) : (heldB m c t h0 h1 h2 p).s1 = p.s1 := by dsimp only [heldB]

theorem heldB_s2 (h0 : ¬t.val % 136 = 0) (h1 : ¬t.val % 17 = 0) (h2 : ¬t.val % 17 = 16) (p : Held F) : (heldB m c t h0 h1 h2 p).s2 = p.s2 := by dsimp only [heldB]

theorem heldB_s3 (h0 : ¬t.val % 136 = 0) (h1 : ¬t.val % 17 = 0) (h2 : ¬t.val % 17 = 16) (p : Held F) : (heldB m c t h0 h1 h2 p).s3 = over scM0_3 (Memref.isWhole_whole _) p.s3 (runB m c t h0 h1 h2 p).2.2.2.2.2.2.2.2.1 := by dsimp only [heldB]

theorem coverB_w9 (h0 : ¬t.val % 136 = 0) (h1 : ¬t.val % 17 = 0) (h2 : ¬t.val % 17 = 16) (p : Held F) (y) : ∃ pc ∈ (runB m c t h0 h1 h2 p).2.1, y ∈ pc.1.set :=
  View.cover_of_tiledL (runB m c t h0 h1 h2 p).2.1 S128x128.size (by sl_kernel_rfl) y

theorem coverB_w10 (h0 : ¬t.val % 136 = 0) (h1 : ¬t.val % 17 = 0) (h2 : ¬t.val % 17 = 16) (p : Held F) (y) : ∃ pc ∈ (runB m c t h0 h1 h2 p).2.2.1, y ∈ pc.1.set :=
  View.cover_of_tiledL (runB m c t h0 h1 h2 p).2.2.1 S128x128.size (by sl_kernel_rfl) y

theorem coverB_w11 (h0 : ¬t.val % 136 = 0) (h1 : ¬t.val % 17 = 0) (h2 : ¬t.val % 17 = 16) (p : Held F) (y) : ∃ pc ∈ (runB m c t h0 h1 h2 p).2.2.2.1, y ∈ pc.1.set :=
  View.cover_of_tiledBy (runB m c t h0 h1 h2 p).2.2.2.1 ![1, 128] (by sl_kernel_rfl) y

/-- The run at a point of case C. -/
def runC (h0 : ¬t.val % 136 = 0) (h1 : ¬t.val % 17 = 0) (h2 : t.val % 17 = 16) (p : Held F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.w8 p.w12 p.s0 p.s1 p.s2 p.s3

/-- What a point of case C leaves. -/
def heldC (h0 : ¬t.val % 136 = 0) (h1 : ¬t.val % 17 = 0) (h2 : t.val % 17 = 16) (p : Held F) : Held F where
  w8 := over (ms0_8 t) (hs0_8 t) p.w8 (runC m c t h0 h1 h2 p).1
  w9 := fresh VO0_9 (runC m c t h0 h1 h2 p).2.1
  w10 := fresh VO0_10 (runC m c t h0 h1 h2 p).2.2.1
  w11 := fresh VO0_11 (runC m c t h0 h1 h2 p).2.2.2.1
  w12 := fresh VO0_12 (runC m c t h0 h1 h2 p).2.2.2.2.1
  s0 := p.s0
  s1 := p.s1
  s2 := p.s2
  s3 := over scM0_3 (Memref.isWhole_whole _) p.s3 (runC m c t h0 h1 h2 p).2.2.2.2.2.2.2.2.1

theorem heldC_w8 (h0 : ¬t.val % 136 = 0) (h1 : ¬t.val % 17 = 0) (h2 : t.val % 17 = 16) (p : Held F) : (heldC m c t h0 h1 h2 p).w8 = over (ms0_8 t) (hs0_8 t) p.w8 (runC m c t h0 h1 h2 p).1 := by dsimp only [heldC]

theorem heldC_w9 (h0 : ¬t.val % 136 = 0) (h1 : ¬t.val % 17 = 0) (h2 : t.val % 17 = 16) (p : Held F) : (heldC m c t h0 h1 h2 p).w9 = fresh VO0_9 (runC m c t h0 h1 h2 p).2.1 := by dsimp only [heldC]

theorem heldC_w10 (h0 : ¬t.val % 136 = 0) (h1 : ¬t.val % 17 = 0) (h2 : t.val % 17 = 16) (p : Held F) : (heldC m c t h0 h1 h2 p).w10 = fresh VO0_10 (runC m c t h0 h1 h2 p).2.2.1 := by dsimp only [heldC]

theorem heldC_w11 (h0 : ¬t.val % 136 = 0) (h1 : ¬t.val % 17 = 0) (h2 : t.val % 17 = 16) (p : Held F) : (heldC m c t h0 h1 h2 p).w11 = fresh VO0_11 (runC m c t h0 h1 h2 p).2.2.2.1 := by dsimp only [heldC]

theorem heldC_w12 (h0 : ¬t.val % 136 = 0) (h1 : ¬t.val % 17 = 0) (h2 : t.val % 17 = 16) (p : Held F) : (heldC m c t h0 h1 h2 p).w12 = fresh VO0_12 (runC m c t h0 h1 h2 p).2.2.2.2.1 := by dsimp only [heldC]

theorem heldC_s0 (h0 : ¬t.val % 136 = 0) (h1 : ¬t.val % 17 = 0) (h2 : t.val % 17 = 16) (p : Held F) : (heldC m c t h0 h1 h2 p).s0 = p.s0 := by dsimp only [heldC]

theorem heldC_s1 (h0 : ¬t.val % 136 = 0) (h1 : ¬t.val % 17 = 0) (h2 : t.val % 17 = 16) (p : Held F) : (heldC m c t h0 h1 h2 p).s1 = p.s1 := by dsimp only [heldC]

theorem heldC_s2 (h0 : ¬t.val % 136 = 0) (h1 : ¬t.val % 17 = 0) (h2 : t.val % 17 = 16) (p : Held F) : (heldC m c t h0 h1 h2 p).s2 = p.s2 := by dsimp only [heldC]

theorem heldC_s3 (h0 : ¬t.val % 136 = 0) (h1 : ¬t.val % 17 = 0) (h2 : t.val % 17 = 16) (p : Held F) : (heldC m c t h0 h1 h2 p).s3 = over scM0_3 (Memref.isWhole_whole _) p.s3 (runC m c t h0 h1 h2 p).2.2.2.2.2.2.2.2.1 := by dsimp only [heldC]

theorem coverC_w9 (h0 : ¬t.val % 136 = 0) (h1 : ¬t.val % 17 = 0) (h2 : t.val % 17 = 16) (p : Held F) (y) : ∃ pc ∈ (runC m c t h0 h1 h2 p).2.1, y ∈ pc.1.set :=
  View.cover_of_tiledL (runC m c t h0 h1 h2 p).2.1 S128x128.size (by sl_kernel_rfl) y

theorem coverC_w10 (h0 : ¬t.val % 136 = 0) (h1 : ¬t.val % 17 = 0) (h2 : t.val % 17 = 16) (p : Held F) (y) : ∃ pc ∈ (runC m c t h0 h1 h2 p).2.2.1, y ∈ pc.1.set :=
  View.cover_of_tiledL (runC m c t h0 h1 h2 p).2.2.1 S128x128.size (by sl_kernel_rfl) y

theorem coverC_w11 (h0 : ¬t.val % 136 = 0) (h1 : ¬t.val % 17 = 0) (h2 : t.val % 17 = 16) (p : Held F) (y) : ∃ pc ∈ (runC m c t h0 h1 h2 p).2.2.2.1, y ∈ pc.1.set :=
  View.cover_of_tiledBy (runC m c t h0 h1 h2 p).2.2.2.1 ![1, 128] (by sl_kernel_rfl) y

theorem coverC_w12 (h0 : ¬t.val % 136 = 0) (h1 : ¬t.val % 17 = 0) (h2 : t.val % 17 = 16) (p : Held F) (y) : ∃ pc ∈ (runC m c t h0 h1 h2 p).2.2.2.2.1, y ∈ pc.1.set :=
  View.cover_of_tiledL (runC m c t h0 h1 h2 p).2.2.2.2.1 S544x128.size (by sl_kernel_rfl) y

/-- The run at a point of case D. -/
def runD (h0 : ¬t.val % 136 = 0) (h1 : t.val % 17 = 0) (h2 : ¬t.val % 17 = 16) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)

/-- What a point of case D leaves. -/
def heldD (h0 : ¬t.val % 136 = 0) (h1 : t.val % 17 = 0) (h2 : ¬t.val % 17 = 16) (p : Held F) : Held F where
  w8 := fresh VO0_8 (runD m c t h0 h1 h2).1
  w9 := fresh VO0_9 (runD m c t h0 h1 h2).2.1
  w10 := fresh VO0_10 (runD m c t h0 h1 h2).2.2.1
  w11 := fresh VO0_11 (runD m c t h0 h1 h2).2.2.2.1
  w12 := p.w12
  s0 := fresh VS0_0 (runD m c t h0 h1 h2).2.2.2.2.2.1
  s1 := fresh VS0_1 (runD m c t h0 h1 h2).2.2.2.2.2.2.1
  s2 := fresh VS0_2 (runD m c t h0 h1 h2).2.2.2.2.2.2.2.1
  s3 := fresh VS0_3 (runD m c t h0 h1 h2).2.2.2.2.2.2.2.2.1

theorem heldD_w8 (h0 : ¬t.val % 136 = 0) (h1 : t.val % 17 = 0) (h2 : ¬t.val % 17 = 16) (p : Held F) : (heldD m c t h0 h1 h2 p).w8 = fresh VO0_8 (runD m c t h0 h1 h2).1 := by dsimp only [heldD]

theorem heldD_w9 (h0 : ¬t.val % 136 = 0) (h1 : t.val % 17 = 0) (h2 : ¬t.val % 17 = 16) (p : Held F) : (heldD m c t h0 h1 h2 p).w9 = fresh VO0_9 (runD m c t h0 h1 h2).2.1 := by dsimp only [heldD]

theorem heldD_w10 (h0 : ¬t.val % 136 = 0) (h1 : t.val % 17 = 0) (h2 : ¬t.val % 17 = 16) (p : Held F) : (heldD m c t h0 h1 h2 p).w10 = fresh VO0_10 (runD m c t h0 h1 h2).2.2.1 := by dsimp only [heldD]

theorem heldD_w11 (h0 : ¬t.val % 136 = 0) (h1 : t.val % 17 = 0) (h2 : ¬t.val % 17 = 16) (p : Held F) : (heldD m c t h0 h1 h2 p).w11 = fresh VO0_11 (runD m c t h0 h1 h2).2.2.2.1 := by dsimp only [heldD]

theorem heldD_w12 (h0 : ¬t.val % 136 = 0) (h1 : t.val % 17 = 0) (h2 : ¬t.val % 17 = 16) (p : Held F) : (heldD m c t h0 h1 h2 p).w12 = p.w12 := by dsimp only [heldD]

theorem heldD_s0 (h0 : ¬t.val % 136 = 0) (h1 : t.val % 17 = 0) (h2 : ¬t.val % 17 = 16) (p : Held F) : (heldD m c t h0 h1 h2 p).s0 = fresh VS0_0 (runD m c t h0 h1 h2).2.2.2.2.2.1 := by dsimp only [heldD]

theorem heldD_s1 (h0 : ¬t.val % 136 = 0) (h1 : t.val % 17 = 0) (h2 : ¬t.val % 17 = 16) (p : Held F) : (heldD m c t h0 h1 h2 p).s1 = fresh VS0_1 (runD m c t h0 h1 h2).2.2.2.2.2.2.1 := by dsimp only [heldD]

theorem heldD_s2 (h0 : ¬t.val % 136 = 0) (h1 : t.val % 17 = 0) (h2 : ¬t.val % 17 = 16) (p : Held F) : (heldD m c t h0 h1 h2 p).s2 = fresh VS0_2 (runD m c t h0 h1 h2).2.2.2.2.2.2.2.1 := by dsimp only [heldD]

theorem heldD_s3 (h0 : ¬t.val % 136 = 0) (h1 : t.val % 17 = 0) (h2 : ¬t.val % 17 = 16) (p : Held F) : (heldD m c t h0 h1 h2 p).s3 = fresh VS0_3 (runD m c t h0 h1 h2).2.2.2.2.2.2.2.2.1 := by dsimp only [heldD]

theorem coverD_w8 (h0 : ¬t.val % 136 = 0) (h1 : t.val % 17 = 0) (h2 : ¬t.val % 17 = 16) (y) : ∃ pc ∈ (runD m c t h0 h1 h2).1, y ∈ pc.1.set :=
  View.cover_of_wholeMem (runD m c t h0 h1 h2).1 (by sl_whole_mem) y

theorem coverD_w9 (h0 : ¬t.val % 136 = 0) (h1 : t.val % 17 = 0) (h2 : ¬t.val % 17 = 16) (y) : ∃ pc ∈ (runD m c t h0 h1 h2).2.1, y ∈ pc.1.set :=
  View.cover_of_tiledL (runD m c t h0 h1 h2).2.1 S128x128.size (by sl_kernel_rfl) y

theorem coverD_w10 (h0 : ¬t.val % 136 = 0) (h1 : t.val % 17 = 0) (h2 : ¬t.val % 17 = 16) (y) : ∃ pc ∈ (runD m c t h0 h1 h2).2.2.1, y ∈ pc.1.set :=
  View.cover_of_tiledL (runD m c t h0 h1 h2).2.2.1 S128x128.size (by sl_kernel_rfl) y

theorem coverD_w11 (h0 : ¬t.val % 136 = 0) (h1 : t.val % 17 = 0) (h2 : ¬t.val % 17 = 16) (y) : ∃ pc ∈ (runD m c t h0 h1 h2).2.2.2.1, y ∈ pc.1.set :=
  View.cover_of_tiledBy (runD m c t h0 h1 h2).2.2.2.1 ![1, 128] (by sl_kernel_rfl) y

theorem coverD_s0 (h0 : ¬t.val % 136 = 0) (h1 : t.val % 17 = 0) (h2 : ¬t.val % 17 = 16) (y) : ∃ pc ∈ (runD m c t h0 h1 h2).2.2.2.2.2.1, y ∈ pc.1.set :=
  View.cover_of_tiledL (runD m c t h0 h1 h2).2.2.2.2.2.1 S1x544x128.size (by sl_kernel_rfl) y

theorem coverD_s1 (h0 : ¬t.val % 136 = 0) (h1 : t.val % 17 = 0) (h2 : ¬t.val % 17 = 16) (y) : ∃ pc ∈ (runD m c t h0 h1 h2).2.2.2.2.2.2.1, y ∈ pc.1.set :=
  View.cover_of_tiledL (runD m c t h0 h1 h2).2.2.2.2.2.2.1 S1x544x128.size (by sl_kernel_rfl) y

theorem coverD_s2 (h0 : ¬t.val % 136 = 0) (h1 : t.val % 17 = 0) (h2 : ¬t.val % 17 = 16) (y) : ∃ pc ∈ (runD m c t h0 h1 h2).2.2.2.2.2.2.2.1, y ∈ pc.1.set :=
  View.cover_of_tiledL (runD m c t h0 h1 h2).2.2.2.2.2.2.2.1 S1x544x128.size (by sl_kernel_rfl) y

theorem coverD_s3 (h0 : ¬t.val % 136 = 0) (h1 : t.val % 17 = 0) (h2 : ¬t.val % 17 = 16) (y) : ∃ pc ∈ (runD m c t h0 h1 h2).2.2.2.2.2.2.2.2.1, y ∈ pc.1.set :=
  View.cover_of_wholeMem (runD m c t h0 h1 h2).2.2.2.2.2.2.2.2.1 (by sl_whole_mem) y

end Cert.KernelIdeal.Fox

end
-- ==== Proof.Step.lean ====
module

public import proofs.«01_k».proof.Proof.Point

@[expose] public section

/-! From the body's runs to the run of the whole program: the invariant between points and the final states. -/

noncomputable section

namespace Cert.KernelIdeal.Fox

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## A step of the pipeline, with every assertion a name -/

/-- The body's run between what a point finds and what it must leave: each assertion is matched with its own. -/
theorem step_of {Φ O G Φ' B0 B1 B2 B3 B4 B5 B6 B7 B8 B9 B10 B11 B12 I0 I1 I2 I3 I4 I5 I6 I7 P8 P9 P10 P11 P12 PS0 PS1 PS2 PS3 Q8 Q9 Q10 Q11 Q12 QS0 QS1 QS2 QS3 L0 L1 L2 L3 L4 L5 L6 L7 L8 L9 L10 L11 L12 RS0 RS1 RS2 RS3 : sProp 𝕄} {W : (PUnit → sProp 𝕄) → sProp 𝕄}
    (hΦ : Φ ⊢ iprop((PS0 ∗ PS1 ∗ PS2 ∗ PS3) ∗ G)) (hΦ' : iprop((RS0 ∗ RS1 ∗ RS2 ∗ RS3) ∗ G) ⊢ Φ')
    (hB0 : B0 ⊢ I0) (hB1 : B1 ⊢ I1) (hB2 : B2 ⊢ I2) (hB3 : B3 ⊢ I3) (hB4 : B4 ⊢ I4) (hB5 : B5 ⊢ I5) (hB6 : B6 ⊢ I6) (hB7 : B7 ⊢ I7) (hB8 : B8 ⊢ P8) (hB9 : B9 ⊢ P9) (hB10 : B10 ⊢ P10) (hB11 : B11 ⊢ P11) (hB12 : B12 ⊢ P12)
    (hL0 : I0 ⊢ L0) (hL1 : I1 ⊢ L1) (hL2 : I2 ⊢ L2) (hL3 : I3 ⊢ L3) (hL4 : I4 ⊢ L4) (hL5 : I5 ⊢ L5) (hL6 : I6 ⊢ L6) (hL7 : I7 ⊢ L7) (hL8 : Q8 ⊢ L8) (hL9 : Q9 ⊢ L9) (hL10 : Q10 ⊢ L10) (hL11 : Q11 ⊢ L11) (hL12 : Q12 ⊢ L12)
    (hS0 : QS0 ⊢ RS0) (hS1 : QS1 ⊢ RS1) (hS2 : QS2 ⊢ RS2) (hS3 : QS3 ⊢ RS3)
    (run : ∀ K : PUnit → sProp 𝕄, iprop(I0 ∗ I1 ∗ I2 ∗ I3 ∗ I4 ∗ I5 ∗ I6 ∗ I7 ∗ P8 ∗ P9 ∗ P10 ∗ P11 ∗ P12 ∗ PS0 ∗ PS1 ∗ PS2 ∗ PS3 ∗ (iprop(I0 ∗ I1 ∗ I2 ∗ I3 ∗ I4 ∗ I5 ∗ I6 ∗ I7 ∗ Q8 ∗ Q9 ∗ Q10 ∗ Q11 ∗ Q12 ∗ QS0 ∗ QS1 ∗ QS2 ∗ QS3) -∗ K ⟨⟩)) ⊢ W K) :
    iprop(Φ ∗ O ∗ B0 ∗ B1 ∗ B2 ∗ B3 ∗ B4 ∗ B5 ∗ B6 ∗ B7 ∗ B8 ∗ B9 ∗ B10 ∗ B11 ∗ B12) ⊢ W (fun _ => iprop(Φ' ∗ O ∗ L0 ∗ L1 ∗ L2 ∗ L3 ∗ L4 ∗ L5 ∗ L6 ∗ L7 ∗ L8 ∗ L9 ∗ L10 ∗ L11 ∗ L12)) := by
  iintro ⟨HF, Ho, H0, H1, H2, H3, H4, H5, H6, H7, H8, H9, H10, H11, H12⟩
  ihave HF := hΦ $$ HF
  icases HF with ⟨⟨HS0, HS1, HS2, HS3⟩, Hg⟩
  iapply (run _)
  isplitl [H0]; · iapply hB0; iexact H0
  isplitl [H1]; · iapply hB1; iexact H1
  isplitl [H2]; · iapply hB2; iexact H2
  isplitl [H3]; · iapply hB3; iexact H3
  isplitl [H4]; · iapply hB4; iexact H4
  isplitl [H5]; · iapply hB5; iexact H5
  isplitl [H6]; · iapply hB6; iexact H6
  isplitl [H7]; · iapply hB7; iexact H7
  isplitl [H8]; · iapply hB8; iexact H8
  isplitl [H9]; · iapply hB9; iexact H9
  isplitl [H10]; · iapply hB10; iexact H10
  isplitl [H11]; · iapply hB11; iexact H11
  isplitl [H12]; · iapply hB12; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, H12, HS0, HS1, HS2, HS3⟩
  isplitl [HS0 HS1 HS2 HS3 Hg]
  · iapply hΦ'
    isplitl [HS0 HS1 HS2 HS3]
    · isplitl [HS0]; · iapply hS0; iexact HS0
      isplitl [HS1]; · iapply hS1; iexact HS1
      isplitl [HS2]; · iapply hS2; iexact HS2
      iapply hS3; iexact HS3
    iexact Hg
  isplitl [Ho]; · iexact Ho
  isplitl [H0]; · iapply hL0; iexact H0
  isplitl [H1]; · iapply hL1; iexact H1
  isplitl [H2]; · iapply hL2; iexact H2
  isplitl [H3]; · iapply hL3; iexact H3
  isplitl [H4]; · iapply hL4; iexact H4
  isplitl [H5]; · iapply hL5; iexact H5
  isplitl [H6]; · iapply hL6; iexact H6
  isplitl [H7]; · iapply hL7; iexact H7
  isplitl [H8]; · iapply hL8; iexact H8
  isplitl [H9]; · iapply hL9; iexact H9
  isplitl [H10]; · iapply hL10; iexact H10
  isplitl [H11]; · iapply hL11; iexact H11
  iapply hL12; iexact H12

/-- An unknown content of the last window may be named first. -/
theorem name_last {α : Type} {Φ O B0 B1 B2 B3 B4 B5 B6 B7 B8 B9 B10 B11 X : sProp 𝕄} {B12 : α → sProp 𝕄}
    (h : ∀ d, iprop(Φ ∗ O ∗ B0 ∗ B1 ∗ B2 ∗ B3 ∗ B4 ∗ B5 ∗ B6 ∗ B7 ∗ B8 ∗ B9 ∗ B10 ∗ B11 ∗ B12 d) ⊢ X) :
    iprop(Φ ∗ O ∗ B0 ∗ B1 ∗ B2 ∗ B3 ∗ B4 ∗ B5 ∗ B6 ∗ B7 ∗ B8 ∗ B9 ∗ B10 ∗ B11 ∗ (∃ d, B12 d)) ⊢ X := by
  iintro ⟨HF, Ho, H0, H1, H2, H3, H4, H5, H6, H7, H8, H9, H10, H11, ⟨%d, H12⟩⟩
  iapply (h d)
  isplitl [HF]; · iexact HF
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

section
variable {s : Shape} {e : EltTy} {sp : Space} {c : Dev nD}

/-- Writes that cover the block leave what they leave over any contents. -/
theorem own_fresh {M : Memref sig .tc sp s e} {sp' : Space} {V : View sig .tc sp' s e} {L : List (View.Piece (Elt F) s e)}
    (h : ∀ y, ∃ pc ∈ L, y ∈ pc.1.set) :
    iprop(∃ f, M.view.loc (c : Thread nD τ) ↦[M.view.set]{fullShare} M.view.writes (Elt F) f L) ⊢ (owns (c : Thread nD τ) M fullShare (fresh V L) : sProp 𝕄) := by
  unfold owns; iintro ⟨%f, H⟩; iexists _; isplitr
  swap; · iexact H
  ipureintro; exact View.read_writes_of_cover _ _ _ _ _ h

/-- The same, for contents known by another name. -/
theorem own_fresh_of {M : Memref sig .tc sp s e} {sp' : Space} {V : View sig .tc sp' s e} {L : List (View.Piece (Elt F) s e)} {x : Vec F s e}
    (hx : x = fresh V L) (h : ∀ y, ∃ pc ∈ L, y ∈ pc.1.set) :
    iprop(∃ f, M.view.loc (c : Thread nD τ) ↦[M.view.set]{fullShare} M.view.writes (Elt F) f L) ⊢ (owns (c : Thread nD τ) M fullShare x : sProp 𝕄) := by
  rw [hx]; exact own_fresh h

theorem own_over {M : Memref sig .tc sp s e} {hM : M.IsWhole} {x : Vec F s e} {L : List (View.Piece (Elt F) s e)} :
    iprop(M.view.loc (c : Thread nD τ) ↦[M.view.set]{fullShare} M.view.writes (Elt F) (hM.unread x) L) ⊢ (owns (c : Thread nD τ) M fullShare (over M hM x L) : sProp 𝕄) := by
  unfold owns; iintro H; iexists _; isplitr
  swap; · iexact H
  ipureintro; rfl

theorem own_over_of {M : Memref sig .tc sp s e} {hM : M.IsWhole} {x y : Vec F s e} {L : List (View.Piece (Elt F) s e)} (hy : y = over M hM x L) :
    iprop(M.view.loc (c : Thread nD τ) ↦[M.view.set]{fullShare} M.view.writes (Elt F) (hM.unread x) L) ⊢ (owns (c : Thread nD τ) M fullShare y : sProp 𝕄) := by
  rw [hy]; exact own_over

theorem own_same {M : Memref sig .tc sp s e} {x y : Vec F s e} (hy : y = x) :
    owns (c : Thread nD τ) M fullShare x ⊢ (owns (c : Thread nD τ) M fullShare y : sProp 𝕄) := by rw [hy]

/-- Contents that are known one way for every unknown `d` are known. -/
theorem own_known {α : Type} {M : Memref sig .tc sp s e} {f : α → Vec F s e} {x : Vec F s e} (h : ∀ d, f d = x) :
    iprop(∃ d, owns (c : Thread nD τ) M fullShare (f d)) ⊢ (owns (c : Thread nD τ) M fullShare x : sProp 𝕄) := by
  iintro ⟨%d, H⟩; rw [← h d]; iexact H

theorem own_some {α : Type} {M : Memref sig .tc sp s e} {f : α → Vec F s e} :
    iprop(∃ d, owns (c : Thread nD τ) M fullShare (f d)) ⊢ (iprop(∃ d, owns (c : Thread nD τ) M fullShare d) : sProp 𝕄) := by
  iintro ⟨%d, H⟩; iexists _; iexact H

theorem own_any {M : Memref sig .tc sp s e} {x : Vec F s e} :
    owns (c : Thread nD τ) M fullShare x ⊢ (iprop(∃ d, owns (c : Thread nD τ) M fullShare d) : sProp 𝕄) := by
  iintro H; iexists _; iexact H
end

end Cert.KernelIdeal.Fox

end
-- ==== Proof.Launched.lean ====
module

public import proofs.«01_k».proof.Proof.Step
public import Idealize.ShloMosaic.Lib.Claim

@[expose] public section

/-! The proof data of the pipeline, the body's obligation at every point, and the run of the whole program. -/

set_option maxRecDepth 16384

noncomputable section

namespace Cert.KernelIdeal.Fox

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 136 := lt_of_lt_of_eq t.isLt N_0

/-- What point `t`, not the first, leaves over what the point before left. -/
def next (c : Dev nD) (t : Fin cfg0.N) (ht : t.val ≠ 0) (p : Held F) : Held F :=
  if h1 : t.val % 17 = 0 then heldD m c t (by have := points t; omega) h1 (by omega) p
  else if h2 : t.val % 17 = 16 then heldC m c t (by have := points t; omega) h1 h2 p
  else heldB m c t (by have := points t; omega) h1 h2 p

/-- What point `n` leaves. -/
def held (c : Dev nD) : (n : ℕ) → n < cfg0.N → Held F
  | 0, hn => heldA m c ⟨0, hn⟩ rfl rfl (by show ¬ 0 % 17 = 16; decide)
  | n + 1, hn => next m c ⟨n + 1, hn⟩ (Nat.succ_ne_zero n) (held c n (Nat.lt_of_succ_lt hn))

/-- What the point before `t` left. -/
abbrev last (c : Dev nD) (t : Fin cfg0.N) : Held F := held m c (t.val - 1) (Nat.lt_of_le_of_lt (Nat.sub_le _ _) t.isLt)

theorem held_A (c : Dev nD) (t : Fin cfg0.N) (h0 : t.val % 136 = 0) (h1 : t.val % 17 = 0) (h2 : ¬t.val % 17 = 16) :
    held m c t.val t.isLt = heldA m c t h0 h1 h2 := by
  have hN := points t
  obtain ⟨n, hn⟩ := t
  cases n with
  | zero => rfl
  | succ n => exact absurd h0 (by show ¬ (n + 1) % 136 = 0; have : n + 1 < 136 := hN; omega)

theorem held_next (c : Dev nD) (t : Fin cfg0.N) (ht : t.val ≠ 0) : held m c t.val t.isLt = next m c t ht (last m c t) := by
  obtain ⟨n, hn⟩ := t
  cases n with
  | zero => exact absurd rfl ht
  | succ n => rfl

theorem held_B (c : Dev nD) (t : Fin cfg0.N) (h0 : ¬t.val % 136 = 0) (h1 : ¬t.val % 17 = 0) (h2 : ¬t.val % 17 = 16) :
    held m c t.val t.isLt = heldB m c t h0 h1 h2 (last m c t) :=
  (held_next m c t (fun h => h0 (by rw [h]))).trans ((dif_neg h1).trans (dif_neg h2))

theorem held_C (c : Dev nD) (t : Fin cfg0.N) (h0 : ¬t.val % 136 = 0) (h1 : ¬t.val % 17 = 0) (h2 : t.val % 17 = 16) :
    held m c t.val t.isLt = heldC m c t h0 h1 h2 (last m c t) :=
  (held_next m c t (fun h => h0 (by rw [h]))).trans ((dif_neg h1).trans (dif_pos h2))

theorem held_D (c : Dev nD) (t : Fin cfg0.N) (h0 : ¬t.val % 136 = 0) (h1 : t.val % 17 = 0) (h2 : ¬t.val % 17 = 16) :
    held m c t.val t.isLt = heldD m c t h0 h1 h2 (last m c t) :=
  (held_next m c t (fun h => h0 (by rw [h]))).trans (dif_pos h1)

/-- The invariant between points: the scratch arrays at what the point before left. -/
def Kept (c : Dev nD) : (n : ℕ) → n ≤ cfg0.N → sProp 𝕄
  | 0, _ => Pipeline.ΦA spec0 c
  | n + 1, hn => iprop(iprop(owns (c : Thread nD τ) scM0_0 fullShare (held m c n hn).s0 ∗ owns (c : Thread nD τ) scM0_1 fullShare (held m c n hn).s1 ∗ owns (c : Thread nD τ) scM0_2 fullShare (held m c n hn).s2 ∗ owns (c : Thread nD τ) scM0_3 fullShare (held m c n hn).s3) ∗ (∃ r, prngReg c r))

theorem inv_zero (c : Dev nD) (n : ℕ) (h : n ≤ cfg0.N) (hz : n = 0) : Kept m c n h = Pipeline.ΦA spec0 c := by subst hz; rfl

theorem inv_pos (c : Dev nD) (n : ℕ) (h : n ≤ cfg0.N) (hz : n ≠ 0) :
    Kept m c n h = iprop(iprop(owns (c : Thread nD τ) scM0_0 fullShare (held m c (n - 1) (by omega)).s0 ∗ owns (c : Thread nD τ) scM0_1 fullShare (held m c (n - 1) (by omega)).s1 ∗ owns (c : Thread nD τ) scM0_2 fullShare (held m c (n - 1) (by omega)).s2 ∗ owns (c : Thread nD τ) scM0_3 fullShare (held m c (n - 1) (by omega)).s3) ∗ (∃ r, prngReg c r)) := by
  cases n with
  | zero => exact absurd rfl hz
  | succ n => rfl

/-- The proof data: the arrays as the region finds them, each input's block as it was, each output's at what the point leaves. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (held m c t.val t.isLt).w8
    | ⟨9, _⟩ => (held m c t.val t.isLt).w9
    | ⟨10, _⟩ => (held m c t.val t.isLt).w10
    | ⟨11, _⟩ => (held m c t.val t.isLt).w11
    | ⟨12, _⟩ => (held m c t.val t.isLt).w12
  Φ t := Kept m c t.val (Nat.le_of_lt_succ t.isLt)
  q _ := fullShare
  owed _ := 0

theorem dat_A (c : Dev nD) (w : Fin cfg0.W) : (dat m 0 c).A w = V m c (Pipeline.arrRef spec0 w) := by dsimp only [dat]

theorem after_inv (c : Dev nD) (t : Fin cfg0.N) :
    iprop(iprop(owns (c : Thread nD τ) scM0_0 fullShare (held m c t.val t.isLt).s0 ∗ owns (c : Thread nD τ) scM0_1 fullShare (held m c t.val t.isLt).s1 ∗ owns (c : Thread nD τ) scM0_2 fullShare (held m c t.val t.isLt).s2 ∗ owns (c : Thread nD τ) scM0_3 fullShare (held m c t.val t.isLt).s3) ∗ (∃ r, prngReg c r)) ⊢ (dat m 0 c).Φ t.succ := by
  rw [show (dat m 0 c).Φ t.succ = Kept m c (t.val + 1) t.isLt from rfl]; exact .rfl

theorem inv_here (c : Dev nD) (t : Fin cfg0.N) : (dat m 0 c).Φ t.castSucc = Kept m c t.val (Nat.le_of_lt t.isLt) := by
  dsimp only [dat]; exact Pipeline.Dat.Φ_castSucc (Kept m c) t

theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = iblk m c 2 t := by dsimp only [dat]
theorem after3 (c : Dev nD) (t : Fin cfg0.N) : (dat m 0 c).after 3 t = iblk m c 3 t := by dsimp only [dat]
theorem after4 (c : Dev nD) (t : Fin cfg0.N) : (dat m 0 c).after 4 t = iblk m c 4 t := by dsimp only [dat]
theorem after5 (c : Dev nD) (t : Fin cfg0.N) : (dat m 0 c).after 5 t = iblk m c 5 t := by dsimp only [dat]
theorem after6 (c : Dev nD) (t : Fin cfg0.N) : (dat m 0 c).after 6 t = iblk m c 6 t := by dsimp only [dat]
theorem after7 (c : Dev nD) (t : Fin cfg0.N) : (dat m 0 c).after 7 t = iblk m c 7 t := by dsimp only [dat]
theorem after8 (c : Dev nD) (t : Fin cfg0.N) : (dat m 0 c).after 8 t = (held m c t.val t.isLt).w8 := by dsimp only [dat]
theorem after9 (c : Dev nD) (t : Fin cfg0.N) : (dat m 0 c).after 9 t = (held m c t.val t.isLt).w9 := by dsimp only [dat]
theorem after10 (c : Dev nD) (t : Fin cfg0.N) : (dat m 0 c).after 10 t = (held m c t.val t.isLt).w10 := by dsimp only [dat]
theorem after11 (c : Dev nD) (t : Fin cfg0.N) : (dat m 0 c).after 11 t = (held m c t.val t.isLt).w11 := by dsimp only [dat]
theorem after12 (c : Dev nD) (t : Fin cfg0.N) : (dat m 0 c).after 12 t = (held m c t.val t.isLt).w12 := by dsimp only [dat]

/-! Each input's buffer holds its block. -/

theorem before0 (c : Dev nD) (t : Fin cfg0.N) (d) : (dat m 0 c).before 0 t d = iblk m c 0 t := before0_0_of m (dat m 0 c) (dat_A m c 0) (after0 m c) t d
theorem before1 (c : Dev nD) (t : Fin cfg0.N) (d) : (dat m 0 c).before 1 t d = iblk m c 1 t := before0_1_of m (dat m 0 c) (dat_A m c 1) (after1 m c) t d
theorem before2 (c : Dev nD) (t : Fin cfg0.N) (d) : (dat m 0 c).before 2 t d = iblk m c 2 t := before0_2_of m (dat m 0 c) (dat_A m c 2) (after2 m c) t d
theorem before3 (c : Dev nD) (t : Fin cfg0.N) (d) : (dat m 0 c).before 3 t d = iblk m c 3 t := before0_3_of m (dat m 0 c) (dat_A m c 3) (after3 m c) t d
theorem before4 (c : Dev nD) (t : Fin cfg0.N) (d) : (dat m 0 c).before 4 t d = iblk m c 4 t := before0_4_of m (dat m 0 c) (dat_A m c 4) (after4 m c) t d
theorem before5 (c : Dev nD) (t : Fin cfg0.N) (d) : (dat m 0 c).before 5 t d = iblk m c 5 t := before0_5_of m (dat m 0 c) (dat_A m c 5) (after5 m c) t d
theorem before6 (c : Dev nD) (t : Fin cfg0.N) (d) : (dat m 0 c).before 6 t d = iblk m c 6 t := before0_6_of m (dat m 0 c) (dat_A m c 6) (after6 m c) t d
theorem before7 (c : Dev nD) (t : Fin cfg0.N) (d) : (dat m 0 c).before 7 t d = iblk m c 7 t := before0_7_of m (dat m 0 c) (dat_A m c 7) (after7 m c) t d

/-- Where the query gradient's block stays from the point before, its buffer holds what that point left. -/
theorem before8 (c : Dev nD) (t : Fin cfg0.N) (h1 : ¬t.val % 17 = 0) (d) : (dat m 0 c).before 8 t d = (last m c t).w8 := by
  have hN := points t
  rw [Dat.before_out_kept _ 8 rfl t (by omega) (Bool.eq_false_iff.mpr fun h => by have := (flush0_8 _).mp h; dsimp only at this; omega)
    (fun _ => rfl) (fun _ _ => rfl)]
  dsimp only [dat]

/-- A point that does not write the last window leaves it as the point before left it. -/
theorem carry12 (c : Dev nD) : ∀ (t : Fin cfg0.N) (_ : t.val ≠ 0), cfg0.idle 12 (grid0.coords t) = true → cfg0.fresh 12 t.val = false →
    (dat m 0 c).after 12 t = (dat m 0 c).after 12 ⟨t.val - 1, by omega⟩ := by
  intro t ht hi _
  have hN := points t
  have h0 : ¬ t.val % 136 = 0 := by omega
  rw [after12, after12]
  by_cases h1 : t.val % 17 = 0
  · rw [held_D m c t h0 h1 (by omega)]; rfl
  · by_cases h2 : t.val % 17 = 16
    · rw [liveAt0_12_C t (fun h => h0 ((hcond0_0 t).mp h)) (fun h => h1 ((hcond0_1 t).mp h)) ((hcond0_2 t).mpr h2)] at hi
      exact absurd hi Bool.false_ne_true
    · rw [held_B m c t h0 h1 h2]; rfl

theorem before12 (c : Dev nD) (t : Fin cfg0.N) (h0 : ¬t.val % 136 = 0) (h1 : ¬t.val % 17 = 0) (h2 : t.val % 17 = 16) (d) :
    (dat m 0 c).before 12 t d = (last m c t).w12 := by
  rw [Dat.before_out_traj _ 12 rfl (fun _ _ => rfl) (carry12 m c) t.val t rfl d,
    if_neg (by rw [notFresh0_12_C t (fun h => h0 ((hcond0_0 t).mp h)) (fun h => h1 ((hcond0_1 t).mp h)) ((hcond0_2 t).mpr h2)]; exact Bool.false_ne_true)]
  dsimp only [dat]

/-! What the body leaves in each window is what the pipeline expects. -/

theorem leaves0 (c : Dev nD) (t : Fin cfg0.N) : (dat m 0 c).leavesExact 0 t = owns (c : Thread nD τ) (ms0_0 t) fullShare (iblk m c 0 t) := by
  unfold Dat.leavesExact; rw [liveAt0_0 t, after0]
theorem leaves1 (c : Dev nD) (t : Fin cfg0.N) : (dat m 0 c).leavesExact 1 t = owns (c : Thread nD τ) (ms0_1 t) fullShare (iblk m c 1 t) := by
  unfold Dat.leavesExact; rw [liveAt0_1 t, after1]
theorem leaves2 (c : Dev nD) (t : Fin cfg0.N) : (dat m 0 c).leavesExact 2 t = owns (c : Thread nD τ) (ms0_2 t) fullShare (iblk m c 2 t) := by
  unfold Dat.leavesExact; rw [liveAt0_2 t, after2]
theorem leaves3 (c : Dev nD) (t : Fin cfg0.N) : (dat m 0 c).leavesExact 3 t = owns (c : Thread nD τ) (ms0_3 t) fullShare (iblk m c 3 t) := by
  unfold Dat.leavesExact; rw [liveAt0_3 t, after3]
theorem leaves4 (c : Dev nD) (t : Fin cfg0.N) : (dat m 0 c).leavesExact 4 t = owns (c : Thread nD τ) (ms0_4 t) fullShare (iblk m c 4 t) := by
  unfold Dat.leavesExact; rw [liveAt0_4 t, after4]
theorem leaves5 (c : Dev nD) (t : Fin cfg0.N) : (dat m 0 c).leavesExact 5 t = owns (c : Thread nD τ) (ms0_5 t) fullShare (iblk m c 5 t) := by
  unfold Dat.leavesExact; rw [liveAt0_5 t, after5]
theorem leaves6 (c : Dev nD) (t : Fin cfg0.N) : (dat m 0 c).leavesExact 6 t = owns (c : Thread nD τ) (ms0_6 t) fullShare (iblk m c 6 t) := by
  unfold Dat.leavesExact; rw [liveAt0_6 t, after6]
theorem leaves7 (c : Dev nD) (t : Fin cfg0.N) : (dat m 0 c).leavesExact 7 t = owns (c : Thread nD τ) (ms0_7 t) fullShare (iblk m c 7 t) := by
  unfold Dat.leavesExact; rw [liveAt0_7 t, after7]
theorem leaves8 (c : Dev nD) (t : Fin cfg0.N) : (dat m 0 c).leavesExact 8 t = owns (c : Thread nD τ) (ms0_8 t) fullShare (held m c t.val t.isLt).w8 := by
  unfold Dat.leavesExact; rw [liveAt0_8 t, after8]
theorem leaves9 (c : Dev nD) (t : Fin cfg0.N) : (dat m 0 c).leavesExact 9 t = owns (c : Thread nD τ) (ms0_9 t) fullShare (held m c t.val t.isLt).w9 := by
  unfold Dat.leavesExact; rw [liveAt0_9 t, after9]
theorem leaves10 (c : Dev nD) (t : Fin cfg0.N) : (dat m 0 c).leavesExact 10 t = owns (c : Thread nD τ) (ms0_10 t) fullShare (held m c t.val t.isLt).w10 := by
  unfold Dat.leavesExact; rw [liveAt0_10 t, after10]
theorem leaves11 (c : Dev nD) (t : Fin cfg0.N) : (dat m 0 c).leavesExact 11 t = owns (c : Thread nD τ) (ms0_11 t) fullShare (held m c t.val t.isLt).w11 := by
  unfold Dat.leavesExact; rw [liveAt0_11 t, after11]

theorem leaves12 (c : Dev nD) (t : Fin cfg0.N) (h : cfg0.idle 12 (grid0.coords t) = false) : (dat m 0 c).leavesExact 12 t = owns (c : Thread nD τ) (ms0_12 t) fullShare (held m c t.val t.isLt).w12 := by
  unfold Dat.leavesExact; rw [h, after12]

/-- What the body finds at point `t`, and what it leaves. -/
def Before (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d))
    ∗ (∃ d, owns (c : Thread nD τ) (ms0_9 t) fullShare ((dat m 0 c).before 9 t d))
    ∗ (∃ d, owns (c : Thread nD τ) (ms0_10 t) fullShare ((dat m 0 c).before 10 t d))
    ∗ (∃ d, owns (c : Thread nD τ) (ms0_11 t) fullShare ((dat m 0 c).before 11 t d))
    ∗ (∃ d, owns (c : Thread nD τ) (ms0_12 t) fullShare ((dat m 0 c).before 12 t d)))

def After (c : Dev nD) (t : Fin cfg0.N) : sProp 𝕄 :=
  iprop((dat m 0 c).Φ t.succ ∗ (dat m 0 c).owesAt () t.castSucc
    ∗ (dat m 0 c).leavesExact 0 t
    ∗ (dat m 0 c).leavesExact 1 t
    ∗ (dat m 0 c).leavesExact 2 t
    ∗ (dat m 0 c).leavesExact 3 t
    ∗ (dat m 0 c).leavesExact 4 t
    ∗ (dat m 0 c).leavesExact 5 t
    ∗ (dat m 0 c).leavesExact 6 t
    ∗ (dat m 0 c).leavesExact 7 t
    ∗ (dat m 0 c).leavesExact 8 t
    ∗ (dat m 0 c).leavesExact 9 t
    ∗ (dat m 0 c).leavesExact 10 t
    ∗ (dat m 0 c).leavesExact 11 t
    ∗ (dat m 0 c).leavesExact 12 t)

set_option maxHeartbeats 3200000 in
theorem body_A (c : Dev nD) (t : Fin cfg0.N) (h0 : t.val % 136 = 0) (h1 : t.val % 17 = 0) (h2 : ¬t.val % 17 = 16) :
    Before m c t ⊢ wp frame (wpE (defs₀ (F := F)) Variants.none c none) Set.univ (bodyAt0 t) (fun _ => After m c t) := by
  unfold Before After
  refine step_of (W := fun K => wp frame (wpE (defs₀ (F := F)) Variants.none c none) Set.univ (bodyAt0 t) K)
    (hΦ := by rw [inv_here, inv_zero m c _ _ (by have := points t; omega), PhiA0_eq]) (hΦ' := after_inv m c t)
    (hB0 := own_known (before0 m c t))
    (hB1 := own_known (before1 m c t))
    (hB2 := own_known (before2 m c t))
    (hB3 := own_known (before3 m c t))
    (hB4 := own_known (before4 m c t))
    (hB5 := own_known (before5 m c t))
    (hB6 := own_known (before6 m c t))
    (hB7 := own_known (before7 m c t))
    (hB8 := own_some)
    (hB9 := own_some)
    (hB10 := own_some)
    (hB11 := own_some)
    (hB12 := own_some)
    (hL0 := by rw [leaves0])
    (hL1 := by rw [leaves1])
    (hL2 := by rw [leaves2])
    (hL3 := by rw [leaves3])
    (hL4 := by rw [leaves4])
    (hL5 := by rw [leaves5])
    (hL6 := by rw [leaves6])
    (hL7 := by rw [leaves7])
    (hL8 := by rw [leaves8]; exact own_fresh_of ((congrArg Held.w8 (held_A m c t h0 h1 h2)).trans (heldA_w8 m c t h0 h1 h2)) (coverA_w8 m c t h0 h1 h2))
    (hL9 := by rw [leaves9]; exact own_fresh_of ((congrArg Held.w9 (held_A m c t h0 h1 h2)).trans (heldA_w9 m c t h0 h1 h2)) (coverA_w9 m c t h0 h1 h2))
    (hL10 := by rw [leaves10]; exact own_fresh_of ((congrArg Held.w10 (held_A m c t h0 h1 h2)).trans (heldA_w10 m c t h0 h1 h2)) (coverA_w10 m c t h0 h1 h2))
    (hL11 := by rw [leaves11]; exact own_fresh_of ((congrArg Held.w11 (held_A m c t h0 h1 h2)).trans (heldA_w11 m c t h0 h1 h2)) (coverA_w11 m c t h0 h1 h2))
    (hL12 := by rw [leaves12 m c t (liveAt0_12_A t ((hcond0_0 t).mpr h0) ((hcond0_1 t).mpr h1) (fun h => h2 ((hcond0_2 t).mp h)))]; exact own_fresh_of ((congrArg Held.w12 (held_A m c t h0 h1 h2)).trans (heldA_w12 m c t h0 h1 h2)) (coverA_w12 m c t h0 h1 h2))
    (hS0 := own_fresh_of ((congrArg Held.s0 (held_A m c t h0 h1 h2)).trans (heldA_s0 m c t h0 h1 h2)) (coverA_s0 m c t h0 h1 h2))
    (hS1 := own_fresh_of ((congrArg Held.s1 (held_A m c t h0 h1 h2)).trans (heldA_s1 m c t h0 h1 h2)) (coverA_s1 m c t h0 h1 h2))
    (hS2 := own_fresh_of ((congrArg Held.s2 (held_A m c t h0 h1 h2)).trans (heldA_s2 m c t h0 h1 h2)) (coverA_s2 m c t h0 h1 h2))
    (hS3 := own_fresh_of ((congrArg Held.s3 (held_A m c t h0 h1 h2)).trans (heldA_s3 m c t h0 h1 h2)) (coverA_s3 m c t h0 h1 h2))
    (run := fun K => (runA m c t h0 h1 h2).2.2.2.2.2.2.2.2.2 Set.univ K)

set_option maxHeartbeats 3200000 in
theorem body_B (c : Dev nD) (t : Fin cfg0.N) (h0 : ¬t.val % 136 = 0) (h1 : ¬t.val % 17 = 0) (h2 : ¬t.val % 17 = 16) :
    Before m c t ⊢ wp frame (wpE (defs₀ (F := F)) Variants.none c none) Set.univ (bodyAt0 t) (fun _ => After m c t) := by
  unfold Before After
  refine name_last fun d => ?_
  refine step_of (W := fun K => wp frame (wpE (defs₀ (F := F)) Variants.none c none) Set.univ (bodyAt0 t) K)
    (hΦ := by rw [inv_here, inv_pos m c _ _ (fun h => h0 (by rw [h]))]) (hΦ' := after_inv m c t)
    (hB0 := own_known (before0 m c t))
    (hB1 := own_known (before1 m c t))
    (hB2 := own_known (before2 m c t))
    (hB3 := own_known (before3 m c t))
    (hB4 := own_known (before4 m c t))
    (hB5 := own_known (before5 m c t))
    (hB6 := own_known (before6 m c t))
    (hB7 := own_known (before7 m c t))
    (hB8 := own_known (before8 m c t h1))
    (hB9 := own_some)
    (hB10 := own_some)
    (hB11 := own_some)
    (hB12 := .rfl)
    (hL0 := by rw [leaves0])
    (hL1 := by rw [leaves1])
    (hL2 := by rw [leaves2])
    (hL3 := by rw [leaves3])
    (hL4 := by rw [leaves4])
    (hL5 := by rw [leaves5])
    (hL6 := by rw [leaves6])
    (hL7 := by rw [leaves7])
    (hL8 := by rw [leaves8]; exact own_over_of ((congrArg Held.w8 (held_B m c t h0 h1 h2)).trans (heldB_w8 m c t h0 h1 h2 (last m c t))))
    (hL9 := by rw [leaves9]; exact own_fresh_of ((congrArg Held.w9 (held_B m c t h0 h1 h2)).trans (heldB_w9 m c t h0 h1 h2 (last m c t))) (coverB_w9 m c t h0 h1 h2 (last m c t)))
    (hL10 := by rw [leaves10]; exact own_fresh_of ((congrArg Held.w10 (held_B m c t h0 h1 h2)).trans (heldB_w10 m c t h0 h1 h2 (last m c t))) (coverB_w10 m c t h0 h1 h2 (last m c t)))
    (hL11 := by rw [leaves11]; exact own_fresh_of ((congrArg Held.w11 (held_B m c t h0 h1 h2)).trans (heldB_w11 m c t h0 h1 h2 (last m c t))) (coverB_w11 m c t h0 h1 h2 (last m c t)))
    (hL12 := by rw [Dat.leavesExact_idle (dat m 0 c) 12 t (idleAt0_12_B t (fun h => h0 ((hcond0_0 t).mp h)) (fun h => h1 ((hcond0_1 t).mp h)) (fun h => h2 ((hcond0_2 t).mp h))) (noFlush0_12_B t (fun h => h0 ((hcond0_0 t).mp h)) (fun h => h1 ((hcond0_1 t).mp h)) (fun h => h2 ((hcond0_2 t).mp h)))]; iintro H; iexists _; iexact H)
    (hS0 := own_same ((congrArg Held.s0 (held_B m c t h0 h1 h2)).trans (heldB_s0 m c t h0 h1 h2 (last m c t))))
    (hS1 := own_same ((congrArg Held.s1 (held_B m c t h0 h1 h2)).trans (heldB_s1 m c t h0 h1 h2 (last m c t))))
    (hS2 := own_same ((congrArg Held.s2 (held_B m c t h0 h1 h2)).trans (heldB_s2 m c t h0 h1 h2 (last m c t))))
    (hS3 := own_over_of ((congrArg Held.s3 (held_B m c t h0 h1 h2)).trans (heldB_s3 m c t h0 h1 h2 (last m c t))))
    (run := fun K => (runB m c t h0 h1 h2 (last m c t)).2.2.2.2.2.2.2.2.2 _ Set.univ K)

set_option maxHeartbeats 3200000 in
theorem body_C (c : Dev nD) (t : Fin cfg0.N) (h0 : ¬t.val % 136 = 0) (h1 : ¬t.val % 17 = 0) (h2 : t.val % 17 = 16) :
    Before m c t ⊢ wp frame (wpE (defs₀ (F := F)) Variants.none c none) Set.univ (bodyAt0 t) (fun _ => After m c t) := by
  unfold Before After
  refine step_of (W := fun K => wp frame (wpE (defs₀ (F := F)) Variants.none c none) Set.univ (bodyAt0 t) K)
    (hΦ := by rw [inv_here, inv_pos m c _ _ (fun h => h0 (by rw [h]))]) (hΦ' := after_inv m c t)
    (hB0 := own_known (before0 m c t))
    (hB1 := own_known (before1 m c t))
    (hB2 := own_known (before2 m c t))
    (hB3 := own_known (before3 m c t))
    (hB4 := own_known (before4 m c t))
    (hB5 := own_known (before5 m c t))
    (hB6 := own_known (before6 m c t))
    (hB7 := own_known (before7 m c t))
    (hB8 := own_known (before8 m c t h1))
    (hB9 := own_some)
    (hB10 := own_some)
    (hB11 := own_some)
    (hB12 := own_known (before12 m c t h0 h1 h2))
    (hL0 := by rw [leaves0])
    (hL1 := by rw [leaves1])
    (hL2 := by rw [leaves2])
    (hL3 := by rw [leaves3])
    (hL4 := by rw [leaves4])
    (hL5 := by rw [leaves5])
    (hL6 := by rw [leaves6])
    (hL7 := by rw [leaves7])
    (hL8 := by rw [leaves8]; exact own_over_of ((congrArg Held.w8 (held_C m c t h0 h1 h2)).trans (heldC_w8 m c t h0 h1 h2 (last m c t))))
    (hL9 := by rw [leaves9]; exact own_fresh_of ((congrArg Held.w9 (held_C m c t h0 h1 h2)).trans (heldC_w9 m c t h0 h1 h2 (last m c t))) (coverC_w9 m c t h0 h1 h2 (last m c t)))
    (hL10 := by rw [leaves10]; exact own_fresh_of ((congrArg Held.w10 (held_C m c t h0 h1 h2)).trans (heldC_w10 m c t h0 h1 h2 (last m c t))) (coverC_w10 m c t h0 h1 h2 (last m c t)))
    (hL11 := by rw [leaves11]; exact own_fresh_of ((congrArg Held.w11 (held_C m c t h0 h1 h2)).trans (heldC_w11 m c t h0 h1 h2 (last m c t))) (coverC_w11 m c t h0 h1 h2 (last m c t)))
    (hL12 := by rw [leaves12 m c t (liveAt0_12_C t (fun h => h0 ((hcond0_0 t).mp h)) (fun h => h1 ((hcond0_1 t).mp h)) ((hcond0_2 t).mpr h2))]; exact own_fresh_of ((congrArg Held.w12 (held_C m c t h0 h1 h2)).trans (heldC_w12 m c t h0 h1 h2 (last m c t))) (coverC_w12 m c t h0 h1 h2 (last m c t)))
    (hS0 := own_same ((congrArg Held.s0 (held_C m c t h0 h1 h2)).trans (heldC_s0 m c t h0 h1 h2 (last m c t))))
    (hS1 := own_same ((congrArg Held.s1 (held_C m c t h0 h1 h2)).trans (heldC_s1 m c t h0 h1 h2 (last m c t))))
    (hS2 := own_same ((congrArg Held.s2 (held_C m c t h0 h1 h2)).trans (heldC_s2 m c t h0 h1 h2 (last m c t))))
    (hS3 := own_over_of ((congrArg Held.s3 (held_C m c t h0 h1 h2)).trans (heldC_s3 m c t h0 h1 h2 (last m c t))))
    (run := fun K => (runC m c t h0 h1 h2 (last m c t)).2.2.2.2.2.2.2.2.2 Set.univ K)

set_option maxHeartbeats 3200000 in
theorem body_D (c : Dev nD) (t : Fin cfg0.N) (h0 : ¬t.val % 136 = 0) (h1 : t.val % 17 = 0) (h2 : ¬t.val % 17 = 16) :
    Before m c t ⊢ wp frame (wpE (defs₀ (F := F)) Variants.none c none) Set.univ (bodyAt0 t) (fun _ => After m c t) := by
  unfold Before After
  refine name_last fun d => ?_
  refine step_of (W := fun K => wp frame (wpE (defs₀ (F := F)) Variants.none c none) Set.univ (bodyAt0 t) K)
    (hΦ := by
      rw [inv_here, inv_pos m c _ _ (fun h => h0 (by rw [h]))]
      exact Laws.sep_mono (Laws.sep_mono own_any (Laws.sep_mono own_any (Laws.sep_mono own_any own_any))) .rfl) (hΦ' := after_inv m c t)
    (hB0 := own_known (before0 m c t))
    (hB1 := own_known (before1 m c t))
    (hB2 := own_known (before2 m c t))
    (hB3 := own_known (before3 m c t))
    (hB4 := own_known (before4 m c t))
    (hB5 := own_known (before5 m c t))
    (hB6 := own_known (before6 m c t))
    (hB7 := own_known (before7 m c t))
    (hB8 := own_some)
    (hB9 := own_some)
    (hB10 := own_some)
    (hB11 := own_some)
    (hB12 := .rfl)
    (hL0 := by rw [leaves0])
    (hL1 := by rw [leaves1])
    (hL2 := by rw [leaves2])
    (hL3 := by rw [leaves3])
    (hL4 := by rw [leaves4])
    (hL5 := by rw [leaves5])
    (hL6 := by rw [leaves6])
    (hL7 := by rw [leaves7])
    (hL8 := by rw [leaves8]; exact own_fresh_of ((congrArg Held.w8 (held_D m c t h0 h1 h2)).trans (heldD_w8 m c t h0 h1 h2 (last m c t))) (coverD_w8 m c t h0 h1 h2))
    (hL9 := by rw [leaves9]; exact own_fresh_of ((congrArg Held.w9 (held_D m c t h0 h1 h2)).trans (heldD_w9 m c t h0 h1 h2 (last m c t))) (coverD_w9 m c t h0 h1 h2))
    (hL10 := by rw [leaves10]; exact own_fresh_of ((congrArg Held.w10 (held_D m c t h0 h1 h2)).trans (heldD_w10 m c t h0 h1 h2 (last m c t))) (coverD_w10 m c t h0 h1 h2))
    (hL11 := by rw [leaves11]; exact own_fresh_of ((congrArg Held.w11 (held_D m c t h0 h1 h2)).trans (heldD_w11 m c t h0 h1 h2 (last m c t))) (coverD_w11 m c t h0 h1 h2))
    (hL12 := by rw [Dat.leavesExact_idle (dat m 0 c) 12 t (idleAt0_12_D t (fun h => h0 ((hcond0_0 t).mp h)) ((hcond0_1 t).mpr h1) (fun h => h2 ((hcond0_2 t).mp h))) (noFlush0_12_D t (fun h => h0 ((hcond0_0 t).mp h)) ((hcond0_1 t).mpr h1) (fun h => h2 ((hcond0_2 t).mp h)))]; iintro H; iexists _; iexact H)
    (hS0 := own_fresh_of ((congrArg Held.s0 (held_D m c t h0 h1 h2)).trans (heldD_s0 m c t h0 h1 h2 (last m c t))) (coverD_s0 m c t h0 h1 h2))
    (hS1 := own_fresh_of ((congrArg Held.s1 (held_D m c t h0 h1 h2)).trans (heldD_s1 m c t h0 h1 h2 (last m c t))) (coverD_s1 m c t h0 h1 h2))
    (hS2 := own_fresh_of ((congrArg Held.s2 (held_D m c t h0 h1 h2)).trans (heldD_s2 m c t h0 h1 h2 (last m c t))) (coverD_s2 m c t h0 h1 h2))
    (hS3 := own_fresh_of ((congrArg Held.s3 (held_D m c t h0 h1 h2)).trans (heldD_s3 m c t h0 h1 h2 (last m c t))) (coverD_s3 m c t h0 h1 h2))
    (run := fun K => (runD m c t h0 h1 h2).2.2.2.2.2.2.2.2.2 _ Set.univ K)

/-- The body at every point. -/
theorem body (c : Dev nD) (t : Fin cfg0.N) :
    Before m c t ⊢ wp frame (wpE (defs₀ (F := F)) Variants.none c none) Set.univ (bodyAt0 t) (fun _ => After m c t) := by
  have hN := points t
  by_cases h1 : t.val % 17 = 0
  · by_cases h0 : t.val % 136 = 0
    · exact body_A m c t h0 h1 (by omega)
    · exact body_D m c t h0 h1 (by omega)
  · by_cases h2 : t.val % 17 = 16
    · exact body_C m c t (by omega) h1 h2
    · exact body_B m c t (by omega) h1 h2

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row]
  exact triple_restated (body m c t) rfl .rfl fun _ => .rfl

theorem enter (c : Dev nD) : Pipeline.ΦA spec0 c ⊢ (dat m 0 c).Φ 0 := by
  rw [show (dat m 0 c).Φ 0 = Kept m c 0 (Nat.zero_le _) from rfl, inv_zero m c 0 _ rfl]

theorem leave (c : Dev nD) : (dat m 0 c).Φ (Fin.last cfg0.N) ⊢ Pipeline.ΦA spec0 c := by
  have h : (Fin.last cfg0.N).val ≠ 0 := by rw [Fin.val_last]; have : cfg0.N = 136 := N_0; omega
  rw [show (dat m 0 c).Φ (Fin.last cfg0.N) = Kept m c (Fin.last cfg0.N).val (Nat.le_of_lt_succ (Fin.last cfg0.N).isLt) from rfl, inv_pos m c _ _ h, PhiA0_eq]
  exact Laws.sep_mono (Laws.sep_mono own_any (Laws.sep_mono own_any (Laws.sep_mono own_any own_any))) .rfl

set_option backward.isDefEq.respectTransparency.types false in
/-- The run: every array of the pipeline at what the proof data says, every counter at zero. -/
theorem run_quiet : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hin := enter m) (hout := leave m)

theorem run_all : θ_run defs (onTc (τ := τ) (main (F := F))) (s₀ m ρ) (Pipeline.FramePost cfgs (dat m) 0 (V m)) :=
  (θ_run defs _ _).mono (fun _ h => h.1) (run_quiet m ρ)

/-- The program ends, with its arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dat m) (dat_A m) (run_all m ρ)) ((θ_run defs _ _).mono (fun _ h => h.2) (run_quiet m ρ))

end Cert.KernelIdeal.Fox

end
-- ==== Proof.Input.lean ====
module

public import proofs.«01_k».proof.Proof.Args
public import proofs.«01_k».proof.Proof.Launched

@[expose] public section

/-! What each grid point's input blocks hold. -/

set_option maxRecDepth 16384

noncomputable section

namespace Cert.KernelIdeal.Fox

open Idealize.ShloMosaic Idealize.SL.Sem Cert.KernelIdeal Cert.KernelIdeal.Gen Idealize.ShloMosaic.TcCoe Cert.Fox

variable (m : (ℓ : Loc nD τ sig) → Buf (Elt Ideal) ℓ) (c : Dev nD) (t : Fin cfg0.N)

theorem coord0 : (grid0.coords t 0).val = t.val / 17 :=
  (by decide +kernel : ∀ t : Fin grid0.N, (grid0.coords t 0).val = t.val / 17) t
theorem coord1 : (grid0.coords t 1).val = t.val % 17 :=
  (by decide +kernel : ∀ t : Fin grid0.N, (grid0.coords t 1).val = t.val % 17) t

theorem at0 : win0_0.index t (0 : Fin 2) = 0 ∧ win0_0.index t (1 : Fin 2) = t.val / 17 :=
  (by decide +kernel : ∀ t : Fin grid0.N, win0_0.index t (0 : Fin 2) = 0 ∧ win0_0.index t (1 : Fin 2) = t.val / 17) t
theorem at1 : win0_1.index t (0 : Fin 2) = t.val % 17 ∧ win0_1.index t (1 : Fin 2) = t.val / 17 :=
  (by decide +kernel : ∀ t : Fin grid0.N, win0_1.index t (0 : Fin 2) = t.val % 17 ∧ win0_1.index t (1 : Fin 2) = t.val / 17) t
theorem at2 : win0_2.index t (0 : Fin 2) = t.val % 17 ∧ win0_2.index t (1 : Fin 2) = t.val / 17 :=
  (by decide +kernel : ∀ t : Fin grid0.N, win0_2.index t (0 : Fin 2) = t.val % 17 ∧ win0_2.index t (1 : Fin 2) = t.val / 17) t
theorem at3 : win0_3.index t (0 : Fin 2) = 0 ∧ win0_3.index t (1 : Fin 2) = 0 :=
  (by decide +kernel : ∀ t : Fin grid0.N, win0_3.index t (0 : Fin 2) = 0 ∧ win0_3.index t (1 : Fin 2) = 0) t
theorem at4 : win0_4.index t (0 : Fin 2) = t.val / 17 ∧ win0_4.index t (1 : Fin 2) = t.val % 17 :=
  (by decide +kernel : ∀ t : Fin grid0.N, win0_4.index t (0 : Fin 2) = t.val / 17 ∧ win0_4.index t (1 : Fin 2) = t.val % 17) t
theorem at5 : win0_5.index t (0 : Fin 2) = 0 ∧ win0_5.index t (1 : Fin 2) = t.val / 17 :=
  (by decide +kernel : ∀ t : Fin grid0.N, win0_5.index t (0 : Fin 2) = 0 ∧ win0_5.index t (1 : Fin 2) = t.val / 17) t
theorem at6 : win0_6.index t (0 : Fin 2) = 0 ∧ win0_6.index t (1 : Fin 2) = t.val / 17 :=
  (by decide +kernel : ∀ t : Fin grid0.N, win0_6.index t (0 : Fin 2) = 0 ∧ win0_6.index t (1 : Fin 2) = t.val / 17) t
theorem at7 : win0_7.index t (0 : Fin 2) = 0 ∧ win0_7.index t (1 : Fin 2) = t.val / 17 :=
  (by decide +kernel : ∀ t : Fin grid0.N, win0_7.index t (0 : Fin 2) = 0 ∧ win0_7.index t (1 : Fin 2) = t.val / 17) t

theorem pt_lt : t.val / 17 < 8 := by have := points t; omega

theorem iblk0 (r : Fin 2176) (l : Fin 128) :
    (iblk m c 0 t : Vec Ideal S2176x128 .bf16) (ix2 r l) = V m c main_arg0 (ix2 r ⟨128 * (t.val / 17) + l.val, by have := pt_lt t; omega⟩) := by
  obtain ⟨e0, e1⟩ := at0 t
  refine congrArg (V m c main_arg0) ?_
  funext a; apply Fin.ext
  match a with
  | ⟨0, _⟩ => show win0_0.index t (0 : Fin 2) * 2176 + 1 * r.val = r.val; rw [e0]; omega
  | ⟨1, _⟩ => show win0_0.index t (1 : Fin 2) * 128 + 1 * l.val = 128 * (t.val / 17) + l.val; rw [e1]; omega

theorem iblk1 (x l : Fin 128) :
    (iblk m c 1 t : Vec Ideal S128x128 .bf16) (ix2 x l) = V m c main_arg1 (ix2 ⟨128 * (t.val % 17) + x.val, by omega⟩ ⟨128 * (t.val / 17) + l.val, by have := pt_lt t; omega⟩) := by
  obtain ⟨e0, e1⟩ := at1 t
  refine congrArg (V m c main_arg1) ?_
  funext a; apply Fin.ext
  match a with
  | ⟨0, _⟩ => show win0_1.index t (0 : Fin 2) * 128 + 1 * x.val = 128 * (t.val % 17) + x.val; rw [e0]; omega
  | ⟨1, _⟩ => show win0_1.index t (1 : Fin 2) * 128 + 1 * l.val = 128 * (t.val / 17) + l.val; rw [e1]; omega

theorem iblk2 (x l : Fin 128) :
    (iblk m c 2 t : Vec Ideal S128x128 .bf16) (ix2 x l) = V m c main_arg2 (ix2 ⟨128 * (t.val % 17) + x.val, by omega⟩ ⟨128 * (t.val / 17) + l.val, by have := pt_lt t; omega⟩) := by
  obtain ⟨e0, e1⟩ := at2 t
  refine congrArg (V m c main_arg2) ?_
  funext a; apply Fin.ext
  match a with
  | ⟨0, _⟩ => show win0_2.index t (0 : Fin 2) * 128 + 1 * x.val = 128 * (t.val % 17) + x.val; rw [e0]; omega
  | ⟨1, _⟩ => show win0_2.index t (1 : Fin 2) * 128 + 1 * l.val = 128 * (t.val / 17) + l.val; rw [e1]; omega

theorem iblk3 (r : Fin 2176) (l : Fin 128) :
    (iblk m c 3 t : Vec Ideal S2176x128 .f32) (ix2 r l) = V m c main_arg3 (ix2 r l) := by
  obtain ⟨e0, e1⟩ := at3 t
  refine congrArg (V m c main_arg3) ?_
  funext a; apply Fin.ext
  match a with
  | ⟨0, _⟩ => show win0_3.index t (0 : Fin 2) * 2176 + 1 * r.val = r.val; rw [e0]; omega
  | ⟨1, _⟩ => show win0_3.index t (1 : Fin 2) * 128 + 1 * l.val = l.val; rw [e1]; omega

theorem iblk4 (h : Fin 16) (x : Fin 128) :
    (iblk m c 4 t : Vec Ideal S16x128 .f32) (ix2 h x) = V m c main_arg4 (ix2 ⟨16 * (t.val / 17) + h.val, by have := pt_lt t; omega⟩ ⟨128 * (t.val % 17) + x.val, by omega⟩) := by
  obtain ⟨e0, e1⟩ := at4 t
  refine congrArg (V m c main_arg4) ?_
  funext a; apply Fin.ext
  match a with
  | ⟨0, _⟩ => show win0_4.index t (0 : Fin 2) * 16 + 1 * h.val = 16 * (t.val / 17) + h.val; rw [e0]; omega
  | ⟨1, _⟩ => show win0_4.index t (1 : Fin 2) * 128 + 1 * x.val = 128 * (t.val % 17) + x.val; rw [e1]; omega

theorem iblk5 (r : Fin 2176) (l : Fin 128) :
    (iblk m c 5 t : Vec Ideal S2176x128 .f32) (ix2 r l) = V m c main_v50 (ix2 r ⟨128 * (t.val / 17) + l.val, by have := pt_lt t; omega⟩) := by
  obtain ⟨e0, e1⟩ := at5 t
  refine congrArg (V m c main_v50) ?_
  funext a; apply Fin.ext
  match a with
  | ⟨0, _⟩ => show win0_5.index t (0 : Fin 2) * 2176 + 1 * r.val = r.val; rw [e0]; omega
  | ⟨1, _⟩ => show win0_5.index t (1 : Fin 2) * 128 + 1 * l.val = 128 * (t.val / 17) + l.val; rw [e1]; omega

theorem iblk6 (r : Fin 2176) (l : Fin 128) :
    (iblk m c 6 t : Vec Ideal S2176x128 .f32) (ix2 r l) = V m c main_v52 (ix2 r ⟨128 * (t.val / 17) + l.val, by have := pt_lt t; omega⟩) := by
  obtain ⟨e0, e1⟩ := at6 t
  refine congrArg (V m c main_v52) ?_
  funext a; apply Fin.ext
  match a with
  | ⟨0, _⟩ => show win0_6.index t (0 : Fin 2) * 2176 + 1 * r.val = r.val; rw [e0]; omega
  | ⟨1, _⟩ => show win0_6.index t (1 : Fin 2) * 128 + 1 * l.val = 128 * (t.val / 17) + l.val; rw [e1]; omega

theorem iblk7 (r : Fin 2176) (l : Fin 128) :
    (iblk m c 7 t : Vec Ideal S2176x128 .f32) (ix2 r l) = V m c main_arg5 (ix2 r ⟨128 * (t.val / 17) + l.val, by have := pt_lt t; omega⟩) := by
  obtain ⟨e0, e1⟩ := at7 t
  refine congrArg (V m c main_arg5) ?_
  funext a; apply Fin.ext
  match a with
  | ⟨0, _⟩ => show win0_7.index t (0 : Fin 2) * 2176 + 1 * r.val = r.val; rw [e0]; omega
  | ⟨1, _⟩ => show win0_7.index t (1 : Fin 2) * 128 + 1 * l.val = 128 * (t.val / 17) + l.val; rw [e1]; omega

/-- Core `c`'s arguments are the real arrays of `A`. -/
abbrev ArgsAt (A : Whole) : Prop :=
  Args A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `t`'s blocks are those of pair `t / 17` and key block `t % 17`. -/
theorem blk_at {A : Whole} (H : ArgsAt m c A) :
    Blk (A.pair (t.val / 17)) (t.val / 17) (t.val % 17) (iblk m c 0 t) (iblk m c 1 t) (iblk m c 2 t) (iblk m c 3 t) (iblk m c 4 t) (iblk m c 5 t)
      (iblk m c 6 t) (iblk m c 7 t) where
  q r l := by rw [iblk0, V_main_arg0]; exact H.q _ _
  k x l := by rw [iblk1, V_main_arg1]; exact H.k _ _
  v x l := by rw [iblk2, V_main_arg2]; exact H.v _ _
  cq r h hh h2 := by rw [iblk3, V_main_arg3]; exact H.c _ _
  ck h hh x h2 := by rw [iblk4, V_main_arg4]; exact H.ct _ _
  o r l := by rw [iblk5, V_out]; exact H.out _ _
  lse r h hh := by
    rw [iblk6, V_log]
    refine (H.log _ _).trans ?_
    show ((Real.log (A.Z ((128 * (t.val / 17) + 64 * h) / 64) r.val) : ℝ) : EReal) = ((Real.log (A.Z (2 * (t.val / 17) + h) r.val) : ℝ) : EReal)
    rw [show (128 * (t.val / 17) + 64 * h) / 64 = 2 * (t.val / 17) + h by omega]
  d r l := by rw [iblk7, V_main_arg5]; exact H.d _ _

end Cert.KernelIdeal.Fox

end
-- ==== Proof.Finite.lean ====
module

public import proofs.«01_k».proof.Defs
public import proofs.«01_k».proof.Proof.Input
public import Idealize.ShloMosaic.Lib.ReduceAll

@[expose] public section

/-! The precondition says that every element of the arguments is a real number. -/

set_option maxRecDepth 16384

noncomputable section

namespace Cert.Pre_finite

open Idealize.ShloMosaic

theorem facts : Facts where
  bitsLt_bf16_f32 := by decide
  bcast_S_S2176x1024 := by decide
  reducesTo_S2176x1024_S_d0_1 := by decide
  h_S_ := by decide
  bcast_S_S2176x128 := by decide
  reducesTo_S2176x128_S_d0_1 := by decide
  bcast_S_S128x2176 := by decide
  reducesTo_S128x2176_S_d0_1 := by decide

/-- The word of `+∞`. -/
theorem inf_word : Ideal.ofBits .f32 2139095040#32 = (⊤ : EReal) := by simp [Ideal.ofBits, Ideal.ieee]

/-- A number whose absolute value is below `+∞` is real. -/
theorem real_of_lt {x : EReal} (h : max x (-x) < ⊤) : x ≠ ⊤ ∧ x ≠ ⊥ := by
  refine ⟨fun e => ?_, fun e => ?_⟩
  · rw [e] at h; simp at h
  · rw [e] at h; simp at h

/-- An array all of whose elements compare below `+∞` in absolute value is real. -/
theorem real_of_all {s : Shape} {axes : List (Fin s.rank)} (x : FVec Ideal s .f32) (hb : S_.BroadcastsInDim s (![] : Fin 0 → Fin s.rank))
    (hr : s.ReducesTo axes S_) (hs : 0 < S_.numel) (j : S_.Idx)
    (e : Host.reduce IntOp.andi (cmpf .olt (Host.absf x) (broadcastInDim s ![] hb (constant S_ .f32 0x7F800000#32))) (constantI S_ 1 1#1) hr hs j = 1#1)
    (i : s.Idx) : x i ≠ ⊤ ∧ x i ≠ ⊥ := by
  have h := Host.reduce_andi_all _ _ hr hs j e i
  have h' : Ideal.cmp .olt (max (x i) (-(x i))) (Ideal.ofBits .f32 2139095040#32) = 1 := h
  rw [inf_word] at h'
  refine real_of_lt ?_
  by_contra hn
  have e : Ideal.cmp .olt (max (x i) (-(x i))) ⊤ = BitVec.ofBool (decide (max (x i) (-(x i)) < ⊤)) := rfl
  rw [e, decide_eq_false hn] at h'
  exact absurd h' (by decide)

/-- What the precondition says of one device's arguments. -/
theorem real_of_fn [Facts] (x0 x1 x2 : FVec Ideal S2176x1024 .bf16) (x3 : FVec Ideal S2176x128 .f32) (x4 : FVec Ideal S128x2176 .f32)
    (x5 : FVec Ideal S2176x1024 .f32) (h : fn (F := Ideal) x0 x1 x2 x3 x4 x5 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) ∧ (∀ i, x5 i ≠ ⊤ ∧ x5 i ≠ ⊥) := by
  have j : S_.Idx := Shape.Idx.first Facts.h_S_
  have e := congrFun h j
  unfold fn fn_part1 at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_all (s := S2176x1024) (extf .f32 x0 Facts.bitsLt_bf16_f32) _ _ _ j e0, real_of_all (s := S2176x1024) (extf .f32 x1 Facts.bitsLt_bf16_f32) _ _ _ j e1,
    real_of_all (s := S2176x1024) (extf .f32 x2 Facts.bitsLt_bf16_f32) _ _ _ j e2,
    real_of_all x3 _ _ _ j e3, real_of_all x4 _ _ _ j e4, real_of_all x5 _ _ _ j e5⟩

end Cert.Pre_finite

namespace Cert.KernelIdeal.Fox

open Idealize.ShloMosaic Idealize.SL.Sem Cert.KernelIdeal Cert.KernelIdeal.Gen Idealize.ShloMosaic.TcCoe Cert.Fox

/-- A matrix read as a table of real numbers, zero outside it. -/
def table {n k : ℕ} (x : (⟨2, ![n, k]⟩ : Shape).Idx → EReal) (r l : ℕ) : ℝ :=
  if h : r < n ∧ l < k then (x (ix2 ⟨r, h.1⟩ ⟨l, h.2⟩)).toReal else 0

theorem table_at {n k : ℕ} {x : (⟨2, ![n, k]⟩ : Shape).Idx → EReal} (h : ∀ i, x i ≠ ⊤ ∧ x i ≠ ⊥) (r : Fin n) (l : Fin k) :
    x (ix2 r l) = ((table x r.val l.val : ℝ) : EReal) := by
  unfold table
  rw [dif_pos ⟨r.isLt, l.isLt⟩]
  exact (EReal.coe_toReal (h _).1 (h _).2).symm

variable (m : (ℓ : Loc nD τ sig) → Buf (Elt Ideal) ℓ) (c : Dev nD)

/-- The real arrays a device's arguments hold. -/
def reals : Whole where
  q := table (n := 2176) (k := 1024) (m ((c.tc : Thread nD τ).loc main_arg0))
  k := table (n := 2176) (k := 1024) (m ((c.tc : Thread nD τ).loc main_arg1))
  v := table (n := 2176) (k := 1024) (m ((c.tc : Thread nD τ).loc main_arg2))
  c := table (n := 2176) (k := 128) (m ((c.tc : Thread nD τ).loc main_arg3))
  ct := table (n := 128) (k := 2176) (m ((c.tc : Thread nD τ).loc main_arg4))
  d := table (n := 2176) (k := 1024) (m ((c.tc : Thread nD τ).loc main_arg5))

theorem args_reals [Cert.Pre_finite.Facts] (H : Cert.Pre_KernelIdeal_finite m) : ArgsAt m c (reals m c) := by
  obtain ⟨h0, h1, h2, h3, h4, h5⟩ := Cert.Pre_finite.real_of_fn _ _ _ _ _ _ (H c)
  exact ⟨table_at h0, table_at h1, table_at h2, table_at h3, table_at h4, table_at h5⟩

end Cert.KernelIdeal.Fox

end
-- ==== Proof.Lists.lean ====
module

public import proofs.«01_k».proof.Proof.Result

@[expose] public section

/-! What the stored lists of a grid point's body hold, read back: the spread scratch arrays, the key side's rows, the
    query side's sums and the zero blocks. -/

set_option maxRecDepth 16384

noncomputable section

namespace Cert.KernelIdeal.Fox

open Idealize.ShloMosaic Idealize.SL.Sem Cert.KernelIdeal.Gen Idealize.ShloMosaic.TcCoe

/-- One half slab stored over a list. -/
theorem read_half {sig' : RefSig} {κ : Kind} {sp : Space} (V : View sig' κ sp S4x1088x128 .f32) (f : BufTy.Contents (Elt Ideal) V.ty) (o p : ℕ)
    (inb : ∀ a, (![o, p, 0] : Fin 3 → ℕ) a + (![1, 544, 128] : Fin 3 → ℕ) a ≤ S4x1088x128.size a) (w : Vec Ideal S1x544x128 .f32)
    (L : List (View.Piece (Elt Ideal) S4x1088x128 .f32)) (t : Fin 4) (a : Fin 1088) (x : Fin 128) :
    V.read (Elt Ideal) (V.writes (Elt Ideal) f (⟨Rect.unit ![o, p, 0] ![1, 544, 128] inb, w⟩ :: L)) (ix3 t a x)
      = if h : t.val = o ∧ p ≤ a.val ∧ a.val < p + 544 then w (ix3 0 ⟨a.val - p, by omega⟩ x)
        else V.read (Elt Ideal) (V.writes (Elt Ideal) f L) (ix3 t a x) := by
  by_cases h : t.val = o ∧ p ≤ a.val ∧ a.val < p + 544
  · rw [dif_pos h]
    refine View.read_writes_cons_unit_of_mem V f inb w L _ (ix3 0 ⟨a.val - p, by omega⟩ x) rfl ?_
    intro y
    fin_cases y
    · exact h.1
    · show a.val = p + (a.val - p); omega
    · exact (Nat.zero_add _).symm
  · rw [dif_neg h]
    by_cases h0 : t.val = o
    · refine View.read_writes_cons_unit_of_not_mem V f inb w L _ rfl 1 ?_
      show a.val < p ∨ p + 544 ≤ a.val
      omega
    · refine View.read_writes_cons_unit_of_not_mem V f inb w L _ rfl 0 ?_
      show t.val < o ∨ o + 1 ≤ t.val
      omega

/-- One block of rows stored over a list. -/
theorem read_rows {sig' : RefSig} {κ : Kind} {sp : Space} (V : View sig' κ sp S2176x128 .f32) (f : BufTy.Contents (Elt Ideal) V.ty) (o : ℕ)
    (inb : ∀ a, (![o, 0] : Fin 2 → ℕ) a + (![544, 128] : Fin 2 → ℕ) a ≤ S2176x128.size a) (w : Vec Ideal S544x128 .f32)
    (L : List (View.Piece (Elt Ideal) S2176x128 .f32)) (r : Fin 2176) (l : Fin 128) :
    V.read (Elt Ideal) (V.writes (Elt Ideal) f (⟨Rect.unit ![o, 0] ![544, 128] inb, w⟩ :: L)) (ix2 r l)
      = if h : o ≤ r.val ∧ r.val < o + 544 then w (ix2 ⟨r.val - o, by omega⟩ l)
        else V.read (Elt Ideal) (V.writes (Elt Ideal) f L) (ix2 r l) := by
  by_cases h : o ≤ r.val ∧ r.val < o + 544
  · rw [dif_pos h]
    refine View.read_writes_cons_unit_of_mem V f inb w L _ (ix2 ⟨r.val - o, by omega⟩ l) rfl ?_
    intro y
    fin_cases y
    · show r.val = o + (r.val - o); omega
    · exact (Nat.zero_add _).symm
  · rw [dif_neg h]
    refine View.read_writes_cons_unit_of_not_mem V f inb w L _ rfl 0 ?_
    show r.val < o ∨ o + 544 ≤ r.val
    omega

/-- A block of rows loaded. -/
theorem ld_at (X : Vec Ideal S2176x128 .f32) (o : ℕ) (inb : ∀ a, (![o, 0] : Fin 2 → ℕ) a + (![544, 128] : Fin 2 → ℕ) a ≤ S2176x128.size a)
    (r : Fin 544) (l : Fin 128) (h : o + r.val < 2176) :
    View.ld X (Rect.unit ![o, 0] ![544, 128] inb) (ix2 r l) = X (ix2 ⟨o + r.val, h⟩ l) := by
  refine congrArg X (funext fun a => Fin.ext ?_)
  refine (Rect.idx_unit_val _ _ _ _ _).trans ?_
  fin_cases a
  · rfl
  · exact Nat.zero_add _

/-- A half slab loaded. -/
theorem ld_half (X : Vec Ideal S4x1088x128 .f32) (o p : ℕ) (inb : ∀ a, (![o, p, 0] : Fin 3 → ℕ) a + (![1, 544, 128] : Fin 3 → ℕ) a ≤ S4x1088x128.size a)
    (r : Fin 544) (l : Fin 128) (ho : o < 4) (h : p + r.val < 1088) :
    View.ld X (Rect.unit ![o, p, 0] ![1, 544, 128] inb) (ix3 0 r l) = X (ix3 ⟨o, ho⟩ ⟨p + r.val, h⟩ l) := by
  refine congrArg X (funext fun a => Fin.ext ?_)
  refine (Rect.idx_unit_val _ _ _ _ _).trans ?_
  fin_cases a
  · rfl
  · rfl
  · exact Nat.zero_add _

/-- A half slab that holds `g` at head `h` on the rows from `n`. -/
def HalfIs (g : ℕ → ℕ → ℝ) (h n : ℕ) (w : Vec Ideal S1x544x128 .f32) : Prop :=
  ∀ (r : Fin 544) (x : Fin 128), w (ix3 0 r x) = ((g h (n + r.val) : ℝ) : EReal)

/-- Eight half slabs fill the array. -/
theorem read_slabs {sig' : RefSig} {κ : Kind} {sp : Space} (V : View sig' κ sp S4x1088x128 .f32) (f : BufTy.Contents (Elt Ideal) V.ty)
    (g : ℕ → ℕ → ℝ) (w31 w30 w21 w20 w11 w10 w01 w00 : Vec Ideal S1x544x128 .f32)
    (h31 : HalfIs g 1 1632 w31) (h30 : HalfIs g 0 1632 w30) (h21 : HalfIs g 1 1088 w21) (h20 : HalfIs g 0 1088 w20)
    (h11 : HalfIs g 1 544 w11) (h10 : HalfIs g 0 544 w10) (h01 : HalfIs g 1 0 w01) (h00 : HalfIs g 0 0 w00)
    (t : Fin 4) (a : Fin 1088) (x : Fin 128) :
    V.read (Elt Ideal) (V.writes (Elt Ideal) f
      [⟨Rect.unit ![3, 544, 0] ![1, 544, 128] inb_S4x1088x128_S1x544x128_3_544_0, w31⟩, ⟨Rect.unit ![3, 0, 0] ![1, 544, 128] inb_S4x1088x128_S1x544x128_3_0_0, w30⟩,
       ⟨Rect.unit ![2, 544, 0] ![1, 544, 128] inb_S4x1088x128_S1x544x128_2_544_0, w21⟩, ⟨Rect.unit ![2, 0, 0] ![1, 544, 128] inb_S4x1088x128_S1x544x128_2_0_0, w20⟩,
       ⟨Rect.unit ![1, 544, 0] ![1, 544, 128] inb_S4x1088x128_S1x544x128_1_544_0, w11⟩, ⟨Rect.unit ![1, 0, 0] ![1, 544, 128] inb_S4x1088x128_S1x544x128_1_0_0, w10⟩,
       ⟨Rect.unit ![0, 544, 0] ![1, 544, 128] inb_S4x1088x128_S1x544x128_0_544_0, w01⟩, ⟨Rect.unit ![0, 0, 0] ![1, 544, 128] inb_S4x1088x128_S1x544x128_0_0_0, w00⟩]) (ix3 t a x)
      = ((g (a.val / 544) (544 * t.val + a.val % 544) : ℝ) : EReal) := by
  have ht := t.isLt
  have ha := a.isLt
  have key : ∀ (h n : ℕ) (w : Vec Ideal S1x544x128 .f32) (r : Fin 544), HalfIs g h n w → a.val / 544 = h → 544 * t.val + a.val % 544 = n + r.val →
      w (ix3 0 r x) = ((g (a.val / 544) (544 * t.val + a.val % 544) : ℝ) : EReal) := by
    intro h n w r hw e1 e2
    rw [hw r x, e1, e2]
  refine (read_half V f 3 544 _ _ _ t a x).trans ?_
  split
  · rename_i h; exact key 1 1632 _ _ h31 (by omega) (by show _ = 1632 + (a.val - 544); omega)
  refine (read_half V f 3 0 _ _ _ t a x).trans ?_
  split
  · rename_i h; exact key 0 1632 _ _ h30 (by omega) (by show _ = 1632 + (a.val - 0); omega)
  refine (read_half V f 2 544 _ _ _ t a x).trans ?_
  split
  · rename_i h; exact key 1 1088 _ _ h21 (by omega) (by show _ = 1088 + (a.val - 544); omega)
  refine (read_half V f 2 0 _ _ _ t a x).trans ?_
  split
  · rename_i h; exact key 0 1088 _ _ h20 (by omega) (by show _ = 1088 + (a.val - 0); omega)
  refine (read_half V f 1 544 _ _ _ t a x).trans ?_
  split
  · rename_i h; exact key 1 544 _ _ h11 (by omega) (by show _ = 544 + (a.val - 544); omega)
  refine (read_half V f 1 0 _ _ _ t a x).trans ?_
  split
  · rename_i h; exact key 0 544 _ _ h10 (by omega) (by show _ = 544 + (a.val - 0); omega)
  refine (read_half V f 0 544 _ _ _ t a x).trans ?_
  split
  · rename_i h; exact key 1 0 _ _ h01 (by omega) (by show _ = 0 + (a.val - 544); omega)
  refine (read_half V f 0 0 _ _ _ t a x).trans ?_
  split
  · rename_i h; exact key 0 0 _ _ h00 (by omega) (by show _ = 0 + (a.val - 0); omega)
  · exfalso; omega

section
variable {sig' : RefSig} {κ : Kind} {sp : Space} (V : View sig' κ sp S4x1088x128 .f32) (f : BufTy.Contents (Elt Ideal) V.ty)
  {B : Pair} {i : grid0.Coords} {j : ℕ} {x0 : Vec Ideal S2176x128 .bf16} {x1 x2 : Vec Ideal S128x128 .bf16} {x3 : Vec Ideal S2176x128 .f32}
  {x4 : Vec Ideal S16x128 .f32} {x5 x6 x7 : Vec Ideal S2176x128 .f32} (H : Blk B (i 0).val j x0 x1 x2 x3 x4 x5 x6 x7)
include H

theorem read_cqL (t : Fin 4) (a : Fin 1088) (x : Fin 128) :
    V.read (Elt Ideal) (V.writes (Elt Ideal) f (cqL i x3)) (ix3 t a x) = ((B.cq (a.val / 544) (544 * t.val + a.val % 544) : ℝ) : EReal) := by
  have hp : (i 0).val < 8 := (i 0).isLt
  have k0 : ∀ (o : ℕ) inb, o + 544 ≤ 2176 → HalfIs B.cq 0 o (k0_pay9 (BitVec.ofNat 32 (i 0).val) lanes (View.ld x3 (Rect.unit ![o, 0] ![544, 128] inb))) := by
    intro o inb ho r x
    refine (pay9_apply _ hp _ r x).trans ?_
    have := r.isLt
    exact (ld_at x3 o inb r _ (by omega)).trans (H.cq _ 0 _ (by omega))
  have k1 : ∀ (o : ℕ) inb, o + 544 ≤ 2176 → HalfIs B.cq 1 o (k0_pay12 lanes (View.ld x3 (Rect.unit ![o, 0] ![544, 128] inb)) (Scalar.muli (BitVec.ofNat 32 (i 0).val) 16#32) 1#32) := by
    intro o inb ho r x
    refine (pay12_apply _ hp _ r x).trans ?_
    have := r.isLt
    exact (ld_at x3 o inb r _ (by omega)).trans (H.cq _ 1 _ (by omega))
  exact read_slabs V f B.cq _ _ _ _ _ _ _ _ (k1 1632 _ (by omega)) (k0 1632 _ (by omega)) (k1 1088 _ (by omega)) (k0 1088 _ (by omega))
    (k1 544 _ (by omega)) (k0 544 _ (by omega)) (k1 0 _ (by omega)) (k0 0 _ (by omega)) t a x

theorem read_lseL (t : Fin 4) (a : Fin 1088) (x : Fin 128) :
    V.read (Elt Ideal) (V.writes (Elt Ideal) f (lseL x6)) (ix3 t a x) = ((B.lse (a.val / 544) (544 * t.val + a.val % 544) : ℝ) : EReal) := by
  have k0 : ∀ (o : ℕ) inb, o + 544 ≤ 2176 → HalfIs B.lse 0 o (k0_pay8 (k0_pay7 lanes (View.ld x6 (Rect.unit ![o, 0] ![544, 128] inb)))) := by
    intro o inb ho r x
    refine (pay8_apply _ r x).trans ?_
    have := r.isLt
    exact (ld_at x6 o inb r _ (by omega)).trans (H.lse _ 0 (by omega))
  have k1 : ∀ (o : ℕ) inb, o + 544 ≤ 2176 → HalfIs B.lse 1 o (k0_pay11 lanes (k0_pay5 (View.ld x6 (Rect.unit ![o, 0] ![544, 128] inb)))) := by
    intro o inb ho r x
    refine (pay11_apply _ r x).trans ?_
    have := r.isLt
    exact (ld_at x6 o inb r _ (by omega)).trans (H.lse _ 1 (by omega))
  exact read_slabs V f B.lse _ _ _ _ _ _ _ _ (k1 1632 _ (by omega)) (k0 1632 _ (by omega)) (k1 1088 _ (by omega)) (k0 1088 _ (by omega))
    (k1 544 _ (by omega)) (k0 544 _ (by omega)) (k1 0 _ (by omega)) (k0 0 _ (by omega)) t a x

theorem read_dsumL (t : Fin 4) (a : Fin 1088) (x : Fin 128) :
    V.read (Elt Ideal) (V.writes (Elt Ideal) f (dsumL x7 x5)) (ix3 t a x) = ((B.dsum (a.val / 544) (544 * t.val + a.val % 544) : ℝ) : EReal) := by
  have k0 : ∀ (o : ℕ) inb inb', o + 544 ≤ 2176 → HalfIs B.dsum 0 o (k0_pay6 k0_pay58 (View.ld x7 (Rect.unit ![o, 0] ![544, 128] inb)) (View.ld x5 (Rect.unit ![o, 0] ![544, 128] inb'))) := by
    intro o inb inb' ho r x
    refine pay6_apply _ _ (fun r l => B.d (o + r) l) (fun r l => B.o (o + r) l) ?_ ?_ r x
    · intro r l; have := r.isLt; exact (ld_at x7 o inb r l (by omega)).trans (H.d _ _)
    · intro r l; have := r.isLt; exact (ld_at x5 o inb' r l (by omega)).trans (H.o _ _)
  have k1 : ∀ (o : ℕ) inb inb', o + 544 ≤ 2176 → HalfIs B.dsum 1 o (k0_pay10 k0_pay59 (k0_pay4 (View.ld x7 (Rect.unit ![o, 0] ![544, 128] inb)) (View.ld x5 (Rect.unit ![o, 0] ![544, 128] inb')))) := by
    intro o inb inb' ho r x
    refine pay10_apply _ _ (fun r l => B.d (o + r) l) (fun r l => B.o (o + r) l) ?_ ?_ r x
    · intro r l; have := r.isLt; exact (ld_at x7 o inb r l (by omega)).trans (H.d _ _)
    · intro r l; have := r.isLt; exact (ld_at x5 o inb' r l (by omega)).trans (H.o _ _)
  exact read_slabs V f B.dsum _ _ _ _ _ _ _ _ (k1 1632 _ _ (by omega)) (k0 1632 _ _ (by omega)) (k1 1088 _ _ (by omega)) (k0 1088 _ _ (by omega))
    (k1 544 _ _ (by omega)) (k0 544 _ _ (by omega)) (k1 0 _ _ (by omega)) (k0 0 _ _ (by omega)) t a x
end

section
variable {sig' : RefSig} {κ : Kind} {sp : Space}

theorem read_zeroQ (V : View sig' κ sp S2176x128 .f32) (f : BufTy.Contents (Elt Ideal) V.ty) (r : Fin 2176) (l : Fin 128) :
    V.read (Elt Ideal) (V.writes (Elt Ideal) f zeroQ) (ix2 r l) = ((0 : ℝ) : EReal) := by
  unfold zeroQ
  refine (View.read_writes_cons_unit_of_mem V f _ _ [] _ (ix2 r l) rfl ?_).trans (pay2_apply r l)
  intro y; fin_cases y <;> exact (Nat.zero_add _).symm

theorem read_zeroS (V : View sig' κ sp S4x1088x128 .f32) (f : BufTy.Contents (Elt Ideal) V.ty) (t : Fin 4) (a : Fin 1088) (x : Fin 128) :
    V.read (Elt Ideal) (V.writes (Elt Ideal) f zeroS) (ix3 t a x) = ((0 : ℝ) : EReal) := by
  unfold zeroS
  refine (View.read_writes_cons_unit_of_mem V f _ _ [] _ (ix3 t a x) rfl ?_).trans (pay3_apply t a x)
  intro y; fin_cases y <;> exact (Nat.zero_add _).symm

theorem read_one (V : View sig' κ sp S128x128 .f32) (f : BufTy.Contents (Elt Ideal) V.ty) (w : Vec Ideal S128x128 .f32) (x l : Fin 128) :
    V.read (Elt Ideal) (V.writes (Elt Ideal) f [⟨Rect.unit ![0, 0] ![128, 128] inb_S128x128_S128x128_0_0, w⟩]) (ix2 x l) = w (ix2 x l) := by
  refine View.read_writes_cons_unit_of_mem V f _ _ [] _ (ix2 x l) rfl ?_
  intro y; fin_cases y <;> exact (Nat.zero_add _).symm

/-- The key side's sums read back: row 0 and row 1, zero below. -/
theorem read_dctL (V : View sig' κ sp S16x128 .f32) (f : BufTy.Contents (Elt Ideal) V.ty) (a b : FVec Ideal S1x128 .f32) (g : ℕ → ℕ → ℝ) (n : ℕ)
    (ha : ∀ x : Fin 128, a (ix2 0 x) = ((g 0 (n + x.val) : ℝ) : EReal)) (hb : ∀ x : Fin 128, b (ix2 0 x) = ((g 1 (n + x.val) : ℝ) : EReal))
    (h : Fin 16) (x : Fin 128) :
    V.read (Elt Ideal) (V.writes (Elt Ideal) f (dctL a b)) (ix2 h x) = (((if h.val < 2 then g h.val (n + x.val) else 0 : ℝ)) : EReal) := by
  unfold dctL
  by_cases h1 : h.val = 1
  · refine (View.read_writes_cons_unit_of_mem V f _ _ _ _ (ix2 0 x) rfl ?_).trans ?_
    · intro y; fin_cases y
      · exact h1
      · exact (Nat.zero_add _).symm
    · rw [hb x, if_pos (by omega), h1]
  refine (View.read_writes_cons_unit_of_not_mem V f _ _ _ _ rfl 0 (by show h.val < 1 ∨ 1 + 1 ≤ h.val; omega)).trans ?_
  by_cases h0 : h.val = 0
  · refine (View.read_writes_cons_unit_of_mem V f _ _ _ _ (ix2 0 x) rfl ?_).trans ?_
    · intro y; fin_cases y
      · exact h0
      · exact (Nat.zero_add _).symm
    · rw [ha x, if_pos (by omega), h0]
  refine (View.read_writes_cons_unit_of_not_mem V f _ _ _ _ rfl 0 (by show h.val < 0 ∨ 0 + 1 ≤ h.val; omega)).trans ?_
  rw [if_neg (by omega)]
  refine (View.read_writes_cons_unit_of_mem V f _ _ [] _ (ix2 h x) rfl ?_).trans (pay86_apply h x)
  intro y; fin_cases y <;> exact (Nat.zero_add _).symm

/-- What the query side's sums add at row `r`, lane `l`. -/
def Pair.dcqAdd (B : Pair) (p r l : ℕ) : ℝ :=
  (if l = 16 * p then ∑ x : Fin 128, B.sAcc 17 (r / 544) (r % 544) x.val else 0)
    + (if l = 16 * p + 1 then ∑ x : Fin 128, B.sAcc 17 (r / 544) (544 + r % 544) x.val else 0)

/-- The query side's sums read back. -/
theorem read_dcqL (V : View sig' κ sp S2176x128 .f32) (f : BufTy.Contents (Elt Ideal) V.ty) (i : grid0.Coords) (B : Pair)
    (s : Vec Ideal S4x1088x128 .f32) (z : Vec Ideal S2176x128 .f32) (Z : ℕ → ℕ → ℝ)
    (hs : ∀ (t : Fin 4) (a : Fin 1088) (x : Fin 128), s (ix3 t a x) = ((B.sAcc 17 t.val a.val x.val : ℝ) : EReal))
    (hz : ∀ (r : Fin 2176) (l : Fin 128), z (ix2 r l) = ((Z r.val l.val : ℝ) : EReal)) (r : Fin 2176) (l : Fin 128) :
    V.read (Elt Ideal) (V.writes (Elt Ideal) f (dcqL i s z)) (ix2 r l) = ((Z r.val l.val + B.dcqAdd (i 0).val r.val l.val : ℝ) : EReal) := by
  have hp : (i 0).val < 8 := (i 0).isLt
  have hr := r.isLt
  have key : ∀ (t : ℕ) (ht : t < 4) inb0 inb1 inb (y : Fin 544), r.val = 544 * t + y.val →
      k0_pay48 (F := Ideal) (BitVec.ofNat 32 (i 0).val) lanes (View.ld s (Rect.unit ![t, 0, 0] ![1, 544, 128] inb0))
        (View.ld s (Rect.unit ![t, 544, 0] ![1, 544, 128] inb1)) (View.ld z (Rect.unit ![544 * t, 0] ![544, 128] inb)) (ix2 y l)
        = ((Z r.val l.val + B.dcqAdd (i 0).val r.val l.val : ℝ) : EReal) := by
    intro t ht inb0 inb1 inb y e
    have hy := y.isLt
    refine (pay48_apply (i 0).val hp _ _ _ y l (Z r.val l.val) (fun x => B.sAcc 17 t y.val x) (fun x => B.sAcc 17 t (544 + y.val) x) ?_ ?_ ?_).trans ?_
    · refine (ld_at z (544 * t) inb y l (by omega)).trans ((hz _ _).trans ?_)
      show ((Z (544 * t + y.val) l.val : ℝ) : EReal) = _
      rw [e]
    · intro x
      refine (ld_half s t 0 inb0 y x ht (by omega)).trans ((hs _ _ _).trans ?_)
      show ((B.sAcc 17 t (0 + y.val) x.val : ℝ) : EReal) = _
      rw [Nat.zero_add]
    · intro x
      exact (ld_half s t 544 inb1 y x ht (by omega)).trans (hs _ _ _)
    · unfold Pair.dcqAdd
      rw [show r.val / 544 = t by omega, show r.val % 544 = y.val by omega]
  unfold dcqL
  refine (read_rows V f 1632 _ _ _ r l).trans ?_
  split
  · rename_i h; exact key 3 (by omega) _ _ _ ⟨r.val - 1632, by omega⟩ (by show r.val = 544 * 3 + (r.val - 1632); omega)
  refine (read_rows V f 1088 _ _ _ r l).trans ?_
  split
  · rename_i h; exact key 2 (by omega) _ _ _ ⟨r.val - 1088, by omega⟩ (by show r.val = 544 * 2 + (r.val - 1088); omega)
  refine (read_rows V f 544 _ _ _ r l).trans ?_
  split
  · rename_i h; exact key 1 (by omega) _ _ _ ⟨r.val - 544, by omega⟩ (by show r.val = 544 * 1 + (r.val - 544); omega)
  refine (read_rows V f 0 _ _ _ r l).trans ?_
  split
  · rename_i h; exact key 0 (by omega) _ _ _ ⟨r.val - 0, by omega⟩ (by show r.val = 544 * 0 + (r.val - 0); omega)
  · exfalso; omega
end

end Cert.KernelIdeal.Fox
-- ==== Proof.OpenA.lean ====
module

public import proofs.«01_k».proof.Proof.Gen.KernelIdeal.Frame.RunA
public import proofs.«01_k».proof.Proof.Open

@[expose] public section

/-! What the kernel's body stores at a grid point, in case A. -/

set_option maxRecDepth 16384

noncomputable section

namespace Cert.KernelIdeal.Fox

open Idealize.ShloMosaic Idealize.SL.Sem Cert.KernelIdeal.Gen Idealize.ShloMosaic.TcCoe

variable {F : FTy → Type} [FloatOps F]

set_option maxHeartbeats 1600000 in
theorem openA_8 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).2.1 ++ zeroQ := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.1 ++ _) (st2_zero (h := t2_trips i))).trans rfl

set_option maxHeartbeats 1600000 in
theorem openA_9 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.1⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.1⟩] : List (View.Piece (Elt F) S128x128 .f32))) (st2_zero (h := t2_trips i))).trans rfl

set_option maxHeartbeats 1600000 in
theorem openA_10 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.2.1⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.2.1⟩] : List (View.Piece (Elt F) S128x128 .f32))) (st2_zero (h := t2_trips i))).trans rfl

set_option maxHeartbeats 1600000 in
theorem openA_11 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.1 = dctL (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.2.2.1 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.2.2.2 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => dctL s.1.2.2.1 s.1.2.2.2) (st2_zero (h := t2_trips i))).trans rfl

set_option maxHeartbeats 1600000 in
theorem openA_s3 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.2.1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).2.2 ++ zeroS := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.2 ++ _) (st2_zero (h := t2_trips i))).trans rfl

set_option maxHeartbeats 1600000 in
theorem openA_s0 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.1 = cqL i x3 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

set_option maxHeartbeats 1600000 in
theorem openA_s1 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.1 = lseL x6 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

set_option maxHeartbeats 1600000 in
theorem openA_s2 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.1 = dsumL x7 x5 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

set_option maxHeartbeats 1600000 in
theorem openA_12 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.1 = zeroQ := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

end Cert.KernelIdeal.Fox
-- ==== Proof.OpenB.lean ====
module

public import proofs.«01_k».proof.Proof.Gen.KernelIdeal.Frame.RunB
public import proofs.«01_k».proof.Proof.Open

@[expose] public section

/-! What the kernel's body stores at a grid point, in case B. -/

set_option maxRecDepth 16384

noncomputable section

namespace Cert.KernelIdeal.Fox

open Idealize.ShloMosaic Idealize.SL.Sem Cert.KernelIdeal.Gen Idealize.ShloMosaic.TcCoe

variable {F : FTy → Type} [FloatOps F]

set_option maxHeartbeats 1600000 in
theorem openB_8 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xs0 : Vec F S4x1088x128 .f32) (xs1 : Vec F S4x1088x128 .f32) (xs2 : Vec F S4x1088x128 .f32) (xs3 : Vec F S4x1088x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).2.1 := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.1 ++ _) (st2_zero (h := t2_trips i))).trans rfl

set_option maxHeartbeats 1600000 in
theorem openB_9 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xs0 : Vec F S4x1088x128 .f32) (xs1 : Vec F S4x1088x128 .f32) (xs2 : Vec F S4x1088x128 .f32) (xs3 : Vec F S4x1088x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.1⟩] := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.1⟩] : List (View.Piece (Elt F) S128x128 .f32))) (st2_zero (h := t2_trips i))).trans rfl

set_option maxHeartbeats 1600000 in
theorem openB_10 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xs0 : Vec F S4x1088x128 .f32) (xs1 : Vec F S4x1088x128 .f32) (xs2 : Vec F S4x1088x128 .f32) (xs3 : Vec F S4x1088x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.2.1⟩] := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.2.1⟩] : List (View.Piece (Elt F) S128x128 .f32))) (st2_zero (h := t2_trips i))).trans rfl

set_option maxHeartbeats 1600000 in
theorem openB_11 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xs0 : Vec F S4x1088x128 .f32) (xs1 : Vec F S4x1088x128 .f32) (xs2 : Vec F S4x1088x128 .f32) (xs3 : Vec F S4x1088x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.2.2.1 = dctL (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.2.2.1 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.2.2.2 := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => dctL s.1.2.2.1 s.1.2.2.2) (st2_zero (h := t2_trips i))).trans rfl

set_option maxHeartbeats 1600000 in
theorem openB_s3 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xs0 : Vec F S4x1088x128 .f32) (xs1 : Vec F S4x1088x128 .f32) (xs2 : Vec F S4x1088x128 .f32) (xs3 : Vec F S4x1088x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.2.2.2.2.2.2.2.1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).2.2 := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.2 ++ _) (st2_zero (h := t2_trips i))).trans rfl

end Cert.KernelIdeal.Fox
-- ==== Proof.OpenC.lean ====
module

public import proofs.«01_k».proof.Proof.Gen.KernelIdeal.Frame.RunC
public import proofs.«01_k».proof.Proof.Open

@[expose] public section

/-! What the kernel's body stores at a grid point, in case C. -/

set_option maxRecDepth 16384

noncomputable section

namespace Cert.KernelIdeal.Fox

open Idealize.ShloMosaic Idealize.SL.Sem Cert.KernelIdeal.Gen Idealize.ShloMosaic.TcCoe

variable {F : FTy → Type} [FloatOps F]

set_option maxHeartbeats 1600000 in
theorem openC_8 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xo12 : Vec F S2176x128 .f32) (xs0 : Vec F S4x1088x128 .f32) (xs1 : Vec F S4x1088x128 .f32) (xs2 : Vec F S4x1088x128 .f32) (xs3 : Vec F S4x1088x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).2.1 := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.1 ++ _) (st2_zero (h := t2_trips i))).trans rfl

set_option maxHeartbeats 1600000 in
theorem openC_9 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xo12 : Vec F S2176x128 .f32) (xs0 : Vec F S4x1088x128 .f32) (xs1 : Vec F S4x1088x128 .f32) (xs2 : Vec F S4x1088x128 .f32) (xs3 : Vec F S4x1088x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.1⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.1⟩] : List (View.Piece (Elt F) S128x128 .f32))) (st2_zero (h := t2_trips i))).trans rfl

set_option maxHeartbeats 1600000 in
theorem openC_10 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xo12 : Vec F S2176x128 .f32) (xs0 : Vec F S4x1088x128 .f32) (xs1 : Vec F S4x1088x128 .f32) (xs2 : Vec F S4x1088x128 .f32) (xs3 : Vec F S4x1088x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.2.1⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.2.1⟩] : List (View.Piece (Elt F) S128x128 .f32))) (st2_zero (h := t2_trips i))).trans rfl

set_option maxHeartbeats 1600000 in
theorem openC_11 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xo12 : Vec F S2176x128 .f32) (xs0 : Vec F S4x1088x128 .f32) (xs1 : Vec F S4x1088x128 .f32) (xs2 : Vec F S4x1088x128 .f32) (xs3 : Vec F S4x1088x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.2.1 = dctL (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.2.2.1 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).1.2.2.2 := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => dctL s.1.2.2.1 s.1.2.2.2) (st2_zero (h := t2_trips i))).trans rfl

set_option maxHeartbeats 1600000 in
theorem openC_s3 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xo12 : Vec F S2176x128 .f32) (xs0 : Vec F S4x1088x128 .f32) (xs1 : Vec F S4x1088x128 .f32) (xs2 : Vec F S4x1088x128 .f32) (xs3 : Vec F S4x1088x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.2.2.2.2.2.2.1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).2.2 := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.2 ++ _) (st2_zero (h := t2_trips i))).trans rfl

set_option maxHeartbeats 1600000 in
theorem openC_12 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) (xo8 : Vec F S2176x128 .f32) (xo12 : Vec F S2176x128 .f32) (xs0 : Vec F S4x1088x128 .f32) (xs1 : Vec F S4x1088x128 .f32) (xs2 : Vec F S4x1088x128 .f32) (xs3 : Vec F S4x1088x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.2.2.1 = dcqL i (arg18.view.read (Elt F) (arg18.view.writes (Elt F) (harg18.unread xs3) (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (harg15.unread xs0) (harg16.unread xs1) (harg17.unread xs2) (harg10.unread xo8) (harg18.unread xs3)).2.2)) xo12 := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => dcqL i (arg18.view.read (Elt F) (arg18.view.writes (Elt F) (harg18.unread xs3) (s.2.2 ++ _))) xo12) (st2_zero (h := t2_trips i))).trans rfl

end Cert.KernelIdeal.Fox
-- ==== Proof.OpenD.lean ====
module

public import proofs.«01_k».proof.Proof.Gen.KernelIdeal.Frame.RunD
public import proofs.«01_k».proof.Proof.Open

@[expose] public section

/-! What the kernel's body stores at a grid point, in case D. -/

set_option maxRecDepth 16384

noncomputable section

namespace Cert.KernelIdeal.Fox

open Idealize.ShloMosaic Idealize.SL.Sem Cert.KernelIdeal.Gen Idealize.ShloMosaic.TcCoe

variable {F : FTy → Type} [FloatOps F]

set_option maxHeartbeats 1600000 in
theorem openD_8 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).2.1 ++ zeroQ := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.1 ++ _) (st2_zero (h := t2_trips i))).trans rfl

set_option maxHeartbeats 1600000 in
theorem openD_9 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.1⟩] := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.1⟩] : List (View.Piece (Elt F) S128x128 .f32))) (st2_zero (h := t2_trips i))).trans rfl

set_option maxHeartbeats 1600000 in
theorem openD_10 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.1 = [⟨Rect.unit ![0, 0] ![128, 128] inb_S128x128_S128x128_0_0, (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.2.1⟩] := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => ([⟨Rect.unit ![0, 0] ![128, 128] inb_S128x128_S128x128_0_0, s.1.2.1⟩] : List (View.Piece (Elt F) S128x128 .f32))) (st2_zero (h := t2_trips i))).trans rfl

set_option maxHeartbeats 1600000 in
theorem openD_11 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.1 = dctL (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.2.2.1 (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).1.2.2.2 := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => dctL s.1.2.2.1 s.1.2.2.2) (st2_zero (h := t2_trips i))).trans rfl

set_option maxHeartbeats 1600000 in
theorem openD_s3 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.2.1 = (loopSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x4 (harg2.unread x0) (harg9.unread x7) (arg15.view.writes (Elt F) arg15.view.junk (cqL i x3)) (arg16.view.writes (Elt F) arg16.view.junk (lseL x6)) (arg17.view.writes (Elt F) arg17.view.junk (dsumL x7 x5)) (arg10.view.writes (Elt F) arg10.view.junk zeroQ) (arg18.view.writes (Elt F) arg18.view.junk zeroS)).2.2 ++ zeroS := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  exact (congrArg (fun s : Carried F => s.2.2 ++ _) (st2_zero (h := t2_trips i))).trans rfl

set_option maxHeartbeats 1600000 in
theorem openD_s0 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.1 = cqL i x3 := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

set_option maxHeartbeats 1600000 in
theorem openD_s1 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.1 = lseL x6 := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

set_option maxHeartbeats 1600000 in
theorem openD_s2 (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec F S2176x128 .bf16) (x1 : Vec F S128x128 .bf16) (x2 : Vec F S128x128 .bf16) (x3 : Vec F S2176x128 .f32) (x4 : Vec F S16x128 .f32) (x5 : Vec F S2176x128 .f32) (x6 : Vec F S2176x128 .f32) (x7 : Vec F S2176x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.1 = dsumL x7 x5 := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg14.read_unread, harg15.read_unread, harg16.read_unread, harg17.read_unread, harg18.read_unread]
  rfl

end Cert.KernelIdeal.Fox
-- ==== Proof.Cases.lean ====
module

public import proofs.«01_k».proof.Proof.Lists
public import proofs.«01_k».proof.Proof.OpenA
public import proofs.«01_k».proof.Proof.OpenB
public import proofs.«01_k».proof.Proof.OpenC
public import proofs.«01_k».proof.Proof.OpenD

@[expose] public section

/-! What a grid point leaves, in each of the kernel's four cases: the sums over the key blocks met so far. -/

set_option maxRecDepth 16384

noncomputable section

namespace Cert.KernelIdeal.Fox

open Idealize.ShloMosaic Idealize.SL.Sem Cert.KernelIdeal.Gen Idealize.ShloMosaic.TcCoe

/-- What a point leaves in its blocks and in the scratch arrays, at key block `j`. -/
structure Left (B : Pair) (j : ℕ) (w8 : Vec Ideal S2176x128 .f32) (w9 w10 : Vec Ideal S128x128 .f32) (w11 : Vec Ideal S16x128 .f32)
    (s0 s1 s2 s3 : Vec Ideal S4x1088x128 .f32) : Prop where
  dq : ∀ (r : Fin 2176) (l : Fin 128), w8 (ix2 r l) = ((B.dqAcc (j + 1) r.val l.val : ℝ) : EReal)
  dk : ∀ x l : Fin 128, w9 (ix2 x l) = ((B.dk (128 * j + x.val) l.val : ℝ) : EReal)
  dv : ∀ x l : Fin 128, w10 (ix2 x l) = ((B.dv (128 * j + x.val) l.val : ℝ) : EReal)
  dct : ∀ (h : Fin 16) (x : Fin 128), w11 (ix2 h x) = ((if h.val < 2 then B.dct h.val (128 * j + x.val) else 0 : ℝ) : EReal)
  spread : Spread B s0 s1 s2
  acc : ∀ (t : Fin 4) (a : Fin 1088) (x : Fin 128), s3 (ix3 t a x) = ((B.sAcc (j + 1) t.val a.val x.val : ℝ) : EReal)

theorem read_congr {σ : RefSig} {κ : Kind} {sp : Space} {s : Shape} {e : EltTy} (V : View σ κ sp s e) (f : BufTy.Contents (Elt Ideal) V.ty)
    {L L' : List (View.Piece (Elt Ideal) s e)} (h : L = L') (y : s.Idx) :
    V.read (Elt Ideal) (V.writes (Elt Ideal) f L) y = V.read (Elt Ideal) (V.writes (Elt Ideal) f L') y := by rw [h]

/-- A list that ends in a whole block reads the same through every view. -/
theorem read_any_zeroQ {σ σ' : RefSig} {κ κ' : Kind} {sp sp' : Space} (V : View σ κ sp S2176x128 .f32) (W : View σ' κ' sp' S2176x128 .f32)
    (f : BufTy.Contents (Elt Ideal) V.ty) (g : BufTy.Contents (Elt Ideal) W.ty) (L : List (View.Piece (Elt Ideal) S2176x128 .f32)) :
    V.read (Elt Ideal) (V.writes (Elt Ideal) f (L ++ zeroQ)) = W.read (Elt Ideal) (W.writes (Elt Ideal) (W.writes (Elt Ideal) g zeroQ) L) := by
  have hm : ∀ y : S2176x128.Idx, y ∈ (Rect.unit (s := S2176x128) ![0, 0] ![2176, 128] inb_S2176x128_S2176x128_0_0).set := fun y =>
    View.mem_set_unit_zero (by funext a; fin_cases a <;> rfl) _ y
  have hc : ∀ y : S2176x128.Idx, ∃ pc ∈ L ++ zeroQ (F := Ideal), y ∈ pc.1.set := fun y =>
    ⟨_, List.mem_append_right _ (List.mem_singleton.mpr rfl), hm y⟩
  rw [← View.writes_append, View.read_writes_eq_canon _ _ _ hc, View.read_writes_eq_canon _ _ _ hc]

theorem read_any_zeroS {σ σ' : RefSig} {κ κ' : Kind} {sp sp' : Space} (V : View σ κ sp S4x1088x128 .f32) (W : View σ' κ' sp' S4x1088x128 .f32)
    (f : BufTy.Contents (Elt Ideal) V.ty) (g : BufTy.Contents (Elt Ideal) W.ty) (L : List (View.Piece (Elt Ideal) S4x1088x128 .f32)) :
    V.read (Elt Ideal) (V.writes (Elt Ideal) f (L ++ zeroS)) = W.read (Elt Ideal) (W.writes (Elt Ideal) (W.writes (Elt Ideal) g zeroS) L) := by
  have hm : ∀ y : S4x1088x128.Idx, y ∈ (Rect.unit (s := S4x1088x128) ![0, 0, 0] ![4, 1088, 128] inb_S4x1088x128_S4x1088x128_0_0_0).set := fun y =>
    View.mem_set_unit_zero (by funext a; fin_cases a <;> rfl) _ y
  have hc : ∀ y : S4x1088x128.Idx, ∃ pc ∈ L ++ zeroS (F := Ideal), y ∈ pc.1.set := fun y =>
    ⟨_, List.mem_append_right _ (List.mem_singleton.mpr rfl), hm y⟩
  rw [← View.writes_append, View.read_writes_eq_canon _ _ _ hc, View.read_writes_eq_canon _ _ _ hc]

section
variable {σ : RefSig} {κ : Kind} {sp : Space} (V8 V12 : View σ κ sp S2176x128 .f32) (V9 V10 : View σ κ sp S128x128 .f32) (V11 : View σ κ sp S16x128 .f32)
  (V0 V1 V2 V3 : View σ κ sp S4x1088x128 .f32) (f8 : BufTy.Contents (Elt Ideal) V8.ty) (f9 : BufTy.Contents (Elt Ideal) V9.ty) (f10 : BufTy.Contents (Elt Ideal) V10.ty)
  (f11 : BufTy.Contents (Elt Ideal) V11.ty) (f12 : BufTy.Contents (Elt Ideal) V12.ty) (f0 : BufTy.Contents (Elt Ideal) V0.ty) (f1 : BufTy.Contents (Elt Ideal) V1.ty)
  (f2 : BufTy.Contents (Elt Ideal) V2.ty) (f3 : BufTy.Contents (Elt Ideal) V3.ty) (B : Pair)

/-- Case A. -/
theorem left_A (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec Ideal S2176x128 .bf16) (x1 : Vec Ideal S128x128 .bf16) (x2 : Vec Ideal S128x128 .bf16) (x3 : Vec Ideal S2176x128 .f32) (x4 : Vec Ideal S16x128 .f32) (x5 : Vec Ideal S2176x128 .f32) (x6 : Vec Ideal S2176x128 .f32) (x7 : Vec Ideal S2176x128 .f32) (H : Blk B (i 0).val (i 1).val x0 x1 x2 x3 x4 x5 x6 x7) (hj : (i 1).val = 0) :
    Left B (i 1).val
      (V8.read (Elt Ideal) (V8.writes (Elt Ideal) f8 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).1))
      (V9.read (Elt Ideal) (V9.writes (Elt Ideal) f9 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.1))
      (V10.read (Elt Ideal) (V10.writes (Elt Ideal) f10 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.1))
      (V11.read (Elt Ideal) (V11.writes (Elt Ideal) f11 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.1))
      (V0.read (Elt Ideal) (V0.writes (Elt Ideal) f0 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.1))
      (V1.read (Elt Ideal) (V1.writes (Elt Ideal) f1 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.1))
      (V2.read (Elt Ideal) (V2.writes (Elt Ideal) f2 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.1))
      (V3.read (Elt Ideal) (V3.writes (Elt Ideal) f3 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.2.1)) := by
  have hq : ∀ (r : Fin 2176) (l : Fin 128), arg10.view.read (Elt Ideal) (arg10.view.writes (Elt Ideal) arg10.view.junk zeroQ) (ix2 r l) = ((B.dqAcc (i 1).val r.val l.val : ℝ) : EReal) := by
    intro r l
    rw [hj]; unfold Pair.dqAcc; rw [Finset.range_zero, Finset.sum_empty]
    exact read_zeroQ _ _ r l
  have hs : ∀ (t : Fin 4) (a : Fin 1088) (x : Fin 128), arg18.view.read (Elt Ideal) (arg18.view.writes (Elt Ideal) arg18.view.junk zeroS) (ix3 t a x) = ((B.sAcc (i 1).val t.val a.val x.val : ℝ) : EReal) := by
    intro t a x
    rw [hj]; unfold Pair.sAcc; rw [Finset.range_zero, Finset.sum_empty]
    exact read_zeroS _ _ t a x
  have O := loopSt_outcome c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B (i 0).val (harg2.read_unread x0) (harg9.read_unread x7)
    (rfl : _ = arg15.view.read (Elt Ideal) (arg15.view.writes (Elt Ideal) arg15.view.junk (cqL i x3)))
    (rfl : _ = arg16.view.read (Elt Ideal) (arg16.view.writes (Elt Ideal) arg16.view.junk (lseL x6)))
    (rfl : _ = arg17.view.read (Elt Ideal) (arg17.view.writes (Elt Ideal) arg17.view.junk (dsumL x7 x5)))
    H ⟨read_cqL _ _ H, read_lseL _ _ H, read_dsumL _ _ H⟩ hq hs
  exact ⟨fun r l => (read_congr V8 f8 (openA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((congrFun (read_any_zeroQ V8 arg10.view f8 arg10.view.junk _) _).trans (O.dq r l)),
    fun x l => (read_congr V9 f9 (openA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((read_one V9 f9 _ x l).trans (O.dk x l)), fun x l => (read_congr V10 f10 (openA_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((read_one V10 f10 _ x l).trans (O.dv x l)),
    fun h x => (read_congr V11 f11 (openA_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_dctL V11 f11 _ _ B.dct _ O.c0 O.c1 h x),
    ⟨fun t a x => (read_congr V0 f0 (openA_s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_cqL _ _ H t a x), fun t a x => (read_congr V1 f1 (openA_s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_lseL _ _ H t a x), fun t a x => (read_congr V2 f2 (openA_s2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_dsumL _ _ H t a x)⟩,
    fun t a x => (read_congr V3 f3 (openA_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((congrFun (read_any_zeroS V3 arg18.view f3 arg18.view.junk _) _).trans (O.acc t a x))⟩

/-- Case A clears the query side's sums. -/
theorem sums_A (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : cond0_0 i) (hc1 : cond0_1 i) (hc2 : ¬cond0_2 i) (x0 : Vec Ideal S2176x128 .bf16) (x1 : Vec Ideal S128x128 .bf16) (x2 : Vec Ideal S128x128 .bf16) (x3 : Vec Ideal S2176x128 .f32) (x4 : Vec Ideal S16x128 .f32) (x5 : Vec Ideal S2176x128 .f32) (x6 : Vec Ideal S2176x128 .f32) (x7 : Vec Ideal S2176x128 .f32) (r : Fin 2176) (l : Fin 128) :
    (V12.read (Elt Ideal) (V12.writes (Elt Ideal) f12 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.1)) (ix2 r l) = ((0 : ℝ) : EReal) := by
  refine (read_congr V12 f12 (openA_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ?_
  exact read_zeroQ _ _ r l

/-- Case D. -/
theorem left_D (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : cond0_1 i) (hc2 : ¬cond0_2 i) (x0 : Vec Ideal S2176x128 .bf16) (x1 : Vec Ideal S128x128 .bf16) (x2 : Vec Ideal S128x128 .bf16) (x3 : Vec Ideal S2176x128 .f32) (x4 : Vec Ideal S16x128 .f32) (x5 : Vec Ideal S2176x128 .f32) (x6 : Vec Ideal S2176x128 .f32) (x7 : Vec Ideal S2176x128 .f32) (H : Blk B (i 0).val (i 1).val x0 x1 x2 x3 x4 x5 x6 x7) (hj : (i 1).val = 0) :
    Left B (i 1).val
      (V8.read (Elt Ideal) (V8.writes (Elt Ideal) f8 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).1))
      (V9.read (Elt Ideal) (V9.writes (Elt Ideal) f9 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.1))
      (V10.read (Elt Ideal) (V10.writes (Elt Ideal) f10 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.1))
      (V11.read (Elt Ideal) (V11.writes (Elt Ideal) f11 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.1))
      (V0.read (Elt Ideal) (V0.writes (Elt Ideal) f0 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.1))
      (V1.read (Elt Ideal) (V1.writes (Elt Ideal) f1 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.1))
      (V2.read (Elt Ideal) (V2.writes (Elt Ideal) f2 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.1))
      (V3.read (Elt Ideal) (V3.writes (Elt Ideal) f3 (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7).2.2.2.2.2.2.2.2.1)) := by
  have hq : ∀ (r : Fin 2176) (l : Fin 128), arg10.view.read (Elt Ideal) (arg10.view.writes (Elt Ideal) arg10.view.junk zeroQ) (ix2 r l) = ((B.dqAcc (i 1).val r.val l.val : ℝ) : EReal) := by
    intro r l
    rw [hj]; unfold Pair.dqAcc; rw [Finset.range_zero, Finset.sum_empty]
    exact read_zeroQ _ _ r l
  have hs : ∀ (t : Fin 4) (a : Fin 1088) (x : Fin 128), arg18.view.read (Elt Ideal) (arg18.view.writes (Elt Ideal) arg18.view.junk zeroS) (ix3 t a x) = ((B.sAcc (i 1).val t.val a.val x.val : ℝ) : EReal) := by
    intro t a x
    rw [hj]; unfold Pair.sAcc; rw [Finset.range_zero, Finset.sum_empty]
    exact read_zeroS _ _ t a x
  have O := loopSt_outcome c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B (i 0).val (harg2.read_unread x0) (harg9.read_unread x7)
    (rfl : _ = arg15.view.read (Elt Ideal) (arg15.view.writes (Elt Ideal) arg15.view.junk (cqL i x3)))
    (rfl : _ = arg16.view.read (Elt Ideal) (arg16.view.writes (Elt Ideal) arg16.view.junk (lseL x6)))
    (rfl : _ = arg17.view.read (Elt Ideal) (arg17.view.writes (Elt Ideal) arg17.view.junk (dsumL x7 x5)))
    H ⟨read_cqL _ _ H, read_lseL _ _ H, read_dsumL _ _ H⟩ hq hs
  exact ⟨fun r l => (read_congr V8 f8 (openD_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((congrFun (read_any_zeroQ V8 arg10.view f8 arg10.view.junk _) _).trans (O.dq r l)),
    fun x l => (read_congr V9 f9 (openD_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((read_one V9 f9 _ x l).trans (O.dk x l)), fun x l => (read_congr V10 f10 (openD_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((read_one V10 f10 _ x l).trans (O.dv x l)),
    fun h x => (read_congr V11 f11 (openD_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_dctL V11 f11 _ _ B.dct _ O.c0 O.c1 h x),
    ⟨fun t a x => (read_congr V0 f0 (openD_s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_cqL _ _ H t a x), fun t a x => (read_congr V1 f1 (openD_s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_lseL _ _ H t a x), fun t a x => (read_congr V2 f2 (openD_s2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans (read_dsumL _ _ H t a x)⟩,
    fun t a x => (read_congr V3 f3 (openD_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7) _).trans ((congrFun (read_any_zeroS V3 arg18.view f3 arg18.view.junk _) _).trans (O.acc t a x))⟩

/-- Case B. -/
theorem left_B (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : ¬cond0_2 i) (x0 : Vec Ideal S2176x128 .bf16) (x1 : Vec Ideal S128x128 .bf16) (x2 : Vec Ideal S128x128 .bf16) (x3 : Vec Ideal S2176x128 .f32) (x4 : Vec Ideal S16x128 .f32) (x5 : Vec Ideal S2176x128 .f32) (x6 : Vec Ideal S2176x128 .f32) (x7 : Vec Ideal S2176x128 .f32) (xo8 : Vec Ideal S2176x128 .f32) (xs0 : Vec Ideal S4x1088x128 .f32) (xs1 : Vec Ideal S4x1088x128 .f32) (xs2 : Vec Ideal S4x1088x128 .f32) (xs3 : Vec Ideal S4x1088x128 .f32) (H : Blk B (i 0).val (i 1).val x0 x1 x2 x3 x4 x5 x6 x7)
    (S : Spread B xs0 xs1 xs2) (h8 : ∀ (r : Fin 2176) (l : Fin 128), xo8 (ix2 r l) = ((B.dqAcc (i 1).val r.val l.val : ℝ) : EReal))
    (h3 : ∀ (t : Fin 4) (a : Fin 1088) (x : Fin 128), xs3 (ix3 t a x) = ((B.sAcc (i 1).val t.val a.val x.val : ℝ) : EReal)) :
    Left B (i 1).val
      (arg10.view.read (Elt Ideal) (arg10.view.writes (Elt Ideal) (harg10.unread xo8) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).1))
      (V9.read (Elt Ideal) (V9.writes (Elt Ideal) f9 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.1))
      (V10.read (Elt Ideal) (V10.writes (Elt Ideal) f10 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.2.1))
      (V11.read (Elt Ideal) (V11.writes (Elt Ideal) f11 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.2.2.1))
      xs0
      xs1
      xs2
      (arg18.view.read (Elt Ideal) (arg18.view.writes (Elt Ideal) (harg18.unread xs3) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3).2.2.2.2.2.2.2.2.1)) := by
  have O := loopSt_outcome c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B (i 0).val (harg2.read_unread x0) (harg9.read_unread x7)
    (harg15.read_unread xs0) (harg16.read_unread xs1) (harg17.read_unread xs2) H S
    (G10 := harg10.unread xo8) (G18 := harg18.unread xs3)
    (fun r l => (congrFun (harg10.read_unread xo8) _).trans (h8 r l)) (fun t a x => (congrFun (harg18.read_unread xs3) _).trans (h3 t a x))
  exact ⟨fun r l => (read_congr arg10.view _ (openB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3) _).trans (O.dq r l),
    fun x l => (read_congr V9 f9 (openB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3) _).trans ((read_one V9 f9 _ x l).trans (O.dk x l)), fun x l => (read_congr V10 f10 (openB_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3) _).trans ((read_one V10 f10 _ x l).trans (O.dv x l)),
    fun h x => (read_congr V11 f11 (openB_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3) _).trans (read_dctL V11 f11 _ _ B.dct _ O.c0 O.c1 h x),
    S, fun t a x => (read_congr arg18.view _ (openB_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xs0 xs1 xs2 xs3) _).trans (O.acc t a x)⟩

/-- Case C. -/
theorem left_C (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec Ideal S2176x128 .bf16) (x1 : Vec Ideal S128x128 .bf16) (x2 : Vec Ideal S128x128 .bf16) (x3 : Vec Ideal S2176x128 .f32) (x4 : Vec Ideal S16x128 .f32) (x5 : Vec Ideal S2176x128 .f32) (x6 : Vec Ideal S2176x128 .f32) (x7 : Vec Ideal S2176x128 .f32) (xo8 : Vec Ideal S2176x128 .f32) (xo12 : Vec Ideal S2176x128 .f32) (xs0 : Vec Ideal S4x1088x128 .f32) (xs1 : Vec Ideal S4x1088x128 .f32) (xs2 : Vec Ideal S4x1088x128 .f32) (xs3 : Vec Ideal S4x1088x128 .f32) (H : Blk B (i 0).val (i 1).val x0 x1 x2 x3 x4 x5 x6 x7)
    (S : Spread B xs0 xs1 xs2) (h8 : ∀ (r : Fin 2176) (l : Fin 128), xo8 (ix2 r l) = ((B.dqAcc (i 1).val r.val l.val : ℝ) : EReal))
    (h3 : ∀ (t : Fin 4) (a : Fin 1088) (x : Fin 128), xs3 (ix3 t a x) = ((B.sAcc (i 1).val t.val a.val x.val : ℝ) : EReal)) :
    Left B (i 1).val
      (arg10.view.read (Elt Ideal) (arg10.view.writes (Elt Ideal) (harg10.unread xo8) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).1))
      (V9.read (Elt Ideal) (V9.writes (Elt Ideal) f9 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.1))
      (V10.read (Elt Ideal) (V10.writes (Elt Ideal) f10 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.1))
      (V11.read (Elt Ideal) (V11.writes (Elt Ideal) f11 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.2.1))
      xs0
      xs1
      xs2
      (arg18.view.read (Elt Ideal) (arg18.view.writes (Elt Ideal) (harg18.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.2.2.2.2.2.2.1)) := by
  have O := loopSt_outcome c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B (i 0).val (harg2.read_unread x0) (harg9.read_unread x7)
    (harg15.read_unread xs0) (harg16.read_unread xs1) (harg17.read_unread xs2) H S
    (G10 := harg10.unread xo8) (G18 := harg18.unread xs3)
    (fun r l => (congrFun (harg10.read_unread xo8) _).trans (h8 r l)) (fun t a x => (congrFun (harg18.read_unread xs3) _).trans (h3 t a x))
  exact ⟨fun r l => (read_congr arg10.view _ (openC_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3) _).trans (O.dq r l),
    fun x l => (read_congr V9 f9 (openC_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3) _).trans ((read_one V9 f9 _ x l).trans (O.dk x l)), fun x l => (read_congr V10 f10 (openC_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3) _).trans ((read_one V10 f10 _ x l).trans (O.dv x l)),
    fun h x => (read_congr V11 f11 (openC_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3) _).trans (read_dctL V11 f11 _ _ B.dct _ O.c0 O.c1 h x),
    S, fun t a x => (read_congr arg18.view _ (openC_s3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3) _).trans (O.acc t a x)⟩

/-- Case C adds the pair's query side's sums. -/
theorem sums_C (c : Dev nD) (i : grid0.Coords) (arg2 : Memref sig .tc .vmem S2176x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S2176x128 .f32) (harg5 : arg5.IsWhole) (arg6 : Memref sig .tc .vmem S16x128 .f32) (harg6 : arg6.IsWhole) (arg7 : Memref sig .tc .vmem S2176x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S16x128 .f32) (harg13 : arg13.IsWhole) (arg14 : Memref sig .tc .vmem S2176x128 .f32) (harg14 : arg14.IsWhole) (arg15 : Memref sig .tc .vmem S4x1088x128 .f32) (harg15 : arg15.IsWhole) (arg16 : Memref sig .tc .vmem S4x1088x128 .f32) (harg16 : arg16.IsWhole) (arg17 : Memref sig .tc .vmem S4x1088x128 .f32) (harg17 : arg17.IsWhole) (arg18 : Memref sig .tc .vmem S4x1088x128 .f32) (harg18 : arg18.IsWhole) (hc0 : ¬cond0_0 i) (hc1 : ¬cond0_1 i) (hc2 : cond0_2 i) (x0 : Vec Ideal S2176x128 .bf16) (x1 : Vec Ideal S128x128 .bf16) (x2 : Vec Ideal S128x128 .bf16) (x3 : Vec Ideal S2176x128 .f32) (x4 : Vec Ideal S16x128 .f32) (x5 : Vec Ideal S2176x128 .f32) (x6 : Vec Ideal S2176x128 .f32) (x7 : Vec Ideal S2176x128 .f32) (xo8 : Vec Ideal S2176x128 .f32) (xo12 : Vec Ideal S2176x128 .f32) (xs0 : Vec Ideal S4x1088x128 .f32) (xs1 : Vec Ideal S4x1088x128 .f32) (xs2 : Vec Ideal S4x1088x128 .f32) (xs3 : Vec Ideal S4x1088x128 .f32) (H : Blk B (i 0).val (i 1).val x0 x1 x2 x3 x4 x5 x6 x7)
    (S : Spread B xs0 xs1 xs2) (h8 : ∀ (r : Fin 2176) (l : Fin 128), xo8 (ix2 r l) = ((B.dqAcc (i 1).val r.val l.val : ℝ) : EReal))
    (h3 : ∀ (t : Fin 4) (a : Fin 1088) (x : Fin 128), xs3 (ix3 t a x) = ((B.sAcc (i 1).val t.val a.val x.val : ℝ) : EReal)) (hj : (i 1).val = 16) (Z : ℕ → ℕ → ℝ)
    (hZ : ∀ (r : Fin 2176) (l : Fin 128), xo12 (ix2 r l) = ((Z r.val l.val : ℝ) : EReal)) (r : Fin 2176) (l : Fin 128) :
    (V12.read (Elt Ideal) (V12.writes (Elt Ideal) f12 (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3).2.2.2.2.1)) (ix2 r l) = ((Z r.val l.val + B.dcqAdd (i 0).val r.val l.val : ℝ) : EReal) := by
  have O := loopSt_outcome c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B (i 0).val (harg2.read_unread x0) (harg9.read_unread x7)
    (harg15.read_unread xs0) (harg16.read_unread xs1) (harg17.read_unread xs2) H S
    (G10 := harg10.unread xo8) (G18 := harg18.unread xs3)
    (fun r l => (congrFun (harg10.read_unread xo8) _).trans (h8 r l)) (fun t a x => (congrFun (harg18.read_unread xs3) _).trans (h3 t a x))
  refine (read_congr V12 f12 (openC_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 xo8 xo12 xs0 xs1 xs2 xs3) _).trans ?_
  refine read_dcqL V12 f12 i B _ _ Z (fun t a x => ?_) hZ r l
  have h := O.acc t a x
  rw [hj] at h
  exact h
end

end Cert.KernelIdeal.Fox
-- ==== Proof.Induct.lean ====
module

public import proofs.«01_k».proof.Proof.Input
public import proofs.«01_k».proof.Proof.Cases

@[expose] public section

/-! What every grid point leaves: the running gradient of the queries, the blocks of the keys' gradients, and the sums of the pairs
    that are done. -/

set_option maxRecDepth 16384

noncomputable section

namespace Cert.KernelIdeal.Fox

open Idealize.ShloMosaic Idealize.SL.Sem Cert.KernelIdeal Cert.KernelIdeal.Gen Idealize.ShloMosaic.TcCoe Cert.Fox
open scoped BigOperators

variable (m : (ℓ : Loc nD τ sig) → Buf (Elt Ideal) ℓ) (c : Dev nD)

/-- What is left, as one record. -/
abbrev LeftOf (B : Pair) (j : ℕ) (p : Held Ideal) : Prop := Left B j p.w8 p.w9 p.w10 p.w11 p.s0 p.s1 p.s2 p.s3

/-- What is left, field by field. -/
theorem left_of {B : Pair} {j : ℕ} {p : Held Ideal} {w8 : Vec Ideal S2176x128 .f32} {w9 w10 : Vec Ideal S128x128 .f32} {w11 : Vec Ideal S16x128 .f32}
    {s0 s1 s2 s3 : Vec Ideal S4x1088x128 .f32} (e8 : p.w8 = w8) (e9 : p.w9 = w9) (e10 : p.w10 = w10) (e11 : p.w11 = w11) (a0 : p.s0 = s0) (a1 : p.s1 = s1)
    (a2 : p.s2 = s2) (a3 : p.s3 = s3) (L : Left B j w8 w9 w10 w11 s0 s1 s2 s3) : LeftOf B j p := by
  subst e8 e9 e10 e11 a0 a1 a2 a3; exact L

/-- The pairs' sums so far. -/
def doneSum (A : Whole) (n r l : ℕ) : ℝ := ∑ p ∈ Finset.range n, (A.pair p).dcqAdd p r l

/-- What holds after point `n`. -/
structure Reached (A : Whole) (n : ℕ) (p : Held Ideal) : Prop where
  left : LeftOf (A.pair (n / 17)) (n % 17) p
  sums : ∀ (r : Fin 2176) (l : Fin 128), p.w12 (ix2 r l) = ((doneSum A ((n + 1) / 17) r.val l.val : ℝ) : EReal)

variable {A : Whole} (H : ArgsAt m c A) (t : Fin cfg0.N)
include H

theorem blk_coords : Blk (A.pair (t.val / 17)) (grid0.coords t 0).val (grid0.coords t 1).val (iblk m c 0 t) (iblk m c 1 t) (iblk m c 2 t) (iblk m c 3 t)
    (iblk m c 4 t) (iblk m c 5 t) (iblk m c 6 t) (iblk m c 7 t) := by
  rw [coord0, coord1]; exact blk_at m c t H

theorem leftA (h0 : t.val % 136 = 0) (h1 : t.val % 17 = 0) (h2 : ¬t.val % 17 = 16) :
    LeftOf (A.pair (t.val / 17)) (grid0.coords t 1).val (heldA m c t h0 h1 h2) := by
  refine left_of (heldA_w8 m c t h0 h1 h2) (heldA_w9 m c t h0 h1 h2) (heldA_w10 m c t h0 h1 h2) (heldA_w11 m c t h0 h1 h2) (heldA_s0 m c t h0 h1 h2) (heldA_s1 m c t h0 h1 h2) (heldA_s2 m c t h0 h1 h2) (heldA_s3 m c t h0 h1 h2) ?_
  unfold fresh runA
  refine left_A (H := ?_) (hj := ?_) ..
  · exact blk_coords m c H t
  · exact (coord1 t).trans h1

omit H in
theorem sumsA (h0 : t.val % 136 = 0) (h1 : t.val % 17 = 0) (h2 : ¬t.val % 17 = 16) (r : Fin 2176) (l : Fin 128) :
    (heldA m c t h0 h1 h2).w12 (ix2 r l) = 0 := by
  rw [heldA_w12]
  unfold fresh runA
  exact sums_A (i := grid0.coords t) ..

theorem leftD (h0 : ¬t.val % 136 = 0) (h1 : t.val % 17 = 0) (h2 : ¬t.val % 17 = 16) (p : Held Ideal) :
    LeftOf (A.pair (t.val / 17)) (grid0.coords t 1).val (heldD m c t h0 h1 h2 p) := by
  refine left_of (heldD_w8 m c t h0 h1 h2 p) (heldD_w9 m c t h0 h1 h2 p) (heldD_w10 m c t h0 h1 h2 p) (heldD_w11 m c t h0 h1 h2 p) (heldD_s0 m c t h0 h1 h2 p) (heldD_s1 m c t h0 h1 h2 p) (heldD_s2 m c t h0 h1 h2 p) (heldD_s3 m c t h0 h1 h2 p) ?_
  unfold fresh runD
  refine left_D (H := ?_) (hj := ?_) ..
  · exact blk_coords m c H t
  · exact (coord1 t).trans h1

theorem leftB (h0 : ¬t.val % 136 = 0) (h1 : ¬t.val % 17 = 0) (h2 : ¬t.val % 17 = 16) (p : Held Ideal) (j : ℕ) (hj : (grid0.coords t 1).val = j + 1)
    (P : LeftOf (A.pair (t.val / 17)) j p) :
    LeftOf (A.pair (t.val / 17)) (grid0.coords t 1).val (heldB m c t h0 h1 h2 p) := by
  refine left_of (heldB_w8 m c t h0 h1 h2 p) (heldB_w9 m c t h0 h1 h2 p) (heldB_w10 m c t h0 h1 h2 p) (heldB_w11 m c t h0 h1 h2 p) (heldB_s0 m c t h0 h1 h2 p) (heldB_s1 m c t h0 h1 h2 p) (heldB_s2 m c t h0 h1 h2 p) (heldB_s3 m c t h0 h1 h2 p) ?_
  unfold fresh over runB
  refine left_B (H := ?_) (S := ?_) (h8 := ?_) (h3 := ?_) ..
  · exact blk_coords m c H t
  · exact P.spread
  · rw [hj]; exact P.dq
  · rw [hj]; exact P.acc

theorem leftC (h0 : ¬t.val % 136 = 0) (h1 : ¬t.val % 17 = 0) (h2 : t.val % 17 = 16) (p : Held Ideal) (j : ℕ) (hj : (grid0.coords t 1).val = j + 1)
    (P : LeftOf (A.pair (t.val / 17)) j p) :
    LeftOf (A.pair (t.val / 17)) (grid0.coords t 1).val (heldC m c t h0 h1 h2 p) := by
  refine left_of (heldC_w8 m c t h0 h1 h2 p) (heldC_w9 m c t h0 h1 h2 p) (heldC_w10 m c t h0 h1 h2 p) (heldC_w11 m c t h0 h1 h2 p) (heldC_s0 m c t h0 h1 h2 p) (heldC_s1 m c t h0 h1 h2 p) (heldC_s2 m c t h0 h1 h2 p) (heldC_s3 m c t h0 h1 h2 p) ?_
  unfold fresh over runC
  refine left_C (H := ?_) (S := ?_) (h8 := ?_) (h3 := ?_) ..
  · exact blk_coords m c H t
  · exact P.spread
  · rw [hj]; exact P.dq
  · rw [hj]; exact P.acc

theorem sumsC (h0 : ¬t.val % 136 = 0) (h1 : ¬t.val % 17 = 0) (h2 : t.val % 17 = 16) (p : Held Ideal) (j : ℕ) (hj : (grid0.coords t 1).val = j + 1)
    (P : LeftOf (A.pair (t.val / 17)) j p) (Z : ℕ → ℕ → ℝ) (hZ : ∀ (r : Fin 2176) (l : Fin 128), p.w12 (ix2 r l) = ((Z r.val l.val : ℝ) : EReal)) (r : Fin 2176) (l : Fin 128) :
    (heldC m c t h0 h1 h2 p).w12 (ix2 r l) = ((Z r.val l.val + (A.pair (t.val / 17)).dcqAdd (grid0.coords t 0).val r.val l.val : ℝ) : EReal) := by
  rw [heldC_w12]
  unfold fresh runC
  refine sums_C (H := ?_) (S := ?_) (h8 := ?_) (h3 := ?_) (hj := ?_) (hZ := ?_) ..
  · exact blk_coords m c H t
  · exact P.spread
  · rw [hj]; exact P.dq
  · rw [hj]; exact P.acc
  · exact (coord1 t).trans h2
  · exact hZ

theorem after_all : ∀ (n : ℕ) (hn : n < cfg0.N), Reached A n (held m c n hn) := by
  intro n
  induction n with
  | zero =>
    intro hn
    have e := held_A m c ⟨0, hn⟩ rfl rfl (by show ¬ 0 % 17 = 16; decide)
    have L := leftA m c H ⟨0, hn⟩ rfl rfl (by show ¬ 0 % 17 = 16; decide)
    rw [← e, coord1] at L
    refine ⟨L, fun r l => ?_⟩
    have S := sumsA m c ⟨0, hn⟩ rfl rfl (by show ¬ 0 % 17 = 16; decide) r l
    rw [← e] at S
    refine S.trans ?_
    unfold doneSum
    rw [show (0 + 1) / 17 = 0 from rfl, Finset.range_zero, Finset.sum_empty]; rfl
  | succ n ih =>
    intro hn
    have hN : n + 1 < 136 := points ⟨n + 1, hn⟩
    have I := ih (Nat.lt_of_succ_lt hn)
    have h0 : ¬ (n + 1) % 136 = 0 := by omega
    by_cases h1 : (n + 1) % 17 = 0
    · have h2 : ¬ (n + 1) % 17 = 16 := by omega
      have e := held_D m c ⟨n + 1, hn⟩ h0 h1 h2
      have L := leftD m c H ⟨n + 1, hn⟩ h0 h1 h2 (last m c ⟨n + 1, hn⟩)
      rw [← e, coord1] at L
      refine ⟨L, fun r l => ?_⟩
      have S : (held m c (n + 1) hn).w12 = (held m c n (Nat.lt_of_succ_lt hn)).w12 := (congrArg Held.w12 e).trans (heldD_w12 m c _ h0 h1 h2 _)
      rw [S, I.sums, show (n + 1 + 1) / 17 = (n + 1) / 17 by omega]
    · have hp : (n + 1) / 17 = n / 17 := by omega
      have hj : (grid0.coords (⟨n + 1, hn⟩ : Fin cfg0.N) 1).val = n % 17 + 1 := by rw [coord1]; show (n + 1) % 17 = n % 17 + 1; omega
      have P : LeftOf (A.pair ((n + 1) / 17)) (n % 17) (held m c n (Nat.lt_of_succ_lt hn)) := by rw [hp]; exact I.left
      by_cases h2 : (n + 1) % 17 = 16
      · have e := held_C m c ⟨n + 1, hn⟩ h0 h1 h2
        have L := leftC m c H ⟨n + 1, hn⟩ h0 h1 h2 (last m c ⟨n + 1, hn⟩) _ hj P
        rw [← e, coord1] at L
        refine ⟨L, fun r l => ?_⟩
        have S := sumsC m c H ⟨n + 1, hn⟩ h0 h1 h2 (last m c ⟨n + 1, hn⟩) _ hj P (doneSum A ((n + 1) / 17)) I.sums r l
        rw [← e, coord0] at S
        refine S.trans ?_
        rw [show (n + 1 + 1) / 17 = (n + 1) / 17 + 1 by omega]
        unfold doneSum
        rw [Finset.sum_range_succ]
      · have e := held_B m c ⟨n + 1, hn⟩ h0 h1 h2
        have L := leftB m c H ⟨n + 1, hn⟩ h0 h1 h2 (last m c ⟨n + 1, hn⟩) _ hj P
        rw [← e, coord1] at L
        refine ⟨L, fun r l => ?_⟩
        have S : (held m c (n + 1) hn).w12 = (held m c n (Nat.lt_of_succ_lt hn)).w12 := (congrArg Held.w12 e).trans (heldB_w12 m c _ h0 h1 h2 _)
        rw [S, I.sums, show (n + 1 + 1) / 17 = (n + 1) / 17 by omega]

end Cert.KernelIdeal.Fox

end
-- ==== Proof.Final.lean ====
module

public import proofs.«01_k».proof.Proof.Induct

@[expose] public section

/-! What the kernel's five result arrays end holding. -/

set_option maxRecDepth 16384

noncomputable section

namespace Cert.KernelIdeal.Fox

open Idealize.ShloMosaic Idealize.SL.Sem Cert.KernelIdeal Cert.KernelIdeal.Gen Idealize.ShloMosaic.TcCoe Cert.Fox
open scoped BigOperators

/-- A pair's sums are the rows' sums of its two heads, each in its lane. -/
theorem dcqAdd_eq (A : Whole) (p r l : ℕ) (hr : r < 2176) :
    (A.pair p).dcqAdd p r l = if l / 16 = p then A.dc r l else 0 := by
  have a0 := A.acc_eq p 0 r (by omega) hr
  have a1 := A.acc_eq p 1 r (by omega) hr
  rw [show 544 * 0 + r % 544 = r % 544 by omega] at a0
  rw [show 544 * 1 + r % 544 = 544 + r % 544 by omega] at a1
  unfold Pair.dcqAdd
  rw [a0, a1]
  unfold Whole.dc
  by_cases h : l / 16 = p
  · rw [if_pos h]
    by_cases h0 : l % 16 = 0
    · rw [if_pos (by omega), if_neg (by omega), if_pos (by omega), add_zero, h0, h]
    · by_cases h1 : l % 16 = 1
      · rw [if_neg (by omega), if_pos (by omega), if_pos (by omega), zero_add, h1, h]
      · rw [if_neg (by omega), if_neg (by omega), if_neg (by omega), add_zero]
  · rw [if_neg h, if_neg (by omega), if_neg (by omega), add_zero]

theorem doneSum_eq (A : Whole) (r l : ℕ) (hr : r < 2176) (hl : l < 128) : doneSum A 8 r l = A.dc r l := by
  unfold doneSum
  rw [Finset.sum_congr rfl (fun p _ => dcqAdd_eq A p r l hr), Finset.sum_ite_eq, if_pos (Finset.mem_range.mpr (by omega))]

variable (m : (ℓ : Loc nD τ sig) → Buf (Elt Ideal) ℓ) (c : Dev nD) (A : Whole)

/-! ## dq -/

theorem out8_at (t : Fin cfg0.N) : win0_8.index t (0 : Fin 2) = 0 ∧ win0_8.index t (1 : Fin 2) = t.val / 17 :=
  (by decide +kernel : ∀ t : Fin grid0.N, win0_8.index t (0 : Fin 2) = 0 ∧ win0_8.index t (1 : Fin 2) = t.val / 17) t

/-- The array of dq. -/
def end8 : Buf (Elt Ideal) ((c : Thread nD τ).loc main_v53_0) := fun i => ((A.dq (i 0).val (i 1).val : ℝ) : EReal)

variable {m c A} in
theorem flushed8 (H : ArgsAt m c A) (t : Fin cfg0.N) (hf : (cfg0.win 8).flush t = true) :
    (dat m 0 c).flushed 8 t = ((cfg0.win 8).blk t).view.read (Elt Ideal) (end8 c A) := by
  show (cfg0.win 8).cut (grid0.coords t) ((dat m 0 c).after 8 t) = _
  rw [after8]
  have R := after_all m c H t.val t.isLt
  have hN := points t
  obtain ⟨e0, e1⟩ := out8_at t
  funext y
  have hy0 : (y 0).val < 2176 := (y 0).isLt
  have hy1 : (y 1).val < 128 := (y 1).isLt
  have e : (cfg0.win 8).xinj (grid0.coords t) y = ix2 ⟨(y 0).val, hy0⟩ ⟨(y 1).val, hy1⟩ := by
    funext a; apply Fin.ext
    match a with
    | ⟨0, _⟩ => rfl
    | ⟨1, _⟩ => rfl
  have b0 : (((cfg0.win 8).blk t).view.emb y 0).val = win0_8.index t (0 : Fin 2) * 2176 + 1 * (y 0).val := rfl
  have b1 : (((cfg0.win 8).blk t).view.emb y 1).val = win0_8.index t (1 : Fin 2) * 128 + 1 * (y 1).val := rfl
  show (held m c t.val t.isLt).w8 ((cfg0.win 8).xinj (grid0.coords t) y)
    = ((A.dq (((cfg0.win 8).blk t).view.emb y 0).val (((cfg0.win 8).blk t).view.emb y 1).val : ℝ) : EReal)
  rw [e, b0, b1, e0, e1]
  have hm : t.val % 17 = 16 := (flush0_8 t).mp hf
  refine (R.left.dq _ _).trans ?_
  rw [hm]
  show (((A.pair (t.val / 17)).dqAcc 17 (y 0).val (y 1).val : ℝ) : EReal) = _
  rw [A.dq_eq _ _ _ hy1 hy0]
  congr 2 <;> omega

theorem covered8 (i : S2176x1024.Idx) : ∃ t : Fin cfg0.N, (cfg0.win 8).flush t = true ∧ i ∈ ((cfg0.win 8).blk t).view.set := by
  have hi0 : (i 0).val < 2176 := (i 0).isLt
  have hi1 : (i 1).val < 1024 := (i 1).isLt
  have hp : 17 * ((i 1).val / 128) + 16 < cfg0.N := lt_of_lt_of_eq (by omega) N_0.symm
  refine ⟨⟨17 * ((i 1).val / 128) + 16, hp⟩, (flush0_8 _).mpr (by show (17 * ((i 1).val / 128) + 16) % 17 = 16; omega), ?_⟩
  obtain ⟨e0, e1⟩ := out8_at ⟨17 * ((i 1).val / 128) + 16, hp⟩
  show i ∈ ((View.whole main_v53_0).slice (win0_8.rect ⟨17 * ((i 1).val / 128) + 16, hp⟩)).set
  rw [View.set_slice_whole, Rect.mem_set_unit]
  intro a
  match a with
  | ⟨0, _⟩ =>
    show win0_8.index ⟨17 * ((i 1).val / 128) + 16, hp⟩ (0 : Fin 2) * 2176 ≤ (i 0).val ∧ (i 0).val < win0_8.index ⟨17 * ((i 1).val / 128) + 16, hp⟩ (0 : Fin 2) * 2176 + 2176
    rw [e0]; (try dsimp only); omega
  | ⟨1, _⟩ =>
    show win0_8.index ⟨17 * ((i 1).val / 128) + 16, hp⟩ (1 : Fin 2) * 128 ≤ (i 1).val ∧ (i 1).val < win0_8.index ⟨17 * ((i 1).val / 128) + 16, hp⟩ (1 : Fin 2) * 128 + 128
    rw [e1]; (try dsimp only); omega

variable {m c A} in
theorem final8 (H : ArgsAt m c A) : (dat m 0 c).arrAt 8 cfg0.N = end8 c A :=
  (dat m 0 c).arrAt_eq_of_cover 8 _ (fun t hf => flushed8 H t hf) (fun i => covered8 i)

/-! ## dk -/

theorem out9_at (t : Fin cfg0.N) : win0_9.index t (0 : Fin 2) = t.val % 17 ∧ win0_9.index t (1 : Fin 2) = t.val / 17 :=
  (by decide +kernel : ∀ t : Fin grid0.N, win0_9.index t (0 : Fin 2) = t.val % 17 ∧ win0_9.index t (1 : Fin 2) = t.val / 17) t

/-- The array of dk. -/
def end9 : Buf (Elt Ideal) ((c : Thread nD τ).loc main_v53_1) := fun i => ((A.dk (i 0).val (i 1).val : ℝ) : EReal)

variable {m c A} in
theorem flushed9 (H : ArgsAt m c A) (t : Fin cfg0.N) (hf : (cfg0.win 9).flush t = true) :
    (dat m 0 c).flushed 9 t = ((cfg0.win 9).blk t).view.read (Elt Ideal) (end9 c A) := by
  show (cfg0.win 9).cut (grid0.coords t) ((dat m 0 c).after 9 t) = _
  rw [after9]
  have R := after_all m c H t.val t.isLt
  have hN := points t
  obtain ⟨e0, e1⟩ := out9_at t
  funext y
  have hy0 : (y 0).val < 128 := (y 0).isLt
  have hy1 : (y 1).val < 128 := (y 1).isLt
  have e : (cfg0.win 9).xinj (grid0.coords t) y = ix2 ⟨(y 0).val, hy0⟩ ⟨(y 1).val, hy1⟩ := by
    funext a; apply Fin.ext
    match a with
    | ⟨0, _⟩ => rfl
    | ⟨1, _⟩ => rfl
  have b0 : (((cfg0.win 9).blk t).view.emb y 0).val = win0_9.index t (0 : Fin 2) * 128 + 1 * (y 0).val := rfl
  have b1 : (((cfg0.win 9).blk t).view.emb y 1).val = win0_9.index t (1 : Fin 2) * 128 + 1 * (y 1).val := rfl
  show (held m c t.val t.isLt).w9 ((cfg0.win 9).xinj (grid0.coords t) y)
    = ((A.dk (((cfg0.win 9).blk t).view.emb y 0).val (((cfg0.win 9).blk t).view.emb y 1).val : ℝ) : EReal)
  rw [e, b0, b1, e0, e1]
  refine (R.left.dk _ _).trans ?_
  show (((A.pair (t.val / 17)).dk (128 * (t.val % 17) + (y 0).val) (y 1).val : ℝ) : EReal) = _
  rw [A.dk_eq _ _ _ hy1]
  congr 2 <;> omega

theorem covered9 (i : S2176x1024.Idx) : ∃ t : Fin cfg0.N, (cfg0.win 9).flush t = true ∧ i ∈ ((cfg0.win 9).blk t).view.set := by
  have hi0 : (i 0).val < 2176 := (i 0).isLt
  have hi1 : (i 1).val < 1024 := (i 1).isLt
  have hp : 17 * ((i 1).val / 128) + (i 0).val / 128 < cfg0.N := lt_of_lt_of_eq (by omega) N_0.symm
  refine ⟨⟨17 * ((i 1).val / 128) + (i 0).val / 128, hp⟩, flush0_9 _, ?_⟩
  obtain ⟨e0, e1⟩ := out9_at ⟨17 * ((i 1).val / 128) + (i 0).val / 128, hp⟩
  show i ∈ ((View.whole main_v53_1).slice (win0_9.rect ⟨17 * ((i 1).val / 128) + (i 0).val / 128, hp⟩)).set
  rw [View.set_slice_whole, Rect.mem_set_unit]
  intro a
  match a with
  | ⟨0, _⟩ =>
    show win0_9.index ⟨17 * ((i 1).val / 128) + (i 0).val / 128, hp⟩ (0 : Fin 2) * 128 ≤ (i 0).val ∧ (i 0).val < win0_9.index ⟨17 * ((i 1).val / 128) + (i 0).val / 128, hp⟩ (0 : Fin 2) * 128 + 128
    rw [e0]; (try dsimp only); omega
  | ⟨1, _⟩ =>
    show win0_9.index ⟨17 * ((i 1).val / 128) + (i 0).val / 128, hp⟩ (1 : Fin 2) * 128 ≤ (i 1).val ∧ (i 1).val < win0_9.index ⟨17 * ((i 1).val / 128) + (i 0).val / 128, hp⟩ (1 : Fin 2) * 128 + 128
    rw [e1]; (try dsimp only); omega

variable {m c A} in
theorem final9 (H : ArgsAt m c A) : (dat m 0 c).arrAt 9 cfg0.N = end9 c A :=
  (dat m 0 c).arrAt_eq_of_cover 9 _ (fun t hf => flushed9 H t hf) (fun i => covered9 i)

/-! ## dv -/

theorem out10_at (t : Fin cfg0.N) : win0_10.index t (0 : Fin 2) = t.val % 17 ∧ win0_10.index t (1 : Fin 2) = t.val / 17 :=
  (by decide +kernel : ∀ t : Fin grid0.N, win0_10.index t (0 : Fin 2) = t.val % 17 ∧ win0_10.index t (1 : Fin 2) = t.val / 17) t

/-- The array of dv. -/
def end10 : Buf (Elt Ideal) ((c : Thread nD τ).loc main_v53_2) := fun i => ((A.dv (i 0).val (i 1).val : ℝ) : EReal)

variable {m c A} in
theorem flushed10 (H : ArgsAt m c A) (t : Fin cfg0.N) (hf : (cfg0.win 10).flush t = true) :
    (dat m 0 c).flushed 10 t = ((cfg0.win 10).blk t).view.read (Elt Ideal) (end10 c A) := by
  show (cfg0.win 10).cut (grid0.coords t) ((dat m 0 c).after 10 t) = _
  rw [after10]
  have R := after_all m c H t.val t.isLt
  have hN := points t
  obtain ⟨e0, e1⟩ := out10_at t
  funext y
  have hy0 : (y 0).val < 128 := (y 0).isLt
  have hy1 : (y 1).val < 128 := (y 1).isLt
  have e : (cfg0.win 10).xinj (grid0.coords t) y = ix2 ⟨(y 0).val, hy0⟩ ⟨(y 1).val, hy1⟩ := by
    funext a; apply Fin.ext
    match a with
    | ⟨0, _⟩ => rfl
    | ⟨1, _⟩ => rfl
  have b0 : (((cfg0.win 10).blk t).view.emb y 0).val = win0_10.index t (0 : Fin 2) * 128 + 1 * (y 0).val := rfl
  have b1 : (((cfg0.win 10).blk t).view.emb y 1).val = win0_10.index t (1 : Fin 2) * 128 + 1 * (y 1).val := rfl
  show (held m c t.val t.isLt).w10 ((cfg0.win 10).xinj (grid0.coords t) y)
    = ((A.dv (((cfg0.win 10).blk t).view.emb y 0).val (((cfg0.win 10).blk t).view.emb y 1).val : ℝ) : EReal)
  rw [e, b0, b1, e0, e1]
  refine (R.left.dv _ _).trans ?_
  show (((A.pair (t.val / 17)).dv (128 * (t.val % 17) + (y 0).val) (y 1).val : ℝ) : EReal) = _
  rw [A.dv_eq _ _ _ hy1]
  congr 2 <;> omega

theorem covered10 (i : S2176x1024.Idx) : ∃ t : Fin cfg0.N, (cfg0.win 10).flush t = true ∧ i ∈ ((cfg0.win 10).blk t).view.set := by
  have hi0 : (i 0).val < 2176 := (i 0).isLt
  have hi1 : (i 1).val < 1024 := (i 1).isLt
  have hp : 17 * ((i 1).val / 128) + (i 0).val / 128 < cfg0.N := lt_of_lt_of_eq (by omega) N_0.symm
  refine ⟨⟨17 * ((i 1).val / 128) + (i 0).val / 128, hp⟩, flush0_10 _, ?_⟩
  obtain ⟨e0, e1⟩ := out10_at ⟨17 * ((i 1).val / 128) + (i 0).val / 128, hp⟩
  show i ∈ ((View.whole main_v53_2).slice (win0_10.rect ⟨17 * ((i 1).val / 128) + (i 0).val / 128, hp⟩)).set
  rw [View.set_slice_whole, Rect.mem_set_unit]
  intro a
  match a with
  | ⟨0, _⟩ =>
    show win0_10.index ⟨17 * ((i 1).val / 128) + (i 0).val / 128, hp⟩ (0 : Fin 2) * 128 ≤ (i 0).val ∧ (i 0).val < win0_10.index ⟨17 * ((i 1).val / 128) + (i 0).val / 128, hp⟩ (0 : Fin 2) * 128 + 128
    rw [e0]; (try dsimp only); omega
  | ⟨1, _⟩ =>
    show win0_10.index ⟨17 * ((i 1).val / 128) + (i 0).val / 128, hp⟩ (1 : Fin 2) * 128 ≤ (i 1).val ∧ (i 1).val < win0_10.index ⟨17 * ((i 1).val / 128) + (i 0).val / 128, hp⟩ (1 : Fin 2) * 128 + 128
    rw [e1]; (try dsimp only); omega

variable {m c A} in
theorem final10 (H : ArgsAt m c A) : (dat m 0 c).arrAt 10 cfg0.N = end10 c A :=
  (dat m 0 c).arrAt_eq_of_cover 10 _ (fun t hf => flushed10 H t hf) (fun i => covered10 i)

/-! ## dct -/

theorem out11_at (t : Fin cfg0.N) : win0_11.index t (0 : Fin 2) = t.val / 17 ∧ win0_11.index t (1 : Fin 2) = t.val % 17 :=
  (by decide +kernel : ∀ t : Fin grid0.N, win0_11.index t (0 : Fin 2) = t.val / 17 ∧ win0_11.index t (1 : Fin 2) = t.val % 17) t

/-- The array of dct. -/
def end11 : Buf (Elt Ideal) ((c : Thread nD τ).loc main_v53_3) := fun i => ((A.dct (i 0).val (i 1).val : ℝ) : EReal)

variable {m c A} in
theorem flushed11 (H : ArgsAt m c A) (t : Fin cfg0.N) (hf : (cfg0.win 11).flush t = true) :
    (dat m 0 c).flushed 11 t = ((cfg0.win 11).blk t).view.read (Elt Ideal) (end11 c A) := by
  show (cfg0.win 11).cut (grid0.coords t) ((dat m 0 c).after 11 t) = _
  rw [after11]
  have R := after_all m c H t.val t.isLt
  have hN := points t
  obtain ⟨e0, e1⟩ := out11_at t
  funext y
  have hy0 : (y 0).val < 16 := (y 0).isLt
  have hy1 : (y 1).val < 128 := (y 1).isLt
  have e : (cfg0.win 11).xinj (grid0.coords t) y = ix2 ⟨(y 0).val, hy0⟩ ⟨(y 1).val, hy1⟩ := by
    funext a; apply Fin.ext
    match a with
    | ⟨0, _⟩ => rfl
    | ⟨1, _⟩ => rfl
  have b0 : (((cfg0.win 11).blk t).view.emb y 0).val = win0_11.index t (0 : Fin 2) * 16 + 1 * (y 0).val := rfl
  have b1 : (((cfg0.win 11).blk t).view.emb y 1).val = win0_11.index t (1 : Fin 2) * 128 + 1 * (y 1).val := rfl
  show (held m c t.val t.isLt).w11 ((cfg0.win 11).xinj (grid0.coords t) y)
    = ((A.dct (((cfg0.win 11).blk t).view.emb y 0).val (((cfg0.win 11).blk t).view.emb y 1).val : ℝ) : EReal)
  rw [e, b0, b1, e0, e1]
  refine (R.left.dct _ _).trans ?_
  show (((if (y 0).val < 2 then (A.pair (t.val / 17)).dct (y 0).val (128 * (t.val % 17) + (y 1).val) else 0 : ℝ)) : EReal) = _
  rw [A.dct_eq _ _ _ hy0]
  congr 2 <;> omega

theorem covered11 (i : S128x2176.Idx) : ∃ t : Fin cfg0.N, (cfg0.win 11).flush t = true ∧ i ∈ ((cfg0.win 11).blk t).view.set := by
  have hi0 : (i 0).val < 128 := (i 0).isLt
  have hi1 : (i 1).val < 2176 := (i 1).isLt
  have hp : 17 * ((i 0).val / 16) + (i 1).val / 128 < cfg0.N := lt_of_lt_of_eq (by omega) N_0.symm
  refine ⟨⟨17 * ((i 0).val / 16) + (i 1).val / 128, hp⟩, flush0_11 _, ?_⟩
  obtain ⟨e0, e1⟩ := out11_at ⟨17 * ((i 0).val / 16) + (i 1).val / 128, hp⟩
  show i ∈ ((View.whole main_v53_3).slice (win0_11.rect ⟨17 * ((i 0).val / 16) + (i 1).val / 128, hp⟩)).set
  rw [View.set_slice_whole, Rect.mem_set_unit]
  intro a
  match a with
  | ⟨0, _⟩ =>
    show win0_11.index ⟨17 * ((i 0).val / 16) + (i 1).val / 128, hp⟩ (0 : Fin 2) * 16 ≤ (i 0).val ∧ (i 0).val < win0_11.index ⟨17 * ((i 0).val / 16) + (i 1).val / 128, hp⟩ (0 : Fin 2) * 16 + 16
    rw [e0]; (try dsimp only); omega
  | ⟨1, _⟩ =>
    show win0_11.index ⟨17 * ((i 0).val / 16) + (i 1).val / 128, hp⟩ (1 : Fin 2) * 128 ≤ (i 1).val ∧ (i 1).val < win0_11.index ⟨17 * ((i 0).val / 16) + (i 1).val / 128, hp⟩ (1 : Fin 2) * 128 + 128
    rw [e1]; (try dsimp only); omega

variable {m c A} in
theorem final11 (H : ArgsAt m c A) : (dat m 0 c).arrAt 11 cfg0.N = end11 c A :=
  (dat m 0 c).arrAt_eq_of_cover 11 _ (fun t hf => flushed11 H t hf) (fun i => covered11 i)

/-! ## dc -/

theorem out12_at (t : Fin cfg0.N) : win0_12.index t (0 : Fin 2) = 0 ∧ win0_12.index t (1 : Fin 2) = 0 :=
  (by decide +kernel : ∀ t : Fin grid0.N, win0_12.index t (0 : Fin 2) = 0 ∧ win0_12.index t (1 : Fin 2) = 0) t

/-- The array of dc. -/
def end12 : Buf (Elt Ideal) ((c : Thread nD τ).loc main_v53_4) := fun i => ((A.dc (i 0).val (i 1).val : ℝ) : EReal)

variable {m c A} in
theorem flushed12 (H : ArgsAt m c A) (t : Fin cfg0.N) (hf : (cfg0.win 12).flush t = true) :
    (dat m 0 c).flushed 12 t = ((cfg0.win 12).blk t).view.read (Elt Ideal) (end12 c A) := by
  show (cfg0.win 12).cut (grid0.coords t) ((dat m 0 c).after 12 t) = _
  rw [after12]
  have R := after_all m c H t.val t.isLt
  have hN := points t
  obtain ⟨e0, e1⟩ := out12_at t
  funext y
  have hy0 : (y 0).val < 2176 := (y 0).isLt
  have hy1 : (y 1).val < 128 := (y 1).isLt
  have e : (cfg0.win 12).xinj (grid0.coords t) y = ix2 ⟨(y 0).val, hy0⟩ ⟨(y 1).val, hy1⟩ := by
    funext a; apply Fin.ext
    match a with
    | ⟨0, _⟩ => rfl
    | ⟨1, _⟩ => rfl
  have b0 : (((cfg0.win 12).blk t).view.emb y 0).val = win0_12.index t (0 : Fin 2) * 2176 + 1 * (y 0).val := rfl
  have b1 : (((cfg0.win 12).blk t).view.emb y 1).val = win0_12.index t (1 : Fin 2) * 128 + 1 * (y 1).val := rfl
  show (held m c t.val t.isLt).w12 ((cfg0.win 12).xinj (grid0.coords t) y)
    = ((A.dc (((cfg0.win 12).blk t).view.emb y 0).val (((cfg0.win 12).blk t).view.emb y 1).val : ℝ) : EReal)
  rw [e, b0, b1, e0, e1]
  have hm : t.val % 136 = 135 := (flush0_12 t).mp hf
  refine (R.sums _ _).trans ?_
  rw [show (t.val + 1) / 17 = 8 by omega]
  show ((doneSum A 8 (y 0).val (y 1).val : ℝ) : EReal) = _
  rw [doneSum_eq A _ _ hy0 hy1]
  congr 2 <;> omega

theorem covered12 (i : S2176x128.Idx) : ∃ t : Fin cfg0.N, (cfg0.win 12).flush t = true ∧ i ∈ ((cfg0.win 12).blk t).view.set := by
  have hi0 : (i 0).val < 2176 := (i 0).isLt
  have hi1 : (i 1).val < 128 := (i 1).isLt
  have hp : 135 < cfg0.N := lt_of_lt_of_eq (by omega) N_0.symm
  refine ⟨⟨135, hp⟩, (flush0_12 _).mpr (by show 135 % 136 = 135; rfl), ?_⟩
  obtain ⟨e0, e1⟩ := out12_at ⟨135, hp⟩
  show i ∈ ((View.whole main_v53_4).slice (win0_12.rect ⟨135, hp⟩)).set
  rw [View.set_slice_whole, Rect.mem_set_unit]
  intro a
  match a with
  | ⟨0, _⟩ =>
    show win0_12.index ⟨135, hp⟩ (0 : Fin 2) * 2176 ≤ (i 0).val ∧ (i 0).val < win0_12.index ⟨135, hp⟩ (0 : Fin 2) * 2176 + 2176
    rw [e0]; (try dsimp only); omega
  | ⟨1, _⟩ =>
    show win0_12.index ⟨135, hp⟩ (1 : Fin 2) * 128 ≤ (i 1).val ∧ (i 1).val < win0_12.index ⟨135, hp⟩ (1 : Fin 2) * 128 + 128
    rw [e1]; (try dsimp only); omega

variable {m c A} in
theorem final12 (H : ArgsAt m c A) : (dat m 0 c).arrAt 12 cfg0.N = end12 c A :=
  (dat m 0 c).arrAt_eq_of_cover 12 _ (fun t hf => flushed12 H t hf) (fun i => covered12 i)

end Cert.KernelIdeal.Fox

end
-- ==== Proof.RefRead.lean ====
module

public import proofs.«01_k».proof.Proof.Args
public import proofs.«01_k».proof.Proof.Gen.ReferenceIdeal.Read
public import Idealize.ShloMosaic.Lib.Pointwise

@[expose] public section

/-! The reference's operations read at an index. -/

set_option maxRecDepth 16384

noncomputable section

namespace Cert.ReferenceIdeal.Fox

open Idealize.ShloMosaic Idealize.SL.Sem Cert.ReferenceIdeal Cert.ReferenceIdeal.Gen Idealize.ShloMosaic.TcCoe Cert.ReferenceIdeal.Read
open scoped BigOperators

variable (x0 x1 x2 : FVec Ideal S2176x1024 .bf16) (x3 : FVec Ideal S2176x128 .f32) (x4 : FVec Ideal S128x2176 .f32) (x5 : FVec Ideal S2176x1024 .f32)

theorem scores_eq : val_main_v31_0 (F := Ideal) x0 x1 x3 x4 = Cert.KernelIdeal.Fox.scoresT x0 x1 x3 x4 := rfl

theorem mask_eq (h : Fin 16) (r x : Fin 2064) : val_main_v31_1 (F := Ideal) (ix3 h r x) = IntOp.cmpi .sle (BitVec.ofNat 32 x.val) (BitVec.ofNat 32 r.val) := by
  pointwise [val_main_v31_1, val_main_v25, val_main_v26, val_main_v27, val_main_v28, val_main_v29, val_main_v30]

theorem max_at (h : Fin 16) (r : Fin 2064) : val_main_v32 (F := Ideal) x0 x1 x3 x4 (ix2 h r) = Finset.fold max (Ideal.ofBits FTy.f32 4286578688#32) (fun x => val_main_v31_0 (F := Ideal) x0 x1 x3 x4 (ix3 h r x)) Finset.univ := by
  pointwise [val_main_v32, val_main_cst_0]

theorem exp_at (h : Fin 16) (r x : Fin 2064) : val_main_v52 (F := Ideal) x0 x1 x3 x4 (ix3 h r x) = Ideal.exp (val_main_v31_0 (F := Ideal) x0 x1 x3 x4 (ix3 h r x) - val_main_v39 (F := Ideal) x0 x1 x3 x4 (ix2 h r)) := by
  pointwise [val_main_v52, val_main_v51, val_main_v50, val_main_v49]

theorem sum_at (h : Fin 16) (r : Fin 2064) (z : Fin 1) : val_main_v54 (F := Ideal) x0 x1 x3 x4 (ix3 h r z) = ∑ x, val_main_v52 (F := Ideal) x0 x1 x3 x4 (ix3 h r x) := by
  pointwise [val_main_v54, val_main_v53, val_main_cst_8]

theorem soft_at (h : Fin 16) (r x : Fin 2064) : val_main_v56 (F := Ideal) x0 x1 x3 x4 (ix3 h r x) = Ideal.div (val_main_v52 (F := Ideal) x0 x1 x3 x4 (ix3 h r x)) (val_main_v54 (F := Ideal) x0 x1 x3 x4 (ix3 h r 0)) := by
  pointwise [val_main_v56, val_main_v55]

theorem inv_at (h : Fin 16) (r : Fin 2064) (z : Fin 1) : val_main_v59 (F := Ideal) x0 x1 x3 x4 (ix3 h r z) = Ideal.div 1 (val_main_v54 (F := Ideal) x0 x1 x3 x4 (ix3 h r z) * val_main_v54 (F := Ideal) x0 x1 x3 x4 (ix3 h r z)) := by
  pointwise [val_main_v59, val_main_v58, val_main_v57, val_main_cst_9]

theorem dot_at (h : Fin 16) (r x : Fin 2064) : val_main_v68 (F := Ideal) x2 x5 (ix3 h r x) = ∑ l : Fin 64, x5 (ix2 ⟨112 + r.val, by omega⟩ ⟨h.val * 64 + l.val, by omega⟩) * x2 (ix2 ⟨112 + x.val, by omega⟩ ⟨h.val * 64 + l.val, by omega⟩) := by
  pointwise [val_main_v68, val_main_v67, val_main_v66, val_main_v65, val_main_v61, val_main_v60, val_main_v2]

theorem dv_at (y : Fin 2176) (l : Fin 1024) : val_main_v72 (F := Ideal) x0 x1 x3 x4 x5 (ix2 y l) = if h : (112 ≤ y.val ∧ y.val - 112 < 2064) ∧ l.val / 64 < 16 ∧ l.val % 64 < 64 then ∑ x : Fin 2064, x5 (ix2 ⟨112 + x.val, by omega⟩ l) * val_main_v56 (F := Ideal) x0 x1 x3 x4 (ix3 ⟨l.val / 64, h.2.1⟩ x ⟨y.val - 112, h.1.2⟩) else 0 := by
  pointwise [val_main_v72, val_main_v71, val_main_v70, val_main_v69, val_main_v67, val_main_v66, val_main_v65, val_main_cst_10]

theorem corr_at (h : Fin 16) (r : Fin 2064) : val_main_v76 (F := Ideal) x0 x1 x2 x3 x4 x5 (ix2 h r) = ∑ x, val_main_v68 (F := Ideal) x2 x5 (ix3 h r x) * val_main_v59 (F := Ideal) x0 x1 x3 x4 (ix3 h r 0) * val_main_v52 (F := Ideal) x0 x1 x3 x4 (ix3 h r x) := by
  pointwise [val_main_v76, val_main_v75, val_main_v74, val_main_v73, val_main_cst_11]

theorem ds_at (h : Fin 16) (r x : Fin 2064) : val_main_v85 (F := Ideal) x0 x1 x2 x3 x4 x5 (ix3 h r x) = Scalar.select (val_main_v31_1 (F := Ideal)  (ix3 h r x)) ((Ideal.div (val_main_v68 (F := Ideal) x2 x5 (ix3 h r x)) (val_main_v54 (F := Ideal) x0 x1 x3 x4 (ix3 h r 0)) + ∑ _x : Fin 1, -val_main_v76 (F := Ideal) x0 x1 x2 x3 x4 x5 (ix2 h r)) * val_main_v52 (F := Ideal) x0 x1 x3 x4 (ix3 h r x)) 0 := by
  pointwise [val_main_v85, val_main_v84, val_main_v83, val_main_v82, val_main_v81, val_main_v80, val_main_v79, val_main_v78, val_main_v77, val_main_cst_12, val_main_call1_v0, val_main_call1_cst]

theorem dct_at (a : Fin 128) (y : Fin 2176) : val_main_v95 (F := Ideal) x0 x1 x2 x3 x4 x5 (ix2 a y) = if h : a.val / 16 < 8 ∧ a.val % 16 < 2 then if h' : (112 ≤ y.val ∧ y.val - 112 < 2064) ∧ a.val / 16 * 2 + a.val % 16 < 16 then ∑ _z : Fin 1, ∑ x : Fin 2064, -val_main_v85 (F := Ideal) x0 x1 x2 x3 x4 x5 (ix3 ⟨a.val / 16 * 2 + a.val % 16, h'.2⟩ x ⟨y.val - 112, h'.1.2⟩) else 0 else 0 := by
  pointwise [val_main_v95, val_main_v94, val_main_v93, val_main_v92, val_main_v91, val_main_v90, val_main_v89, val_main_v88, val_main_v87, val_main_v86, val_main_cst_13, val_main_cst_14, val_main_cst_15, val_main_cst_16]

theorem dc_at (r : Fin 2176) (a : Fin 128) : val_main_v103 (F := Ideal) x0 x1 x2 x3 x4 x5 (ix2 r a) = if h : a.val / 16 < 8 ∧ a.val % 16 < 2 then if h' : (112 ≤ r.val ∧ r.val - 112 < 2064) ∧ a.val / 16 * 2 + a.val % 16 < 16 then ∑ _z : Fin 1, ∑ x : Fin 2064, val_main_v85 (F := Ideal) x0 x1 x2 x3 x4 x5 (ix3 ⟨a.val / 16 * 2 + a.val % 16, h'.2⟩ ⟨r.val - 112, h'.1.2⟩ x) else 0 else 0 := by
  pointwise [val_main_v103, val_main_v102, val_main_v101, val_main_v100, val_main_v99, val_main_v98, val_main_v97, val_main_v96, val_main_cst_17, val_main_cst_18, val_main_cst_19, val_main_cst_20]

theorem dk_at (y : Fin 2176) (l : Fin 1024) : val_main_v109 (F := Ideal) x0 x1 x2 x3 x4 x5 (ix2 y l) = if h : (112 ≤ y.val ∧ y.val - 112 < 2064) ∧ l.val / 64 < 16 ∧ l.val % 64 < 64 then ∑ x : Fin 2064, val_main_v85 (F := Ideal) x0 x1 x2 x3 x4 x5 (ix3 ⟨l.val / 64, h.2.1⟩ x ⟨y.val - 112, h.1.2⟩) * x0 (ix2 ⟨112 + x.val, by omega⟩ l) else 0 := by
  pointwise [val_main_v109, val_main_v108, val_main_v105, val_main_v104, val_main_v4, val_main_v3, val_main_v0, val_main_cst_21]

theorem dq_at (r : Fin 2176) (l : Fin 1024) : val_main_v111 (F := Ideal) x0 x1 x2 x3 x4 x5 (ix2 r l) = if h : (112 ≤ r.val ∧ r.val - 112 < 2064) ∧ l.val / 64 < 16 ∧ l.val % 64 < 64 then ∑ x : Fin 2064, val_main_v85 (F := Ideal) x0 x1 x2 x3 x4 x5 (ix3 ⟨l.val / 64, h.2.1⟩ ⟨r.val - 112, h.1.2⟩ x) * x1 (ix2 ⟨112 + x.val, by omega⟩ l) else 0 := by
  pointwise [val_main_v111, val_main_v110, val_main_v107, val_main_v106, val_main_v6, val_main_v5, val_main_v1, val_main_cst_22]

/-- The maximum taken once more with minus infinity. -/
theorem max_again (h : Fin 16) (r : Fin 2064) : val_main_v39 (F := Ideal) x0 x1 x3 x4 (ix2 h r) = max (Ideal.ofBits FTy.f32 4286578688#32) (val_main_v32 (F := Ideal) x0 x1 x3 x4 (ix2 h r)) := by
  rw [val_main_v39_apply, val_main_v38_apply]; rfl

end Cert.ReferenceIdeal.Fox

end
-- ==== Proof.RefReal.lean ====
module

public import proofs.«01_k».proof.Proof.RefRead

@[expose] public section

/-! The reference's results over the reals. -/

set_option maxRecDepth 16384

noncomputable section

namespace Cert.ReferenceIdeal.Fox

open Idealize.ShloMosaic Idealize.SL.Sem Cert.ReferenceIdeal Cert.ReferenceIdeal.Gen Idealize.ShloMosaic.TcCoe Cert.ReferenceIdeal.Read
open Cert.KernelIdeal.Fox Cert.Fox
open scoped BigOperators

/-- A row's unnormalised weights and their sum, with the row's maximum taken out. -/
abbrev wt (A : Whole) (h : ℕ) (r : Fin 2064) (μ : ℝ) (x : Fin 2064) : ℝ := if x.val ≤ r.val then Real.exp (A.sc h (112 + r.val) (112 + x.val) - μ) else 0
abbrev tot (A : Whole) (h : ℕ) (r : Fin 2064) (μ : ℝ) : ℝ := rowSum r (fun x => A.sc h (112 + r.val) (112 + x.val)) μ

theorem P_wt (A : Whole) (h : ℕ) (r x : Fin 2064) (μ : ℝ) : wt A h r μ x * (1 / tot A h r μ) = A.P h (112 + r.val) (112 + x.val) :=
  (soft_real (a := fun x => A.sc h (112 + r.val) (112 + x.val)) μ x).trans (A.soft_eq h r x)

/-- The logit's gradient as the reference forms it. -/
theorem dS_wt (A : Whole) (h : ℕ) (r x : Fin 2064) (μ : ℝ) :
    (if x.val ≤ r.val then
      (A.D h (112 + r.val) (112 + x.val) * (1 / tot A h r μ)
        + -(∑ y : Fin 2064, A.D h (112 + r.val) (112 + y.val) * (1 / (tot A h r μ * tot A h r μ)) * wt A h r μ y)) * wt A h r μ x else 0)
      = A.dS h (112 + r.val) (112 + x.val) := by
  unfold Whole.dS
  rw [sum_filled _ (fun y hy => by rw [A.P_low_key hy, zero_mul])]
  have e : ∑ y : Fin 2064, A.D h (112 + r.val) (112 + y.val) * (1 / (tot A h r μ * tot A h r μ)) * wt A h r μ y
      = 1 / tot A h r μ * ∑ y : Fin 2064, A.P h (112 + r.val) (112 + y.val) * A.D h (112 + r.val) (112 + y.val) := by
    rw [Finset.mul_sum]
    refine Finset.sum_congr rfl fun y _ => ?_
    rw [← P_wt A h r y μ, ← one_div_mul_one_div]; ring
  rw [e, ← P_wt A h r x μ]
  by_cases hx : x.val ≤ r.val
  · rw [if_pos hx]; ring
  · have z : wt A h r μ x = 0 := if_neg hx
    rw [if_neg hx, z]; ring

section
variable {A : Whole} {x0 x1 x2 : FVec Ideal S2176x1024 .bf16} {x3 : FVec Ideal S2176x128 .f32} {x4 : FVec Ideal S128x2176 .f32}
  {x5 : FVec Ideal S2176x1024 .f32} (H : Args A x0 x1 x2 x3 x4 x5)
include H

/-- A row's weights and their sum. -/
theorem row_vals (h : Fin 16) (r : Fin 2064) : ∃ μ : ℝ,
    (∀ x, val_main_v52 (F := Ideal) x0 x1 x3 x4 (ix3 h r x) = ((wt A h.val r μ x : ℝ) : EReal))
      ∧ (∀ z, val_main_v54 (F := Ideal) x0 x1 x3 x4 (ix3 h r z) = ((tot A h.val r μ : ℝ) : EReal)) := by
  obtain ⟨μ, hμ⟩ := (H.row h r).max
  have e : ∀ x, val_main_v52 (F := Ideal) x0 x1 x3 x4 (ix3 h r x) = ((wt A h.val r μ x : ℝ) : EReal) := by
    intro x
    rw [exp_at, max_again, max_at, ofBits_neg_inf, scores_eq]
    have e2 := (H.row h r).exp μ x
    rw [← hμ] at e2
    rw [max_eq_right bot_le]
    exact e2
  refine ⟨μ, e, fun z => ?_⟩
  rw [sum_at]
  simp only [e]
  rw [← Cert.Fox.coe_sum]; rfl

theorem soft_val (h : Fin 16) (r x : Fin 2064) :
    val_main_v56 (F := Ideal) x0 x1 x3 x4 (ix3 h r x) = ((A.P h.val (112 + r.val) (112 + x.val) : ℝ) : EReal) := by
  obtain ⟨μ, e, s⟩ := row_vals H h r
  rw [soft_at, e, s, Ideal.div_coe (rowSum_pos μ).ne', ← EReal.coe_mul, P_wt]

theorem dot_val (h : Fin 16) (r x : Fin 2064) :
    val_main_v68 (F := Ideal) x2 x5 (ix3 h r x) = ((A.D h.val (112 + r.val) (112 + x.val) : ℝ) : EReal) := by
  rw [dot_at]
  unfold Whole.D
  rw [Cert.Fox.coe_sum]
  refine Finset.sum_congr rfl fun l _ => ?_
  rw [H.d, H.v, ← EReal.coe_mul]
  simp only [Nat.mul_comm 64]

theorem ds_val (h : Fin 16) (r x : Fin 2064) :
    val_main_v85 (F := Ideal) x0 x1 x2 x3 x4 x5 (ix3 h r x) = ((A.dS h.val (112 + r.val) (112 + x.val) : ℝ) : EReal) := by
  obtain ⟨μ, e, s⟩ := row_vals H h r
  have hs := (rowSum_pos (r := r) (a := fun x => A.sc h.val (112 + r.val) (112 + x.val)) μ).ne'
  have c : val_main_v76 (F := Ideal) x0 x1 x2 x3 x4 x5 (ix2 h r)
      = ((∑ y : Fin 2064, A.D h.val (112 + r.val) (112 + y.val) * (1 / (tot A h.val r μ * tot A h.val r μ)) * wt A h.val r μ y : ℝ) : EReal) := by
    rw [corr_at, Cert.Fox.coe_sum]
    refine Finset.sum_congr rfl fun y _ => ?_
    rw [dot_val H, inv_at, s, e, ← EReal.coe_mul, Ideal.div_coe (mul_ne_zero hs hs), one_mul, ← EReal.coe_mul, ← EReal.coe_mul]
  rw [ds_at, mask_eq, seen_eq _ _ r.isLt x.isLt, dot_val H, s, e, c, Ideal.div_coe hs, Fin.sum_univ_one, ← EReal.coe_neg, ← EReal.coe_mul, ← EReal.coe_add,
    ← EReal.coe_mul, ← dS_wt A h.val r x μ]
  by_cases hx : x.val ≤ r.val
  · rw [if_pos hx, if_pos hx]
  · rw [if_neg hx, if_neg hx]; rfl

theorem dv_val (y : Fin 2176) (l : Fin 1024) : val_main_v72 (F := Ideal) x0 x1 x3 x4 x5 (ix2 y l) = ((A.dv y.val l.val : ℝ) : EReal) := by
  rw [dv_at]
  unfold Whole.dv
  by_cases hy : 112 ≤ y.val
  · rw [dif_pos ⟨⟨hy, by omega⟩, by omega, by omega⟩, sum_filled _ (fun r hr => by rw [A.P_low hr, zero_mul]), Cert.Fox.coe_sum]
    refine Finset.sum_congr rfl fun r _ => ?_
    rw [H.d, soft_val H, ← EReal.coe_mul, mul_comm]
    simp only [Nat.add_sub_cancel' hy]
  · rw [dif_neg (fun h => hy h.1.1), Finset.sum_eq_zero (fun r _ => by rw [A.P_low_key (by omega), zero_mul])]; rfl

theorem dk_val (y : Fin 2176) (l : Fin 1024) : val_main_v109 (F := Ideal) x0 x1 x2 x3 x4 x5 (ix2 y l) = ((A.dk y.val l.val : ℝ) : EReal) := by
  rw [dk_at]
  unfold Whole.dk
  by_cases hy : 112 ≤ y.val
  · rw [dif_pos ⟨⟨hy, by omega⟩, by omega, by omega⟩, sum_filled _ (fun r hr => by rw [A.dS_low hr, zero_mul]), Cert.Fox.coe_sum]
    refine Finset.sum_congr rfl fun r _ => ?_
    rw [H.q, ds_val H, ← EReal.coe_mul]
    simp only [Nat.add_sub_cancel' hy]
  · rw [dif_neg (fun h => hy h.1.1), Finset.sum_eq_zero (fun r _ => by rw [A.dS_low_key (by omega), zero_mul])]; rfl

theorem dq_val (r : Fin 2176) (l : Fin 1024) : val_main_v111 (F := Ideal) x0 x1 x2 x3 x4 x5 (ix2 r l) = ((A.dq r.val l.val : ℝ) : EReal) := by
  rw [dq_at]
  unfold Whole.dq
  by_cases hr : 112 ≤ r.val
  · rw [dif_pos ⟨⟨hr, by omega⟩, by omega, by omega⟩, sum_filled _ (fun x hx => by rw [A.dS_low_key hx, zero_mul]), Cert.Fox.coe_sum]
    refine Finset.sum_congr rfl fun x _ => ?_
    rw [H.k, ds_val H, ← EReal.coe_mul]
    simp only [Nat.add_sub_cancel' hr]
  · rw [dif_neg (fun h => hr h.1.1), Finset.sum_eq_zero (fun x _ => by rw [A.dS_low (by omega), zero_mul])]; rfl

theorem dct_val (a : Fin 128) (y : Fin 2176) : val_main_v95 (F := Ideal) x0 x1 x2 x3 x4 x5 (ix2 a y) = ((A.dct a.val y.val : ℝ) : EReal) := by
  rw [dct_at]
  unfold Whole.dct
  by_cases ha : a.val % 16 < 2
  · rw [dif_pos ⟨by omega, ha⟩, if_pos ha]
    by_cases hy : 112 ≤ y.val
    · rw [dif_pos ⟨⟨hy, by omega⟩, by omega⟩, sum_filled _ (fun r hr => A.dS_low hr), Fin.sum_univ_one, ← Finset.sum_neg_distrib, Cert.Fox.coe_sum]
      refine Finset.sum_congr rfl fun r _ => ?_
      rw [ds_val H, ← EReal.coe_neg]
      simp only [Nat.add_sub_cancel' hy, Nat.mul_comm 2]
    · rw [dif_neg (fun h => hy h.1.1), Finset.sum_eq_zero (fun r _ => A.dS_low_key (by omega)), neg_zero]; rfl
  · rw [dif_neg (fun h => ha h.2), if_neg ha]; rfl

theorem dc_val (r : Fin 2176) (a : Fin 128) : val_main_v103 (F := Ideal) x0 x1 x2 x3 x4 x5 (ix2 r a) = ((A.dc r.val a.val : ℝ) : EReal) := by
  rw [dc_at]
  unfold Whole.dc
  by_cases ha : a.val % 16 < 2
  · rw [dif_pos ⟨by omega, ha⟩, if_pos ha]
    by_cases hr : 112 ≤ r.val
    · rw [dif_pos ⟨⟨hr, by omega⟩, by omega⟩, sum_filled _ (fun x hx => A.dS_low_key hx), Fin.sum_univ_one, Cert.Fox.coe_sum]
      refine Finset.sum_congr rfl fun x _ => ?_
      rw [ds_val H]
      simp only [Nat.add_sub_cancel' hr, Nat.mul_comm 2]
    · rw [dif_neg (fun h => hr h.1.1), Finset.sum_eq_zero (fun x _ => A.dS_low (by omega))]; rfl
  · rw [dif_neg (fun h => ha h.2), if_neg ha]; rfl

end

end Cert.ReferenceIdeal.Fox

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.SameTable
public import proofs.«01_k».proof.Proof.Weights
public import proofs.«01_k».proof.Proof.Down
public import proofs.«01_k».proof.Proof.Inner
public import proofs.«01_k».proof.Proof.Up
public import proofs.«01_k».proof.Proof.Output
public import proofs.«01_k».proof.Proof.SameMain
public import proofs.«01_k».proof.Proof.Finite
public import proofs.«01_k».proof.Proof.Final
public import proofs.«01_k».proof.Proof.RefReal
public import Idealize.ShloMosaic.Adequacy
public import Idealize.ShloMosaic.Init

@[expose] public section

set_option maxRecDepth 16384

noncomputable section

namespace Cert.Proof

open Idealize.ShloMosaic Idealize.SL.Sem Idealize.ShloMosaic.TcCoe Cert.Fox

/-! ## The frames -/

set_option maxHeartbeats 4000000 in
theorem frame_kernel : Cert.quiescent_Kernel := fun m ρ _ => by
  rw [same_defs, same_main]
  exact Cert.KernelIdeal.Fox.quiet (F := Bits) m ρ

theorem frame_ideal : Cert.quiescent_KernelIdeal := fun m ρ _ => Cert.KernelIdeal.Fox.quiet (F := Ideal) m ρ

theorem frame_ideal_finite [Cert.Pre_finite.Facts] : Cert.quiescent_KernelIdeal_pre_finite := fun m ρ _ =>
  Cert.KernelIdeal.Fox.quiet (F := Ideal) m ρ

/-- The reference keeps its arguments; it has no semaphores. -/
theorem frame_reference : Cert.quiescent_ReferenceIdeal := fun m ρ _ =>
  (θ_run Cert.ReferenceIdeal.defs _ _).mono
    (fun r h => ⟨fun c => ⟨(h c).2.2.2.2.2.1, (h c).2.2.2.2.2.2.1, (h c).2.2.2.2.2.2.2.1, (h c).2.2.2.2.2.2.2.2.1, (h c).2.2.2.2.2.2.2.2.2.1,
      (h c).2.2.2.2.2.2.2.2.2.2⟩, sem_eq_zero_of_no_sems (by decide) r.2⟩)
    (Cert.ReferenceIdeal.Value.run (F := Ideal) m ρ)

theorem frame_reference_finite [Cert.Pre_finite.Facts] : Cert.quiescent_ReferenceIdeal_pre_finite := fun m ρ _ => frame_reference m ρ trivial

/-! ## The values -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree on one device. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} {A : Cert.KernelIdeal.Fox.Whole} (S : Same m m' c) (H : Cert.KernelIdeal.Fox.ArgsAt m c A)
include S H

/-- The reference's gradient: the queries'. -/
theorem ref_dq : Cert.ReferenceIdeal.Value.res_main_v111 (F := Ideal) m' c = Cert.KernelIdeal.Fox.end8 c A := by
  obtain ⟨s0, s1, s2, s3, s4, s5⟩ := S
  rw [Cert.ReferenceIdeal.Read.val_main_v111_eq, s0, s1, s2, s3, s4, s5]
  funext i
  rw [eq_ix2 i]
  exact Cert.ReferenceIdeal.Fox.dq_val H (i 0) (i 1)

/-- The reference's gradient: the keys'. -/
theorem ref_dk : Cert.ReferenceIdeal.Value.res_main_v109 (F := Ideal) m' c = Cert.KernelIdeal.Fox.end9 c A := by
  obtain ⟨s0, s1, s2, s3, s4, s5⟩ := S
  rw [Cert.ReferenceIdeal.Read.val_main_v109_eq, s0, s1, s2, s3, s4, s5]
  funext i
  rw [eq_ix2 i]
  exact Cert.ReferenceIdeal.Fox.dk_val H (i 0) (i 1)

/-- The reference's gradient: the values'. -/
theorem ref_dv : Cert.ReferenceIdeal.Value.res_main_v72 (F := Ideal) m' c = Cert.KernelIdeal.Fox.end10 c A := by
  obtain ⟨s0, s1, s2, s3, s4, s5⟩ := S
  rw [Cert.ReferenceIdeal.Read.val_main_v72_eq, s0, s1, s3, s4, s5]
  funext i
  rw [eq_ix2 i]
  exact Cert.ReferenceIdeal.Fox.dv_val H (i 0) (i 1)

/-- The reference's gradient: the keys' decay's. -/
theorem ref_dct : Cert.ReferenceIdeal.Value.res_main_v95 (F := Ideal) m' c = Cert.KernelIdeal.Fox.end11 c A := by
  obtain ⟨s0, s1, s2, s3, s4, s5⟩ := S
  rw [Cert.ReferenceIdeal.Read.val_main_v95_eq, s0, s1, s2, s3, s4, s5]
  funext i
  rw [eq_ix2 i]
  exact Cert.ReferenceIdeal.Fox.dct_val H (i 0) (i 1)

/-- The reference's gradient: the queries' decay's. -/
theorem ref_dc : Cert.ReferenceIdeal.Value.res_main_v103 (F := Ideal) m' c = Cert.KernelIdeal.Fox.end12 c A := by
  obtain ⟨s0, s1, s2, s3, s4, s5⟩ := S
  rw [Cert.ReferenceIdeal.Read.val_main_v103_eq, s0, s1, s2, s3, s4, s5]
  funext i
  rw [eq_ix2 i]
  exact Cert.ReferenceIdeal.Fox.dc_val H (i 0) (i 1)

end

theorem values [Cert.Pre_finite.Facts] : Cert.algebraic_KernelIdeal_ReferenceIdeal_pre_finite := fun m ρ m' ρ' hp hs => by
  have H := fun c => Cert.KernelIdeal.Fox.args_reals m c hp
  refine ⟨fun c => Cert.KernelIdeal.Fox.end8 c (Cert.KernelIdeal.Fox.reals m c), fun c => Cert.KernelIdeal.Fox.end9 c (Cert.KernelIdeal.Fox.reals m c),
    fun c => Cert.KernelIdeal.Fox.end10 c (Cert.KernelIdeal.Fox.reals m c), fun c => Cert.KernelIdeal.Fox.end11 c (Cert.KernelIdeal.Fox.reals m c),
    fun c => Cert.KernelIdeal.Fox.end12 c (Cert.KernelIdeal.Fox.reals m c), ?_, ?_⟩
  · exact (θ_run Cert.KernelIdeal.defs _ _).mono
      (fun r h c => ⟨((h.1 c).1 8).trans (Cert.KernelIdeal.Fox.final8 (H c)), ((h.1 c).1 9).trans (Cert.KernelIdeal.Fox.final9 (H c)),
        ((h.1 c).1 10).trans (Cert.KernelIdeal.Fox.final10 (H c)), ((h.1 c).1 11).trans (Cert.KernelIdeal.Fox.final11 (H c)),
        ((h.1 c).1 12).trans (Cert.KernelIdeal.Fox.final12 (H c)), h.2.1 c⟩)
      (θ_run_and (Cert.KernelIdeal.Fox.run_all (F := Ideal) m ρ) (Cert.KernelIdeal.Fox.quiet (F := Ideal) m ρ))
  · exact (θ_run Cert.ReferenceIdeal.defs _ _).mono
      (fun r h c => ⟨(h c).1.trans (ref_dq (hs c) (H c)), (h c).2.1.trans (ref_dk (hs c) (H c)), (h c).2.2.1.trans (ref_dv (hs c) (H c)),
        (h c).2.2.2.1.trans (ref_dct (hs c) (H c)), (h c).2.2.2.2.1.trans (ref_dc (hs c) (H c)), (h c).2.2.2.2.2⟩)
      (Cert.ReferenceIdeal.Value.run (F := Ideal) m' ρ')

/-! ## The feed-forward network's products -/

theorem frame_kernel2 : Cert.quiescent_Kernel2 := fun m ρ _ => Cert.Kernel2.Gen.frame (F := Bits) m ρ
theorem frame_ideal2 : Cert.quiescent_Kernel2Ideal := fun m ρ _ => Cert.Kernel2Ideal.Gen.frame (F := Ideal) m ρ
theorem frame_kernel4 : Cert.quiescent_Kernel4 := fun m ρ _ => Cert.Kernel4.Gen.frame (F := Bits) m ρ
theorem frame_ideal4 : Cert.quiescent_Kernel4Ideal := fun m ρ _ => Cert.Kernel4Ideal.Gen.frame (F := Ideal) m ρ
theorem frame_kernel5 : Cert.quiescent_Kernel5 := fun m ρ _ => Cert.Kernel5.Gen.frame (F := Bits) m ρ
theorem frame_ideal5 : Cert.quiescent_Kernel5Ideal := fun m ρ _ => Cert.Kernel5Ideal.Gen.frame (F := Ideal) m ρ
theorem frame_kernel6 : Cert.quiescent_Kernel6 := fun m ρ _ => Cert.Kernel6.Gen.frame (F := Bits) m ρ
theorem frame_ideal6 : Cert.quiescent_Kernel6Ideal := fun m ρ _ => Cert.Kernel6Ideal.Gen.frame (F := Ideal) m ρ
theorem frame_kernel7 : Cert.quiescent_Kernel7 := fun m ρ _ => Cert.Kernel7.Gen.frame (F := Bits) m ρ
theorem frame_ideal7 : Cert.quiescent_Kernel7Ideal := fun m ρ _ => Cert.Kernel7Ideal.Gen.frame (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem values2 : Cert.algebraic_Kernel2Ideal_Reference2Ideal := fun m ρ m' ρ' _ hs =>
  ⟨fun c => Cert.Kernel2Ideal.Weights.last m c,
    (θ_run Cert.Kernel2Ideal.defs _ _).mono (fun r h c => ⟨(h c).1.trans (Cert.Kernel2Ideal.Weights.final m c), (h c).2⟩)
      (Cert.Kernel2Ideal.Value.run_blocks (F := Ideal) m ρ),
    (θ_run Cert.Reference2Ideal.defs _ _).mono
      (fun r h c => ⟨(h c).1.trans (by
        obtain ⟨s0, s1⟩ := hs c
        rw [Cert.Reference2Ideal.Read.val_main_v8_eq, s0, s1]
        exact Cert.Kernel2Ideal.Weights.ref _ _), (h c).2⟩)
      (Cert.Reference2Ideal.Value.run (F := Ideal) m' ρ')⟩

theorem values4 : Cert.algebraic_Kernel4Ideal_Reference4Ideal := fun m ρ m' ρ' _ hs =>
  ⟨fun c => Cert.Kernel4Ideal.Down.last m c,
    (θ_run Cert.Kernel4Ideal.defs _ _).mono (fun r h c => ⟨(h c).1.trans (Cert.Kernel4Ideal.Down.final m c), (h c).2⟩)
      (Cert.Kernel4Ideal.Value.run_blocks (F := Ideal) m ρ),
    (θ_run Cert.Reference4Ideal.defs _ _).mono
      (fun r h c => ⟨(h c).1.trans (by
        obtain ⟨s0, s1⟩ := hs c
        rw [Cert.Reference4Ideal.Read.val_main_v10_eq, s0, s1]
        exact Cert.Kernel4Ideal.Down.ref _ _), (h c).2⟩)
      (Cert.Reference4Ideal.Value.run (F := Ideal) m' ρ')⟩

theorem values5 : Cert.algebraic_Kernel5Ideal_Reference5Ideal := fun m ρ m' ρ' _ hs =>
  ⟨fun c => Cert.Kernel5Ideal.Inner.last m c,
    (θ_run Cert.Kernel5Ideal.defs _ _).mono (fun r h c => ⟨(h c).1.trans (Cert.Kernel5Ideal.Inner.final m c), (h c).2⟩)
      (Cert.Kernel5Ideal.Value.run_blocks (F := Ideal) m ρ),
    (θ_run Cert.Reference5Ideal.defs _ _).mono
      (fun r h c => ⟨(h c).1.trans (by
        obtain ⟨s0, s1, s2, s3⟩ := hs c
        rw [Cert.Reference5Ideal.Read.val_main_v11_eq, s0, s1, s2, s3]
        exact Cert.Kernel5Ideal.Inner.ref _ _ _ _), (h c).2⟩)
      (Cert.Reference5Ideal.Value.run (F := Ideal) m' ρ')⟩

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem values6 : Cert.algebraic_Kernel6Ideal_Reference6Ideal := fun m ρ m' ρ' _ hs =>
  ⟨fun c => Cert.Kernel6Ideal.Up.last3 m c, fun c => Cert.Kernel6Ideal.Up.last4 m c, fun c => Cert.Kernel6Ideal.Up.last5 m c,
    (θ_run Cert.Kernel6Ideal.defs _ _).mono
      (fun r h c => ⟨(h c).1.trans (Cert.Kernel6Ideal.Up.final3 m c), (h c).2.1.trans (Cert.Kernel6Ideal.Up.final4 m c),
        (h c).2.2.1.trans (Cert.Kernel6Ideal.Up.final5 m c), (h c).2.2.2⟩)
      (Cert.Kernel6Ideal.Value.run_blocks (F := Ideal) m ρ),
    (θ_run Cert.Reference6Ideal.defs _ _).mono
      (fun r h c => by
        obtain ⟨s0, s1, s2⟩ := hs c
        refine ⟨(h c).1.trans ?_, (h c).2.1.trans ?_, (h c).2.2.1.trans ?_, (h c).2.2.2⟩
        · rw [Cert.Reference6Ideal.Read.val_main_v9_eq, s0, s1]
          exact Cert.Kernel6Ideal.Up.ref3 _ _
        · rw [Cert.Reference6Ideal.Read.val_main_v10_eq, s0, s2]
          exact Cert.Kernel6Ideal.Up.ref4 _ _
        · rw [Cert.Reference6Ideal.Read.val_main_v11_eq, s0, s1, s2]
          exact Cert.Kernel6Ideal.Up.ref5 _ _ _)
      (Cert.Reference6Ideal.Value.run (F := Ideal) m' ρ')⟩

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem values7 : Cert.algebraic_Kernel7Ideal_Reference7Ideal := fun m ρ m' ρ' _ hs =>
  ⟨fun c => Cert.Kernel7Ideal.Output.last m c,
    (θ_run Cert.Kernel7Ideal.defs _ _).mono (fun r h c => ⟨(h c).1.trans (Cert.Kernel7Ideal.Output.final m c), (h c).2⟩)
      (Cert.Kernel7Ideal.Value.run_blocks (F := Ideal) m ρ),
    (θ_run Cert.Reference7Ideal.defs _ _).mono
      (fun r h c => ⟨(h c).1.trans (by
        obtain ⟨s0, s1, s2⟩ := hs c
        rw [Cert.Reference7Ideal.Read.val_main_v5_eq, s0, s1, s2]
        exact Cert.Kernel7Ideal.Output.ref _ _ _), (h c).2⟩)
      (Cert.Reference7Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.facts,
  frame_kernel, frame_ideal, @frame_ideal_finite Cert.Pre_finite.facts, frame_reference, @frame_reference_finite Cert.Pre_finite.facts,
  frame_kernel2, frame_ideal2, frame_reference2, frame_kernel4, frame_ideal4, frame_reference4, frame_kernel5, frame_ideal5, frame_reference5,
  frame_kernel6, frame_ideal6, frame_reference6, frame_kernel7, frame_ideal7, frame_reference7,
  trivial, @values Cert.Pre_finite.facts, trivial, values2, trivial, values4, trivial, values5, trivial, values6, trivial, values7⟩

end Cert.Proof

end
